-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_cut [hPre_clear_cut : Cert.Pre_clear_cut.Facts] (m : (ℓ : Loc Cert.KernelIdeal.nD Cert.KernelIdeal.τ Cert.KernelIdeal.sig) → Buf (Elt Ideal) ℓ) : Prop :=
  ∀ c : Dev Cert.KernelIdeal.nD,
    (Cert.Pre_clear_cut.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_cut [hPre_clear_cut : Cert.Pre_clear_cut.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_cut.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_clear_cut [hKernelIdeal : Cert.KernelIdeal.Facts] [hPre_clear_cut : Cert.Pre_clear_cut.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_cut m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_clear_cut [hReferenceIdeal : Cert.ReferenceIdeal.Facts] [hPre_clear_cut : Cert.Pre_clear_cut.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_cut m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_clear_cut [hKernelIdeal : Cert.KernelIdeal.Facts] [hReferenceIdeal : Cert.ReferenceIdeal.Facts] [hPre_clear_cut : Cert.Pre_clear_cut.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_cut m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v184)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_clear_cut : Cert.Pre_clear_cut.Facts),
    quiescent_Kernel (hKernel := hKernel)
    ∧ quiescent_KernelIdeal (hKernelIdeal := hKernelIdeal)
    ∧ quiescent_KernelIdeal_pre_clear_cut (hKernelIdeal := hKernelIdeal) (hPre_clear_cut := hPre_clear_cut)
    ∧ quiescent_ReferenceIdeal (hReferenceIdeal := hReferenceIdeal)
    ∧ quiescent_ReferenceIdeal_pre_clear_cut (hReferenceIdeal := hReferenceIdeal) (hPre_clear_cut := hPre_clear_cut)
    ∧ preserves_Kernel_KernelIdeal
    ∧ algebraic_KernelIdeal_ReferenceIdeal_pre_clear_cut (hKernelIdeal := hKernelIdeal) (hReferenceIdeal := hReferenceIdeal) (hPre_clear_cut := hPre_clear_cut)
-- ==== Pre_clear_cut.lean ====
abbrev S2x720x64x64 : Shape := ⟨4, ![2, 720, 64, 64]⟩
abbrev S2x36x64x64 : Shape := ⟨4, ![2, 36, 64, 64]⟩
abbrev S2x9x64x64 : Shape := ⟨4, ![2, 9, 64, 64]⟩
abbrev S2x36864x4 : Shape := ⟨3, ![2, 36864, 4]⟩
abbrev S2x9x80x64x64 : Shape := ⟨5, ![2, 9, 80, 64, 64]⟩
abbrev S2x64x64x9x80 : Shape := ⟨5, ![2, 64, 64, 9, 80]⟩
abbrev S2x36864x80 : Shape := ⟨3, ![2, 36864, 80]⟩
abbrev S_ : Shape := ⟨0, ![]⟩
abbrev S2x9x1x64x64 : Shape := ⟨5, ![2, 9, 1, 64, 64]⟩
abbrev S2x64x64x9x1 : Shape := ⟨5, ![2, 64, 64, 9, 1]⟩
abbrev S2x36864x1 : Shape := ⟨3, ![2, 36864, 1]⟩
abbrev S2x36864 : Shape := ⟨2, ![2, 36864]⟩
abbrev S2x2949120 : Shape := ⟨2, ![2, 2949120]⟩
abbrev S2x1001 : Shape := ⟨2, ![2, 1001]⟩
abbrev S2x1 : Shape := ⟨2, ![2, 1]⟩
abbrev S2 : Shape := ⟨1, ![2]⟩

class Facts : Prop where
  shapeCasts_S2x720x64x64_S2x9x80x64x64 : S2x720x64x64.ShapeCasts S2x9x80x64x64
  transposes_S2x9x80x64x64_S2x64x64x9x80_0_3_4_1_2 : S2x9x80x64x64.Transposes [0, 3, 4, 1, 2] S2x64x64x9x80
  shapeCasts_S2x64x64x9x80_S2x36864x80 : S2x64x64x9x80.ShapeCasts S2x36864x80
  bcast_S_S2x36864x80 : S_.BroadcastsInDim S2x36864x80 (![] : Fin 0 → Fin S2x36864x80.rank)
  shapeCasts_S2x9x64x64_S2x9x1x64x64 : S2x9x64x64.ShapeCasts S2x9x1x64x64
  transposes_S2x9x1x64x64_S2x64x64x9x1_0_3_4_1_2 : S2x9x1x64x64.Transposes [0, 3, 4, 1, 2] S2x64x64x9x1
  shapeCasts_S2x64x64x9x1_S2x36864x1 : S2x64x64x9x1.ShapeCasts S2x36864x1
  shapeCasts_S2x36864x1_S2x36864 : S2x36864x1.ShapeCasts S2x36864
  bcast_S_S2x36864 : S_.BroadcastsInDim S2x36864 (![] : Fin 0 → Fin S2x36864.rank)
  bcast_S2x36864_S2x36864x1_0_1 : S2x36864.BroadcastsInDim S2x36864x1 (![0, 1] : Fin 2 → Fin S2x36864x1.rank)
  bcast_S2x36864x1_S2x36864x80_0_1_2 : S2x36864x1.BroadcastsInDim S2x36864x80 (![0, 1, 2] : Fin 3 → Fin S2x36864x80.rank)
  shapeCasts_S2x36864x80_S2x2949120 : S2x36864x80.ShapeCasts S2x2949120
  sliceFits_S2x2949120_S2x1001 : S2x2949120.Slices (fun _ => 0) S2x1001
  slices_S2x1001_S2x1_0_999 : S2x1001.Slices ![0, 999] S2x1
  shapeCasts_S2x1_S2 : S2x1.ShapeCasts S2
  bcast_S_S2 : S_.BroadcastsInDim S2 (![] : Fin 0 → Fin S2.rank)
  slices_S2x1001_S2x1_0_1000 : S2x1001.Slices ![0, 1000] S2x1

variable [Facts]

def fn_where {F : FTy → Type} [FloatOps F] (arg0 : IVec S2x36864x80 1) (arg1 : FVec F S2x36864x80 .f32) (arg2 : FVec F S_ .f32) : FVec F S2x36864x80 .f32 :=
  let v0 : FVec F S_ .f32 := id arg2
  let v1 : FVec F S2x36864x80 .f32 := broadcastInDim S2x36864x80 ![] bcast_S_S2x36864x80 v0
  let v2 : FVec F S2x36864x80 .f32 := select arg0 arg1 v1
  v2

def fn_part1 {F : FTy → Type} [FloatOps F] (main_v8 : FVec F S2x36864x80 .f32) (main_v19 : FVec F S2x36864x1 .f32) : IVec S2 1 :=
  let main_v20 : FVec F S2x36864x80 .f32 := broadcastInDim S2x36864x80 ![0, 1, 2] bcast_S2x36864x1_S2x36864x80_0_1_2 main_v19
  let main_v21 : FVec F S2x36864x80 .f32 := mulf main_v8 main_v20
  let main_v22 : FVec F S2x36864x80 .f32 := Host.sqrt main_v21
  let main_cst_3 : FVec F S_ .f32 := constant S_ .f32 0x3D4CCCCD#32
  let main_v23 : FVec F S2x36864x80 .f32 := broadcastInDim S2x36864x80 ![] bcast_S_S2x36864x80 main_cst_3
  let main_v24 : IVec S2x36864x80 1 := cmpf .ogt main_v22 main_v23
  let main_cst_4 : FVec F S_ .f32 := constant S_ .f32 0x00000000#32
  let main_v25 : FVec F S2x36864x80 .f32 := fn_where (F := F) main_v24 main_v22 main_cst_4
  let main_v26 : FVec F S2x2949120 .f32 := shapeCast S2x2949120 main_v25 shapeCasts_S2x36864x80_S2x2949120
  let main_values : FVec F S2x1001 .f32 := (fun x => (Host.topK S2x1001 1 (FloatOps.cmpfTotal .gt) x sliceFits_S2x2949120_S2x1001).1) main_v26
  let main_indices : IVec S2x1001 32 := (fun x => (Host.topK S2x1001 1 (FloatOps.cmpfTotal .gt) x sliceFits_S2x2949120_S2x1001).2) main_v26
  let main_v27 : FVec F S2x1 .f32 := (extractStridedSlice S2x1 ![0, 999] · slices_S2x1001_S2x1_0_999) main_values
  let main_v28 : FVec F S2 .f32 := shapeCast S2 main_v27 shapeCasts_S2x1_S2
  let main_cst_5 : FVec F S_ .f32 := constant S_ .f32 0x00000000#32
  let main_v29 : FVec F S2 .f32 := broadcastInDim S2 ![] bcast_S_S2 main_cst_5
  let main_v30 : IVec S2 1 := cmpf .oeq main_v28 main_v29
  let main_v31 : FVec F S2x1 .f32 := (extractStridedSlice S2x1 ![0, 1000] · slices_S2x1001_S2x1_0_1000) main_values
  let main_v32 : FVec F S2 .f32 := shapeCast S2 main_v31 shapeCasts_S2x1_S2
  let main_v33 : FVec F S2 .f32 := subf main_v28 main_v32
  let main_cst_6 : FVec F S_ .f32 := constant S_ .f32 0x33800000#32
  let main_v34 : FVec F S2 .f32 := broadcastInDim S2 ![] bcast_S_S2 main_cst_6
  let main_v35 : IVec S2 1 := cmpf .oge main_v33 main_v34
  let main_v36 : IVec S2 1 := ori main_v30 main_v35
  main_v36

def fn {F : FTy → Type} [FloatOps F] (main_arg0 : FVec F S2x720x64x64 .f32) (main_arg1 : FVec F S2x36x64x64 .f32) (main_arg2 : FVec F S2x9x64x64 .f32) (main_arg3 : FVec F S2x36864x4 .f32) : IVec S2 1 :=
  let main_v0 : FVec F S2x9x80x64x64 .f32 := shapeCast S2x9x80x64x64 main_arg0 shapeCasts_S2x720x64x64_S2x9x80x64x64
  let main_v1 : FVec F S2x64x64x9x80 .f32 := (transpose S2x64x64x9x80 [0, 3, 4, 1, 2] · transposes_S2x9x80x64x64_S2x64x64x9x80_0_3_4_1_2) main_v0
  let main_v2 : FVec F S2x36864x80 .f32 := shapeCast S2x36864x80 main_v1 shapeCasts_S2x64x64x9x80_S2x36864x80
  let main_v3 : FVec F S2x36864x80 .f32 := Host.negf main_v2
  let main_v4 : FVec F S2x36864x80 .f32 := Host.exp main_v3
  let main_cst : FVec F S_ .f32 := constant S_ .f32 0x3F800000#32
  let main_v5 : FVec F S2x36864x80 .f32 := broadcastInDim S2x36864x80 ![] bcast_S_S2x36864x80 main_cst
  let main_v6 : FVec F S2x36864x80 .f32 := addf main_v5 main_v4
  let main_cst_0 : FVec F S_ .f32 := constant S_ .f32 0x3F800000#32
  let main_v7 : FVec F S2x36864x80 .f32 := broadcastInDim S2x36864x80 ![] bcast_S_S2x36864x80 main_cst_0
  let main_v8 : FVec F S2x36864x80 .f32 := Host.divf main_v7 main_v6
  let main_v9 : FVec F S2x9x1x64x64 .f32 := shapeCast S2x9x1x64x64 main_arg2 shapeCasts_S2x9x64x64_S2x9x1x64x64
  let main_v10 : FVec F S2x64x64x9x1 .f32 := (transpose S2x64x64x9x1 [0, 3, 4, 1, 2] · transposes_S2x9x1x64x64_S2x64x64x9x1_0_3_4_1_2) main_v9
  let main_v11 : FVec F S2x36864x1 .f32 := shapeCast S2x36864x1 main_v10 shapeCasts_S2x64x64x9x1_S2x36864x1
  let main_v12 : FVec F S2x36864 .f32 := shapeCast S2x36864 main_v11 shapeCasts_S2x36864x1_S2x36864
  let main_v13 : FVec F S2x36864 .f32 := Host.negf main_v12
  let main_v14 : FVec F S2x36864 .f32 := Host.exp main_v13
  let main_cst_1 : FVec F S_ .f32 := constant S_ .f32 0x3F800000#32
  let main_v15 : FVec F S2x36864 .f32 := broadcastInDim S2x36864 ![] bcast_S_S2x36864 main_cst_1
  let main_v16 : FVec F S2x36864 .f32 := addf main_v15 main_v14
  let main_cst_2 : FVec F S_ .f32 := constant S_ .f32 0x3F800000#32
  let main_v17 : FVec F S2x36864 .f32 := broadcastInDim S2x36864 ![] bcast_S_S2x36864 main_cst_2
  let main_v18 : FVec F S2x36864 .f32 := Host.divf main_v17 main_v16
  let main_v19 : FVec F S2x36864x1 .f32 := broadcastInDim S2x36864x1 ![0, 1] bcast_S2x36864_S2x36864x1_0_1 main_v18
  fn_part1 (F := F) main_v8 main_v19
-- ==== Kernel.lean ====
abbrev S2x720x64x64 : Shape := ⟨4, ![2, 720, 64, 64]⟩
abbrev S2x36x64x64 : Shape := ⟨4, ![2, 36, 64, 64]⟩
abbrev S2x9x64x64 : Shape := ⟨4, ![2, 9, 64, 64]⟩
abbrev S2x36864x4 : Shape := ⟨3, ![2, 36864, 4]⟩
abbrev S2x9x80x4096 : Shape := ⟨4, ![2, 9, 80, 4096]⟩
abbrev S2x9x1x4096 : Shape := ⟨4, ![2, 9, 1, 4096]⟩
abbrev S2x8x128 : Shape := ⟨3, ![2, 8, 128]⟩
abbrev S1x9x80x4096 : Shape := ⟨4, ![1, 9, 80, 4096]⟩
abbrev S1x9x1x4096 : Shape := ⟨4, ![1, 9, 1, 4096]⟩
abbrev S1x8x128 : Shape := ⟨3, ![1, 8, 128]⟩
abbrev S1x1x9x80x4096 : Shape := ⟨5, ![1, 1, 9, 80, 4096]⟩
abbrev S1 : Shape := ⟨1, ![1]⟩
abbrev S1x1x1x1x1 : Shape := ⟨5, ![1, 1, 1, 1, 1]⟩
abbrev S2x720x4096 : Shape := ⟨3, ![2, 720, 4096]⟩
abbrev S2x4096x720 : Shape := ⟨3, ![2, 4096, 720]⟩
abbrev S2x2949120 : Shape := ⟨2, ![2, 2949120]⟩
abbrev S2x1x1 : Shape := ⟨3, ![2, 1, 1]⟩
abbrev S2 : Shape := ⟨1, ![2]⟩
abbrev S2x1 : Shape := ⟨2, ![2, 1]⟩
abbrev S_ : Shape := ⟨0, ![]⟩
abbrev S1000 : Shape := ⟨1, ![1000]⟩
abbrev S2x1x2949120 : Shape := ⟨3, ![2, 1, 2949120]⟩
abbrev S1000x1 : Shape := ⟨2, ![1000, 1]⟩
abbrev S1x1000x1 : Shape := ⟨3, ![1, 1000, 1]⟩
abbrev S2x1000x2949120 : Shape := ⟨3, ![2, 1000, 2949120]⟩
abbrev S2x1000 : Shape := ⟨2, ![2, 1000]⟩
abbrev S2x1000x1 : Shape := ⟨3, ![2, 1000, 1]⟩
abbrev S1x1x1 : Shape := ⟨3, ![1, 1, 1]⟩
abbrev S2x9x4x4096 : Shape := ⟨4, ![2, 9, 4, 4096]⟩
abbrev S2x4096x9x4 : Shape := ⟨4, ![2, 4096, 9, 4]⟩
abbrev S2x1000x4 : Shape := ⟨3, ![2, 1000, 4]⟩
abbrev S2x4x1000 : Shape := ⟨3, ![2, 4, 1000]⟩
abbrev S2x4x1024 : Shape := ⟨3, ![2, 4, 1024]⟩
abbrev S2x1024 : Shape := ⟨2, ![2, 1024]⟩
abbrev S2x1x1024 : Shape := ⟨3, ![2, 1, 1024]⟩
abbrev S1x4x1024 : Shape := ⟨3, ![1, 4, 1024]⟩
abbrev S1x1x1024 : Shape := ⟨3, ![1, 1, 1024]⟩
abbrev S1024 : Shape := ⟨1, ![1024]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S1x1x128 : Shape := ⟨3, ![1, 1, 128]⟩
abbrev S2x1x1000 : Shape := ⟨3, ![2, 1, 1000]⟩
abbrev S2x100 : Shape := ⟨2, ![2, 100]⟩
abbrev S2x100x1 : Shape := ⟨3, ![2, 100, 1]⟩
abbrev S2x100x4 : Shape := ⟨3, ![2, 100, 4]⟩
abbrev S2x100x6 : Shape := ⟨3, ![2, 100, 6]⟩

abbrev nBuf : Space → Nat
  | .hbm => 423
  | .vmem => 14
  | .smem => 0
  | _ => 0

abbrev hbmTy0_0 (i : Nat) : BufTy := match i % 128 with
  | 0 => ⟨S2x720x64x64, .f32⟩
  | 1 => ⟨S2x36x64x64, .f32⟩
  | 2 => ⟨S2x9x64x64, .f32⟩
  | 3 => ⟨S2x36864x4, .f32⟩
  | 4 => ⟨S2x9x80x4096, .f32⟩
  | 5 => ⟨S2x9x1x4096, .f32⟩
  | 6 => ⟨S2x9x80x4096, .f32⟩
  | 7 => ⟨S2x8x128, .i32⟩
  | 8 => ⟨S2x720x4096, .f32⟩
  | 9 => ⟨S2x4096x720, .f32⟩
  | 10 => ⟨S2x2949120, .f32⟩
  | 11 => ⟨S2x1x1, .i32⟩
  | 12 => ⟨S2, .i32⟩
  | 13 => ⟨S2, .f32⟩
  | 14 => ⟨S2x1x1, .i32⟩
  | 15 => ⟨S2, .i32⟩
  | 16 => ⟨S2x1, .f32⟩
  | 17 => ⟨S2x2949120, .f32⟩
  | 18 => ⟨S2x2949120, .i1⟩
  | 19 => ⟨S2x1, .f32⟩
  | 20 => ⟨S2x2949120, .f32⟩
  | 21 => ⟨S2x2949120, .i1⟩
  | 22 => ⟨S2x2949120, .i32⟩
  | 23 => ⟨S_, .i32⟩
  | 24 => ⟨S_, .i32⟩
  | 25 => ⟨S2x2949120, .i32⟩
  | 26 => ⟨S_, .i32⟩
  | 27 => ⟨S2, .i32⟩
  | 28 => ⟨S2, .i32⟩
  | 29 => ⟨S2x1, .i32⟩
  | 30 => ⟨S2x2949120, .i32⟩
  | 31 => ⟨S2x2949120, .i1⟩
  | 32 => ⟨S2x2949120, .i1⟩
  | 33 => ⟨S2x2949120, .i1⟩
  | 34 => ⟨S2x2949120, .i32⟩
  | 35 => ⟨S_, .i32⟩
  | 36 => ⟨S_, .i32⟩
  | 37 => ⟨S2x2949120, .i32⟩
  | 38 => ⟨S1000, .i32⟩
  | 39 => ⟨S_, .i32⟩
  | 40 => ⟨S1000, .i32⟩
  | 41 => ⟨S1000, .i32⟩
  | 42 => ⟨S2x1x2949120, .i32⟩
  | 43 => ⟨S1000x1, .i32⟩
  | 44 => ⟨S1x1000x1, .i32⟩
  | 45 => ⟨S2x1000x2949120, .i32⟩
  | 46 => ⟨S2x1000x2949120, .i32⟩
  | 47 => ⟨S2x1000x2949120, .i1⟩
  | 48 => ⟨S2x1000x2949120, .i32⟩
  | 49 => ⟨S_, .i32⟩
  | 50 => ⟨S2x1000, .i32⟩
  | 51 => ⟨S_, .i32⟩
  | 52 => ⟨S2x1000, .i32⟩
  | 53 => ⟨S2x1000, .i1⟩
  | 54 => ⟨S_, .i32⟩
  | 55 => ⟨S2x1000, .i32⟩
  | 56 => ⟨S2x1000, .i32⟩
  | 57 => ⟨S2x1000, .i32⟩
  | 58 => ⟨S2x1000x1, .i32⟩
  | 59 => ⟨S1, .i32⟩
  | 60 => ⟨S_, .i32⟩
  | 61 => ⟨S2x1000x1, .i32⟩
  | 62 => ⟨S2x1000x1, .i1⟩
  | 63 => ⟨S1x1x1, .i32⟩
  | 64 => ⟨S2x1000x1, .i32⟩
  | 65 => ⟨S2x1000x1, .i1⟩
  | 66 => ⟨S2x1000x1, .i1⟩
  | 67 => ⟨S_, .i1⟩
  | 68 => ⟨S2x1000, .i1⟩
  | 69 => ⟨S2x1000, .f32⟩
  | 70 => ⟨S_, .f32⟩
  | 71 => ⟨S2x1000, .f32⟩
  | 72 => ⟨S2x1000, .f32⟩
  | 73 => ⟨S2x1000, .f32⟩
  | 74 => ⟨S2x1000, .i32⟩
  | 75 => ⟨S_, .i32⟩
  | 76 => ⟨S2x1000, .i32⟩
  | 77 => ⟨S2x1000, .i1⟩
  | 78 => ⟨S_, .i32⟩
  | 79 => ⟨S2x1000, .i32⟩
  | 80 => ⟨S2x1000, .i32⟩
  | 81 => ⟨S2x1000, .i32⟩
  | 82 => ⟨S2x1000x1, .i32⟩
  | 83 => ⟨S1, .i32⟩
  | 84 => ⟨S_, .i32⟩
  | 85 => ⟨S2x1000x1, .i32⟩
  | 86 => ⟨S2x1000x1, .i1⟩
  | 87 => ⟨S1x1x1, .i32⟩
  | 88 => ⟨S2x1000x1, .i32⟩
  | 89 => ⟨S2x1000x1, .i1⟩
  | 90 => ⟨S2x1000x1, .i1⟩
  | 91 => ⟨S_, .i1⟩
  | 92 => ⟨S2x1000, .i1⟩
  | 93 => ⟨S2x1000, .i32⟩
  | 94 => ⟨S_, .i32⟩
  | 95 => ⟨S2x1000, .i32⟩
  | 96 => ⟨S2x1000, .i32⟩
  | 97 => ⟨S_, .i32⟩
  | 98 => ⟨S_, .i32⟩
  | 99 => ⟨S2x1000, .i32⟩
  | 100 => ⟨S2x1000, .i32⟩
  | 101 => ⟨S2x1000, .i32⟩
  | 102 => ⟨S_, .i32⟩
  | 103 => ⟨S2x1000, .i32⟩
  | 104 => ⟨S2x1000, .i1⟩
  | 105 => ⟨S2x1000, .i32⟩
  | 106 => ⟨S2x1000, .i32⟩
  | 107 => ⟨S_, .i32⟩
  | 108 => ⟨S2x1000, .i32⟩
  | 109 => ⟨S2x1000, .i1⟩
  | 110 => ⟨S2x1000, .i1⟩
  | 111 => ⟨S_, .i32⟩
  | 112 => ⟨S2x1000, .i32⟩
  | 113 => ⟨S2x1000, .i32⟩
  | 114 => ⟨S2x1000, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S2x1000, .i32⟩
  | 122 => ⟨S2x1000, .i32⟩
  | 123 => ⟨S_, .i32⟩
  | 124 => ⟨S2x1000, .i32⟩
  | 125 => ⟨S2x1000, .i1⟩
  | 126 => ⟨S_, .i32⟩
  | 127 => ⟨S2x1000, .i32⟩
  | _ => ⟨S2x720x64x64, .f32⟩

abbrev hbmTy0_1 (i : Nat) : BufTy := match i % 128 with
  | 0 => ⟨S2x1000, .i1⟩
  | 1 => ⟨S_, .i32⟩
  | 2 => ⟨S_, .i1⟩
  | 3 => ⟨S2x1000, .i1⟩
  | 4 => ⟨S2x1000, .i1⟩
  | 5 => ⟨S2x1000, .i1⟩
  | 6 => ⟨S2x1000, .i32⟩
  | 7 => ⟨S2x1000, .i32⟩
  | 8 => ⟨S2x1000, .i32⟩
  | 9 => ⟨S_, .i32⟩
  | 10 => ⟨S2x1000, .i32⟩
  | 11 => ⟨S2x1000, .i32⟩
  | 12 => ⟨S2x9x4x4096, .f32⟩
  | 13 => ⟨S2x4096x9x4, .f32⟩
  | 14 => ⟨S2x36864x4, .f32⟩
  | 15 => ⟨S2x1000x1, .i32⟩
  | 16 => ⟨S_, .i32⟩
  | 17 => ⟨S2x1000x1, .i32⟩
  | 18 => ⟨S2x1000x1, .i1⟩
  | 19 => ⟨S_, .i32⟩
  | 20 => ⟨S2x1000x1, .i32⟩
  | 21 => ⟨S2x1000x1, .i32⟩
  | 22 => ⟨S2x1000x1, .i32⟩
  | 23 => ⟨S1, .i32⟩
  | 24 => ⟨S_, .i32⟩
  | 25 => ⟨S2x1000x1, .i32⟩
  | 26 => ⟨S2x1000x1, .i1⟩
  | 27 => ⟨S1x1x1, .i32⟩
  | 28 => ⟨S2x1000x1, .i32⟩
  | 29 => ⟨S2x1000x1, .i1⟩
  | 30 => ⟨S2x1000x1, .i1⟩
  | 31 => ⟨S_, .i1⟩
  | 32 => ⟨S2x1000, .i1⟩
  | 33 => ⟨S2x1000x4, .f32⟩
  | 34 => ⟨S2x1000x4, .i1⟩
  | 35 => ⟨S_, .f32⟩
  | 36 => ⟨S2x1000x4, .f32⟩
  | 37 => ⟨S2x1000x4, .f32⟩
  | 38 => ⟨S2x1000x1, .i32⟩
  | 39 => ⟨S_, .i32⟩
  | 40 => ⟨S2x1000x1, .i32⟩
  | 41 => ⟨S2x1000x1, .i1⟩
  | 42 => ⟨S_, .i32⟩
  | 43 => ⟨S2x1000x1, .i32⟩
  | 44 => ⟨S2x1000x1, .i32⟩
  | 45 => ⟨S2x1000x1, .i32⟩
  | 46 => ⟨S1, .i32⟩
  | 47 => ⟨S_, .i32⟩
  | 48 => ⟨S2x1000x1, .i32⟩
  | 49 => ⟨S2x1000x1, .i1⟩
  | 50 => ⟨S1x1x1, .i32⟩
  | 51 => ⟨S2x1000x1, .i32⟩
  | 52 => ⟨S2x1000x1, .i1⟩
  | 53 => ⟨S2x1000x1, .i1⟩
  | 54 => ⟨S_, .i1⟩
  | 55 => ⟨S2x1000, .i1⟩
  | 56 => ⟨S2x1000x4, .f32⟩
  | 57 => ⟨S2x1000x4, .i1⟩
  | 58 => ⟨S_, .f32⟩
  | 59 => ⟨S2x1000x4, .f32⟩
  | 60 => ⟨S2x1000x4, .f32⟩
  | 61 => ⟨S2x1000x1, .f32⟩
  | 62 => ⟨S2x1000, .f32⟩
  | 63 => ⟨S2x1000x1, .f32⟩
  | 64 => ⟨S2x1000, .f32⟩
  | 65 => ⟨S2x1000, .f32⟩
  | 66 => ⟨S_, .f32⟩
  | 67 => ⟨S2x1000, .f32⟩
  | 68 => ⟨S2x1000, .f32⟩
  | 69 => ⟨S2x1000x1, .f32⟩
  | 70 => ⟨S2x1000, .f32⟩
  | 71 => ⟨S2x1000x1, .f32⟩
  | 72 => ⟨S2x1000, .f32⟩
  | 73 => ⟨S2x1000, .f32⟩
  | 74 => ⟨S_, .f32⟩
  | 75 => ⟨S2x1000, .f32⟩
  | 76 => ⟨S2x1000, .f32⟩
  | 77 => ⟨S2x1000x1, .f32⟩
  | 78 => ⟨S2x1000, .f32⟩
  | 79 => ⟨S_, .f32⟩
  | 80 => ⟨S2x1000, .f32⟩
  | 81 => ⟨S2x1000, .f32⟩
  | 82 => ⟨S2x1000, .f32⟩
  | 83 => ⟨S2x1000x1, .f32⟩
  | 84 => ⟨S2x1000, .f32⟩
  | 85 => ⟨S_, .f32⟩
  | 86 => ⟨S2x1000, .f32⟩
  | 87 => ⟨S2x1000, .f32⟩
  | 88 => ⟨S2x1000, .f32⟩
  | 89 => ⟨S2x1000x1, .f32⟩
  | 90 => ⟨S2x1000, .f32⟩
  | 91 => ⟨S_, .f32⟩
  | 92 => ⟨S2x1000, .f32⟩
  | 93 => ⟨S2x1000, .f32⟩
  | 94 => ⟨S2x1000x1, .f32⟩
  | 95 => ⟨S2x1000, .f32⟩
  | 96 => ⟨S_, .f32⟩
  | 97 => ⟨S2x1000, .f32⟩
  | 98 => ⟨S2x1000, .f32⟩
  | 99 => ⟨S2x1000x1, .f32⟩
  | 100 => ⟨S2x1000, .f32⟩
  | 101 => ⟨S_, .f32⟩
  | 102 => ⟨S2x1000, .f32⟩
  | 103 => ⟨S2x1000, .f32⟩
  | 104 => ⟨S_, .f32⟩
  | 105 => ⟨S2x1000, .f32⟩
  | 106 => ⟨S2x1000, .f32⟩
  | 107 => ⟨S2x1000x1, .f32⟩
  | 108 => ⟨S2x1000, .f32⟩
  | 109 => ⟨S_, .f32⟩
  | 110 => ⟨S2x1000, .f32⟩
  | 111 => ⟨S2x1000, .f32⟩
  | 112 => ⟨S_, .f32⟩
  | 113 => ⟨S2x1000, .f32⟩
  | 114 => ⟨S2x1000, .f32⟩
  | 115 => ⟨S2x1000, .f32⟩
  | 116 => ⟨S2x1000, .f32⟩
  | 117 => ⟨S2x1000, .f32⟩
  | 118 => ⟨S2x1000, .f32⟩
  | 119 => ⟨S2x1000, .f32⟩
  | 120 => ⟨S2x1000, .f32⟩
  | 121 => ⟨S2x1000, .f32⟩
  | 122 => ⟨S2x1000, .f32⟩
  | 123 => ⟨S_, .f32⟩
  | 124 => ⟨S2x1000, .f32⟩
  | 125 => ⟨S2x1000, .f32⟩
  | 126 => ⟨S2x1000, .f32⟩
  | 127 => ⟨S_, .f32⟩
  | _ => ⟨S2x720x64x64, .f32⟩

abbrev hbmTy0_2 (i : Nat) : BufTy := match i % 128 with
  | 0 => ⟨S2x1000, .f32⟩
  | 1 => ⟨S2x1000, .f32⟩
  | 2 => ⟨S2x1000, .f32⟩
  | 3 => ⟨S_, .f32⟩
  | 4 => ⟨S2x1000, .f32⟩
  | 5 => ⟨S2x1000, .f32⟩
  | 6 => ⟨S2x1000, .f32⟩
  | 7 => ⟨S_, .f32⟩
  | 8 => ⟨S2x1000, .f32⟩
  | 9 => ⟨S2x1000, .f32⟩
  | 10 => ⟨S_, .f32⟩
  | 11 => ⟨S2x1000, .f32⟩
  | 12 => ⟨S2x1000, .f32⟩
  | 13 => ⟨S2x1000, .f32⟩
  | 14 => ⟨S_, .f32⟩
  | 15 => ⟨S2x1000, .f32⟩
  | 16 => ⟨S2x1000, .f32⟩
  | 17 => ⟨S2x1000x1, .f32⟩
  | 18 => ⟨S2x1000x1, .f32⟩
  | 19 => ⟨S2x1000x1, .f32⟩
  | 20 => ⟨S2x1000x1, .f32⟩
  | 21 => ⟨S2x1000x4, .f32⟩
  | 22 => ⟨S2x1000x1, .f32⟩
  | 23 => ⟨S2x1000, .f32⟩
  | 24 => ⟨S_, .f32⟩
  | 25 => ⟨S_, .f32⟩
  | 26 => ⟨S_, .f32⟩
  | 27 => ⟨S2x1000, .f32⟩
  | 28 => ⟨S2x1000, .f32⟩
  | 29 => ⟨S_, .f32⟩
  | 30 => ⟨S2x1000, .f32⟩
  | 31 => ⟨S2x1000, .f32⟩
  | 32 => ⟨S2x1000x1, .f32⟩
  | 33 => ⟨S2x1000, .f32⟩
  | 34 => ⟨S_, .f32⟩
  | 35 => ⟨S_, .f32⟩
  | 36 => ⟨S_, .f32⟩
  | 37 => ⟨S2x1000, .f32⟩
  | 38 => ⟨S2x1000, .f32⟩
  | 39 => ⟨S_, .f32⟩
  | 40 => ⟨S2x1000, .f32⟩
  | 41 => ⟨S2x1000, .f32⟩
  | 42 => ⟨S2x1000x1, .f32⟩
  | 43 => ⟨S2x1000, .f32⟩
  | 44 => ⟨S_, .f32⟩
  | 45 => ⟨S_, .f32⟩
  | 46 => ⟨S_, .f32⟩
  | 47 => ⟨S2x1000, .f32⟩
  | 48 => ⟨S2x1000, .f32⟩
  | 49 => ⟨S_, .f32⟩
  | 50 => ⟨S2x1000, .f32⟩
  | 51 => ⟨S2x1000, .f32⟩
  | 52 => ⟨S2x1000x1, .f32⟩
  | 53 => ⟨S2x1000, .f32⟩
  | 54 => ⟨S_, .f32⟩
  | 55 => ⟨S_, .f32⟩
  | 56 => ⟨S_, .f32⟩
  | 57 => ⟨S2x1000, .f32⟩
  | 58 => ⟨S2x1000, .f32⟩
  | 59 => ⟨S_, .f32⟩
  | 60 => ⟨S2x1000, .f32⟩
  | 61 => ⟨S2x1000, .f32⟩
  | 62 => ⟨S2x1000x1, .f32⟩
  | 63 => ⟨S2x1000x1, .f32⟩
  | 64 => ⟨S2x1000x1, .f32⟩
  | 65 => ⟨S2x1000x1, .f32⟩
  | 66 => ⟨S2x1000x4, .f32⟩
  | 67 => ⟨S2x1000x1, .f32⟩
  | 68 => ⟨S2x1000, .f32⟩
  | 69 => ⟨S2x1000x1, .f32⟩
  | 70 => ⟨S2x1000, .f32⟩
  | 71 => ⟨S2x1000, .f32⟩
  | 72 => ⟨S_, .f32⟩
  | 73 => ⟨S2x1000, .f32⟩
  | 74 => ⟨S2x1000, .f32⟩
  | 75 => ⟨S2x1000x1, .f32⟩
  | 76 => ⟨S2x1000, .f32⟩
  | 77 => ⟨S2x1000x1, .f32⟩
  | 78 => ⟨S2x1000, .f32⟩
  | 79 => ⟨S2x1000, .f32⟩
  | 80 => ⟨S_, .f32⟩
  | 81 => ⟨S2x1000, .f32⟩
  | 82 => ⟨S2x1000, .f32⟩
  | 83 => ⟨S_, .f32⟩
  | 84 => ⟨S2x1000, .f32⟩
  | 85 => ⟨S2x1000, .i1⟩
  | 86 => ⟨S_, .f32⟩
  | 87 => ⟨S2x1000, .f32⟩
  | 88 => ⟨S2x1000, .i1⟩
  | 89 => ⟨S2x1000, .i1⟩
  | 90 => ⟨S_, .f32⟩
  | 91 => ⟨S2x1000, .f32⟩
  | 92 => ⟨S2x1000, .i1⟩
  | 93 => ⟨S2x1000, .i1⟩
  | 94 => ⟨S_, .f32⟩
  | 95 => ⟨S_, .f32⟩
  | 96 => ⟨S2x1000, .f32⟩
  | 97 => ⟨S2x1000, .f32⟩
  | 98 => ⟨S2x1000, .f32⟩
  | 99 => ⟨S_, .f32⟩
  | 100 => ⟨S2x1000, .f32⟩
  | 101 => ⟨S2x1000, .f32⟩
  | 102 => ⟨S2x1000x1, .f32⟩
  | 103 => ⟨S2x1000x4, .f32⟩
  | 104 => ⟨S2x1000x4, .f32⟩
  | 105 => ⟨S2x4x1000, .f32⟩
  | 106 => ⟨S_, .i32⟩
  | 107 => ⟨S_, .f32⟩
  | 108 => ⟨S2x4x1024, .f32⟩
  | 109 => ⟨S_, .i32⟩
  | 110 => ⟨S_, .f32⟩
  | 111 => ⟨S2x1024, .f32⟩
  | 112 => ⟨S2x1x1024, .f32⟩
  | 113 => ⟨S2x1x1024, .f32⟩
  | 114 => ⟨S2x1x1000, .f32⟩
  | 115 => ⟨S2x1000, .f32⟩
  | 116 => ⟨S2x100, .f32⟩
  | 117 => ⟨S2x100, .i32⟩
  | 118 => ⟨S2x100x1, .i32⟩
  | 119 => ⟨S_, .i32⟩
  | 120 => ⟨S2x100x1, .i32⟩
  | 121 => ⟨S2x100x1, .i1⟩
  | 122 => ⟨S_, .i32⟩
  | 123 => ⟨S2x100x1, .i32⟩
  | 124 => ⟨S2x100x1, .i32⟩
  | 125 => ⟨S2x100x1, .i32⟩
  | 126 => ⟨S1, .i32⟩
  | 127 => ⟨S_, .i32⟩
  | _ => ⟨S2x720x64x64, .f32⟩

abbrev hbmTy0_3 (i : Nat) : BufTy := match i % 128 with
  | 0 => ⟨S2x100x1, .i32⟩
  | 1 => ⟨S2x100x1, .i1⟩
  | 2 => ⟨S1x1x1, .i32⟩
  | 3 => ⟨S2x100x1, .i32⟩
  | 4 => ⟨S2x100x1, .i1⟩
  | 5 => ⟨S2x100x1, .i1⟩
  | 6 => ⟨S_, .i1⟩
  | 7 => ⟨S2x100, .i1⟩
  | 8 => ⟨S2x100x4, .f32⟩
  | 9 => ⟨S2x100x4, .i1⟩
  | 10 => ⟨S_, .f32⟩
  | 11 => ⟨S2x100x4, .f32⟩
  | 12 => ⟨S2x100x4, .f32⟩
  | 13 => ⟨S_, .i32⟩
  | 14 => ⟨S2x100, .i32⟩
  | 15 => ⟨S2x100, .i1⟩
  | 16 => ⟨S_, .i32⟩
  | 17 => ⟨S2x100, .i32⟩
  | 18 => ⟨S2x100, .i32⟩
  | 19 => ⟨S2x100, .i32⟩
  | 20 => ⟨S2x100x1, .i32⟩
  | 21 => ⟨S1, .i32⟩
  | 22 => ⟨S_, .i32⟩
  | 23 => ⟨S2x100x1, .i32⟩
  | 24 => ⟨S2x100x1, .i1⟩
  | 25 => ⟨S1x1x1, .i32⟩
  | 26 => ⟨S2x100x1, .i32⟩
  | 27 => ⟨S2x100x1, .i1⟩
  | 28 => ⟨S2x100x1, .i1⟩
  | 29 => ⟨S_, .i1⟩
  | 30 => ⟨S2x100, .i1⟩
  | 31 => ⟨S2x100, .i32⟩
  | 32 => ⟨S_, .i32⟩
  | 33 => ⟨S2x100, .i32⟩
  | 34 => ⟨S2x100, .i32⟩
  | 35 => ⟨S2x100x1, .f32⟩
  | 36 => ⟨S2x100, .f32⟩
  | 37 => ⟨S2x100x1, .f32⟩
  | 38 => ⟨S2x100x6, .f32⟩
  | _ => ⟨S2x720x64x64, .f32⟩

abbrev hbmTy (i : Nat) : BufTy := match i / 128 with
  | 0 => hbmTy0_0 i
  | 1 => hbmTy0_1 i
  | 2 => hbmTy0_2 i
  | 3 => hbmTy0_3 i
  | _ => ⟨S2x720x64x64, .f32⟩

abbrev bufTy : (tb : Table) → Fin (tcTables nBuf tb) → BufTy
  | .hbm, ⟨i, _⟩ => hbmTy i
  | .local _ .vmem, ⟨0, _⟩ => ⟨S1x9x80x4096, .f32⟩
  | .local _ .vmem, ⟨1, _⟩ => ⟨S1x9x80x4096, .f32⟩
  | .local _ .vmem, ⟨2, _⟩ => ⟨S1x9x1x4096, .f32⟩
  | .local _ .vmem, ⟨3, _⟩ => ⟨S1x9x1x4096, .f32⟩
  | .local _ .vmem, ⟨4, _⟩ => ⟨S1x9x80x4096, .f32⟩
  | .local _ .vmem, ⟨5, _⟩ => ⟨S1x9x80x4096, .f32⟩
  | .local _ .vmem, ⟨6, _⟩ => ⟨S1x8x128, .i32⟩
  | .local _ .vmem, ⟨7, _⟩ => ⟨S1x8x128, .i32⟩
  | .local _ .vmem, ⟨8, _⟩ => ⟨S1x4x1024, .f32⟩
  | .local _ .vmem, ⟨9, _⟩ => ⟨S1x4x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | _, _ => ⟨S2x720x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_call0_c : Ref sig .tc := ⟨.hbm, 23, rfl⟩
abbrev main_call0_call0_v0 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call1_call0_c : Ref sig .tc := ⟨.hbm, 35, rfl⟩
abbrev main_call1_call0_v0 : Ref sig .tc := ⟨.hbm, 36, rfl⟩
abbrev main_v27 : Ref sig .tc := ⟨.hbm, 37, rfl⟩
abbrev main_v28 : Ref sig .tc := ⟨.hbm, 38, rfl⟩
abbrev main_c_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_1 : Ref sig .tc := ⟨.hbm, 49, rfl⟩
abbrev main_v38 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v39 : Ref sig .tc := ⟨.hbm, 72, rfl⟩
abbrev main_values : Ref sig .tc := ⟨.hbm, 73, rfl⟩
abbrev main_indices : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_c_4 : Ref sig .tc := ⟨.hbm, 94, rfl⟩
abbrev main_call3_v14 : Ref sig .tc := ⟨.hbm, 95, rfl⟩
abbrev main_v40 : Ref sig .tc := ⟨.hbm, 96, rfl⟩
abbrev main_c_2 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_c : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_0 : Ref sig .tc := ⟨.hbm, 111, rfl⟩
abbrev main_call4_v12 : Ref sig .tc := ⟨.hbm, 112, rfl⟩
abbrev main_call4_v13 : Ref sig .tc := ⟨.hbm, 113, rfl⟩
abbrev main_v41 : Ref sig .tc := ⟨.hbm, 114, rfl⟩
abbrev main_c_3 : Ref sig .tc := ⟨.hbm, 115, rfl⟩
abbrev main_call5_v0 : Ref sig .tc := ⟨.hbm, 116, rfl⟩
abbrev main_call5_c : Ref sig .tc := ⟨.hbm, 117, rfl⟩
abbrev main_call5_v1 : Ref sig .tc := ⟨.hbm, 118, rfl⟩
abbrev main_call5_c_0 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_c_1 : Ref sig .tc := ⟨.hbm, 123, rfl⟩
abbrev main_call5_v5 : Ref sig .tc := ⟨.hbm, 124, rfl⟩
abbrev main_call5_v6 : Ref sig .tc := ⟨.hbm, 125, rfl⟩
abbrev main_call5_c_2 : Ref sig .tc := ⟨.hbm, 126, rfl⟩
abbrev main_call5_v7 : Ref sig .tc := ⟨.hbm, 127, rfl⟩
abbrev main_call5_v8 : Ref sig .tc := ⟨.hbm, 128, rfl⟩
abbrev main_call5_c_3 : Ref sig .tc := ⟨.hbm, 129, rfl⟩
abbrev main_call5_v9 : Ref sig .tc := ⟨.hbm, 130, rfl⟩
abbrev main_call5_v10 : Ref sig .tc := ⟨.hbm, 131, rfl⟩
abbrev main_call5_v11 : Ref sig .tc := ⟨.hbm, 132, rfl⟩
abbrev main_call5_v12 : Ref sig .tc := ⟨.hbm, 133, rfl⟩
abbrev main_call5_v13 : Ref sig .tc := ⟨.hbm, 134, rfl⟩
abbrev main_call5_v14 : Ref sig .tc := ⟨.hbm, 135, rfl⟩
abbrev main_v42 : Ref sig .tc := ⟨.hbm, 136, rfl⟩
abbrev main_c_4 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_call6_c : Ref sig .tc := ⟨.hbm, 144, rfl⟩
abbrev main_call6_v0 : Ref sig .tc := ⟨.hbm, 145, rfl⟩
abbrev main_call6_v1 : Ref sig .tc := ⟨.hbm, 146, rfl⟩
abbrev main_call6_c_0 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_call6_c_1 : Ref sig .tc := ⟨.hbm, 151, rfl⟩
abbrev main_call6_c_2 : Ref sig .tc := ⟨.hbm, 152, rfl⟩
abbrev main_call6_v5 : Ref sig .tc := ⟨.hbm, 153, rfl⟩
abbrev main_call6_v6 : Ref sig .tc := ⟨.hbm, 154, rfl⟩
abbrev main_call6_v7 : Ref sig .tc := ⟨.hbm, 155, rfl⟩
abbrev main_call6_v8 : Ref sig .tc := ⟨.hbm, 156, rfl⟩
abbrev main_call6_v9 : Ref sig .tc := ⟨.hbm, 157, rfl⟩
abbrev main_call6_v10 : Ref sig .tc := ⟨.hbm, 158, rfl⟩
abbrev main_call6_c_3 : Ref sig .tc := ⟨.hbm, 159, rfl⟩
abbrev main_call6_v11 : Ref sig .tc := ⟨.hbm, 160, rfl⟩
abbrev main_call6_v12 : Ref sig .tc := ⟨.hbm, 161, rfl⟩
abbrev main_call6_v13 : Ref sig .tc := ⟨.hbm, 162, rfl⟩
abbrev main_call6_cst : Ref sig .tc := ⟨.hbm, 163, rfl⟩
abbrev main_call6_v14 : Ref sig .tc := ⟨.hbm, 164, rfl⟩
abbrev main_v49 : Ref sig .tc := ⟨.hbm, 165, rfl⟩
abbrev main_v50 : Ref sig .tc := ⟨.hbm, 166, rfl⟩
abbrev main_call7_c : Ref sig .tc := ⟨.hbm, 167, rfl⟩
abbrev main_call7_v0 : Ref sig .tc := ⟨.hbm, 168, rfl⟩
abbrev main_call7_v1 : Ref sig .tc := ⟨.hbm, 169, rfl⟩
abbrev main_call7_c_0 : Ref sig .tc := ⟨.hbm, 170, rfl⟩
abbrev main_call7_v2 : Ref sig .tc := ⟨.hbm, 171, rfl⟩
abbrev main_call7_v3 : Ref sig .tc := ⟨.hbm, 172, rfl⟩
abbrev main_call7_v4 : Ref sig .tc := ⟨.hbm, 173, rfl⟩
abbrev main_call7_c_1 : Ref sig .tc := ⟨.hbm, 174, rfl⟩
abbrev main_call7_c_2 : Ref sig .tc := ⟨.hbm, 175, rfl⟩
abbrev main_call7_v5 : Ref sig .tc := ⟨.hbm, 176, rfl⟩
abbrev main_call7_v6 : Ref sig .tc := ⟨.hbm, 177, rfl⟩
abbrev main_call7_v7 : Ref sig .tc := ⟨.hbm, 178, rfl⟩
abbrev main_call7_v8 : Ref sig .tc := ⟨.hbm, 179, rfl⟩
abbrev main_call7_v9 : Ref sig .tc := ⟨.hbm, 180, rfl⟩
abbrev main_call7_v10 : Ref sig .tc := ⟨.hbm, 181, rfl⟩
abbrev main_call7_c_3 : Ref sig .tc := ⟨.hbm, 182, rfl⟩
abbrev main_call7_v11 : Ref sig .tc := ⟨.hbm, 183, rfl⟩
abbrev main_call7_v12 : Ref sig .tc := ⟨.hbm, 184, rfl⟩
abbrev main_call7_v13 : Ref sig .tc := ⟨.hbm, 185, rfl⟩
abbrev main_call7_cst : Ref sig .tc := ⟨.hbm, 186, rfl⟩
abbrev main_call7_v14 : Ref sig .tc := ⟨.hbm, 187, rfl⟩
abbrev main_v51 : Ref sig .tc := ⟨.hbm, 188, rfl⟩
abbrev main_v52 : Ref sig .tc := ⟨.hbm, 189, rfl⟩
abbrev main_v53 : Ref sig .tc := ⟨.hbm, 190, rfl⟩
abbrev main_v54 : Ref sig .tc := ⟨.hbm, 191, rfl⟩
abbrev main_v55 : Ref sig .tc := ⟨.hbm, 192, rfl⟩
abbrev main_v56 : Ref sig .tc := ⟨.hbm, 193, rfl⟩
abbrev main_cst : Ref sig .tc := ⟨.hbm, 194, rfl⟩
abbrev main_v57 : Ref sig .tc := ⟨.hbm, 195, rfl⟩
abbrev main_v58 : Ref sig .tc := ⟨.hbm, 196, rfl⟩
abbrev main_v59 : Ref sig .tc := ⟨.hbm, 197, rfl⟩
abbrev main_v60 : Ref sig .tc := ⟨.hbm, 198, rfl⟩
abbrev main_v61 : Ref sig .tc := ⟨.hbm, 199, rfl⟩
abbrev main_v62 : Ref sig .tc := ⟨.hbm, 200, rfl⟩
abbrev main_v63 : Ref sig .tc := ⟨.hbm, 201, rfl⟩
abbrev main_cst_5 : Ref sig .tc := ⟨.hbm, 202, rfl⟩
abbrev main_v64 : Ref sig .tc := ⟨.hbm, 203, rfl⟩
abbrev main_v65 : Ref sig .tc := ⟨.hbm, 204, rfl⟩
abbrev main_v66 : Ref sig .tc := ⟨.hbm, 205, rfl⟩
abbrev main_v67 : Ref sig .tc := ⟨.hbm, 206, rfl⟩
abbrev main_cst_6 : Ref sig .tc := ⟨.hbm, 207, rfl⟩
abbrev main_v68 : Ref sig .tc := ⟨.hbm, 208, rfl⟩
abbrev main_v69 : Ref sig .tc := ⟨.hbm, 209, rfl⟩
abbrev main_v70 : Ref sig .tc := ⟨.hbm, 210, rfl⟩
abbrev main_v71 : Ref sig .tc := ⟨.hbm, 211, rfl⟩
abbrev main_v72 : Ref sig .tc := ⟨.hbm, 212, rfl⟩
abbrev main_cst_7 : Ref sig .tc := ⟨.hbm, 213, rfl⟩
abbrev main_v73 : Ref sig .tc := ⟨.hbm, 214, rfl⟩
abbrev main_v74 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_cst_8 : Ref sig .tc := ⟨.hbm, 219, rfl⟩
abbrev main_v78 : Ref sig .tc := ⟨.hbm, 220, rfl⟩
abbrev main_v79 : Ref sig .tc := ⟨.hbm, 221, rfl⟩
abbrev main_v80 : Ref sig .tc := ⟨.hbm, 222, rfl⟩
abbrev main_v81 : Ref sig .tc := ⟨.hbm, 223, rfl⟩
abbrev main_cst_9 : Ref sig .tc := ⟨.hbm, 224, rfl⟩
abbrev main_v82 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_cst_10 : Ref sig .tc := ⟨.hbm, 229, rfl⟩
abbrev main_v86 : Ref sig .tc := ⟨.hbm, 230, rfl⟩
abbrev main_v87 : Ref sig .tc := ⟨.hbm, 231, rfl⟩
abbrev main_cst_11 : Ref sig .tc := ⟨.hbm, 232, rfl⟩
abbrev main_v88 : Ref sig .tc := ⟨.hbm, 233, rfl⟩
abbrev main_v89 : Ref sig .tc := ⟨.hbm, 234, rfl⟩
abbrev main_v90 : Ref sig .tc := ⟨.hbm, 235, rfl⟩
abbrev main_v91 : Ref sig .tc := ⟨.hbm, 236, rfl⟩
abbrev main_cst_12 : Ref sig .tc := ⟨.hbm, 237, rfl⟩
abbrev main_v92 : Ref sig .tc := ⟨.hbm, 238, rfl⟩
abbrev main_v93 : Ref sig .tc := ⟨.hbm, 239, rfl⟩
abbrev main_cst_13 : Ref sig .tc := ⟨.hbm, 240, rfl⟩
abbrev main_v94 : Ref sig .tc := ⟨.hbm, 241, rfl⟩
abbrev main_v95 : Ref sig .tc := ⟨.hbm, 242, rfl⟩
abbrev main_v96 : Ref sig .tc := ⟨.hbm, 243, rfl⟩
abbrev main_v97 : Ref sig .tc := ⟨.hbm, 244, rfl⟩
abbrev main_v98 : Ref sig .tc := ⟨.hbm, 245, rfl⟩
abbrev main_v99 : Ref sig .tc := ⟨.hbm, 246, rfl⟩
abbrev main_v100 : Ref sig .tc := ⟨.hbm, 247, rfl⟩
abbrev main_v101 : Ref sig .tc := ⟨.hbm, 248, rfl⟩
abbrev main_v102 : Ref sig .tc := ⟨.hbm, 249, rfl⟩
abbrev main_v103 : Ref sig .tc := ⟨.hbm, 250, rfl⟩
abbrev main_cst_14 : Ref sig .tc := ⟨.hbm, 251, rfl⟩
abbrev main_v104 : Ref sig .tc := ⟨.hbm, 252, rfl⟩
abbrev main_v105 : Ref sig .tc := ⟨.hbm, 253, rfl⟩
abbrev main_v106 : Ref sig .tc := ⟨.hbm, 254, rfl⟩
abbrev main_cst_15 : Ref sig .tc := ⟨.hbm, 255, rfl⟩
abbrev main_v107 : Ref sig .tc := ⟨.hbm, 256, rfl⟩
abbrev main_v108 : Ref sig .tc := ⟨.hbm, 257, rfl⟩
abbrev main_v109 : Ref sig .tc := ⟨.hbm, 258, rfl⟩
abbrev main_cst_16 : Ref sig .tc := ⟨.hbm, 259, rfl⟩
abbrev main_v110 : Ref sig .tc := ⟨.hbm, 260, rfl⟩
abbrev main_v111 : Ref sig .tc := ⟨.hbm, 261, rfl⟩
abbrev main_v112 : Ref sig .tc := ⟨.hbm, 262, rfl⟩
abbrev main_cst_17 : Ref sig .tc := ⟨.hbm, 263, rfl⟩
abbrev main_v113 : Ref sig .tc := ⟨.hbm, 264, rfl⟩
abbrev main_v114 : Ref sig .tc := ⟨.hbm, 265, rfl⟩
abbrev main_cst_18 : Ref sig .tc := ⟨.hbm, 266, rfl⟩
abbrev main_v115 : Ref sig .tc := ⟨.hbm, 267, rfl⟩
abbrev main_v116 : Ref sig .tc := ⟨.hbm, 268, rfl⟩
abbrev main_v117 : Ref sig .tc := ⟨.hbm, 269, rfl⟩
abbrev main_cst_19 : Ref sig .tc := ⟨.hbm, 270, rfl⟩
abbrev main_v118 : Ref sig .tc := ⟨.hbm, 271, rfl⟩
abbrev main_v119 : Ref sig .tc := ⟨.hbm, 272, rfl⟩
abbrev main_v120 : Ref sig .tc := ⟨.hbm, 273, rfl⟩
abbrev main_v121 : Ref sig .tc := ⟨.hbm, 274, rfl⟩
abbrev main_v122 : Ref sig .tc := ⟨.hbm, 275, rfl⟩
abbrev main_v123 : Ref sig .tc := ⟨.hbm, 276, rfl⟩
abbrev main_v124 : Ref sig .tc := ⟨.hbm, 277, rfl⟩
abbrev main_v125 : Ref sig .tc := ⟨.hbm, 278, rfl⟩
abbrev main_v126 : Ref sig .tc := ⟨.hbm, 279, rfl⟩
abbrev main_cst_20 : Ref sig .tc := ⟨.hbm, 280, rfl⟩
abbrev main_cst_21 : Ref sig .tc := ⟨.hbm, 281, rfl⟩
abbrev main_call8_v0 : Ref sig .tc := ⟨.hbm, 282, rfl⟩
abbrev main_call8_v1 : Ref sig .tc := ⟨.hbm, 283, rfl⟩
abbrev main_call8_v2 : Ref sig .tc := ⟨.hbm, 284, rfl⟩
abbrev main_call8_v3 : Ref sig .tc := ⟨.hbm, 285, rfl⟩
abbrev main_call8_v4 : Ref sig .tc := ⟨.hbm, 286, rfl⟩
abbrev main_v127 : Ref sig .tc := ⟨.hbm, 287, rfl⟩
abbrev main_v128 : Ref sig .tc := ⟨.hbm, 288, rfl⟩
abbrev main_v129 : Ref sig .tc := ⟨.hbm, 289, rfl⟩
abbrev main_cst_22 : Ref sig .tc := ⟨.hbm, 290, rfl⟩
abbrev main_cst_23 : Ref sig .tc := ⟨.hbm, 291, rfl⟩
abbrev main_call9_v0 : Ref sig .tc := ⟨.hbm, 292, rfl⟩
abbrev main_call9_v1 : Ref sig .tc := ⟨.hbm, 293, rfl⟩
abbrev main_call9_v2 : Ref sig .tc := ⟨.hbm, 294, rfl⟩
abbrev main_call9_v3 : Ref sig .tc := ⟨.hbm, 295, rfl⟩
abbrev main_call9_v4 : Ref sig .tc := ⟨.hbm, 296, rfl⟩
abbrev main_v130 : Ref sig .tc := ⟨.hbm, 297, rfl⟩
abbrev main_v131 : Ref sig .tc := ⟨.hbm, 298, rfl⟩
abbrev main_v132 : Ref sig .tc := ⟨.hbm, 299, rfl⟩
abbrev main_cst_24 : Ref sig .tc := ⟨.hbm, 300, rfl⟩
abbrev main_cst_25 : Ref sig .tc := ⟨.hbm, 301, rfl⟩
abbrev main_call10_v0 : Ref sig .tc := ⟨.hbm, 302, rfl⟩
abbrev main_call10_v1 : Ref sig .tc := ⟨.hbm, 303, rfl⟩
abbrev main_call10_v2 : Ref sig .tc := ⟨.hbm, 304, rfl⟩
abbrev main_call10_v3 : Ref sig .tc := ⟨.hbm, 305, rfl⟩
abbrev main_call10_v4 : Ref sig .tc := ⟨.hbm, 306, rfl⟩
abbrev main_v133 : Ref sig .tc := ⟨.hbm, 307, rfl⟩
abbrev main_v134 : Ref sig .tc := ⟨.hbm, 308, rfl⟩
abbrev main_v135 : Ref sig .tc := ⟨.hbm, 309, rfl⟩
abbrev main_cst_26 : Ref sig .tc := ⟨.hbm, 310, rfl⟩
abbrev main_cst_27 : Ref sig .tc := ⟨.hbm, 311, rfl⟩
abbrev main_call11_v0 : Ref sig .tc := ⟨.hbm, 312, rfl⟩
abbrev main_call11_v1 : Ref sig .tc := ⟨.hbm, 313, rfl⟩
abbrev main_call11_v2 : Ref sig .tc := ⟨.hbm, 314, rfl⟩
abbrev main_call11_v3 : Ref sig .tc := ⟨.hbm, 315, rfl⟩
abbrev main_call11_v4 : Ref sig .tc := ⟨.hbm, 316, rfl⟩
abbrev main_v136 : Ref sig .tc := ⟨.hbm, 317, rfl⟩
abbrev main_v137 : Ref sig .tc := ⟨.hbm, 318, rfl⟩
abbrev main_v138 : Ref sig .tc := ⟨.hbm, 319, rfl⟩
abbrev main_v139 : Ref sig .tc := ⟨.hbm, 320, rfl⟩
abbrev main_v140 : Ref sig .tc := ⟨.hbm, 321, rfl⟩
abbrev main_v141 : Ref sig .tc := ⟨.hbm, 322, rfl⟩
abbrev main_v142 : Ref sig .tc := ⟨.hbm, 323, rfl⟩
abbrev main_v143 : Ref sig .tc := ⟨.hbm, 324, rfl⟩
abbrev main_v144 : Ref sig .tc := ⟨.hbm, 325, rfl⟩
abbrev main_v145 : Ref sig .tc := ⟨.hbm, 326, rfl⟩
abbrev main_v146 : Ref sig .tc := ⟨.hbm, 327, rfl⟩
abbrev main_cst_28 : Ref sig .tc := ⟨.hbm, 328, rfl⟩
abbrev main_v147 : Ref sig .tc := ⟨.hbm, 329, rfl⟩
abbrev main_v148 : Ref sig .tc := ⟨.hbm, 330, rfl⟩
abbrev main_v149 : Ref sig .tc := ⟨.hbm, 331, rfl⟩
abbrev main_v150 : Ref sig .tc := ⟨.hbm, 332, rfl⟩
abbrev main_v151 : Ref sig .tc := ⟨.hbm, 333, rfl⟩
abbrev main_v152 : Ref sig .tc := ⟨.hbm, 334, rfl⟩
abbrev main_v153 : Ref sig .tc := ⟨.hbm, 335, rfl⟩
abbrev main_cst_29 : Ref sig .tc := ⟨.hbm, 336, rfl⟩
abbrev main_v154 : Ref sig .tc := ⟨.hbm, 337, rfl⟩
abbrev main_v155 : Ref sig .tc := ⟨.hbm, 338, rfl⟩
abbrev main_cst_30 : Ref sig .tc := ⟨.hbm, 339, rfl⟩
abbrev main_v156 : Ref sig .tc := ⟨.hbm, 340, rfl⟩
abbrev main_v157 : Ref sig .tc := ⟨.hbm, 341, rfl⟩
abbrev main_cst_31 : Ref sig .tc := ⟨.hbm, 342, rfl⟩
abbrev main_v158 : Ref sig .tc := ⟨.hbm, 343, rfl⟩
abbrev main_v159 : Ref sig .tc := ⟨.hbm, 344, rfl⟩
abbrev main_v160 : Ref sig .tc := ⟨.hbm, 345, rfl⟩
abbrev main_cst_32 : Ref sig .tc := ⟨.hbm, 346, rfl⟩
abbrev main_v161 : Ref sig .tc := ⟨.hbm, 347, rfl⟩
abbrev main_v162 : Ref sig .tc := ⟨.hbm, 348, rfl⟩
abbrev main_v163 : Ref sig .tc := ⟨.hbm, 349, rfl⟩
abbrev main_cst_33 : Ref sig .tc := ⟨.hbm, 350, rfl⟩
abbrev main_call12_v0 : Ref sig .tc := ⟨.hbm, 351, rfl⟩
abbrev main_call12_v1 : Ref sig .tc := ⟨.hbm, 352, rfl⟩
abbrev main_v164 : Ref sig .tc := ⟨.hbm, 353, rfl⟩
abbrev main_v165 : Ref sig .tc := ⟨.hbm, 354, rfl⟩
abbrev main_cst_34 : Ref sig .tc := ⟨.hbm, 355, rfl⟩
abbrev main_v166 : Ref sig .tc := ⟨.hbm, 356, rfl⟩
abbrev main_v167 : Ref sig .tc := ⟨.hbm, 357, rfl⟩
abbrev main_v168 : Ref sig .tc := ⟨.hbm, 358, rfl⟩
abbrev main_v169 : Ref sig .tc := ⟨.hbm, 359, rfl⟩
abbrev main_v170 : Ref sig .tc := ⟨.hbm, 360, rfl⟩
abbrev main_v171 : Ref sig .tc := ⟨.hbm, 361, rfl⟩
abbrev main_c_35 : Ref sig .tc := ⟨.hbm, 362, rfl⟩
abbrev main_call13_v0 : Ref sig .tc := ⟨.hbm, 363, rfl⟩
abbrev main_v172 : Ref sig .tc := ⟨.hbm, 364, rfl⟩
abbrev main_c_36 : Ref sig .tc := ⟨.hbm, 365, rfl⟩
abbrev main_call14_v0 : Ref sig .tc := ⟨.hbm, 366, rfl⟩
abbrev main_v173 : Ref sig .tc := ⟨.hbm, 367, rfl⟩
abbrev main_v174 : Ref sig .tc := ⟨.hbm, 368, rfl⟩
abbrev main_v175 : Ref sig .tc := ⟨.hbm, 369, rfl⟩
abbrev main_v176 : Ref sig .tc := ⟨.hbm, 370, rfl⟩
abbrev main_v177 : Ref sig .tc := ⟨.hbm, 371, rfl⟩
abbrev main_values_37 : Ref sig .tc := ⟨.hbm, 372, rfl⟩
abbrev main_indices_38 : Ref sig .tc := ⟨.hbm, 373, rfl⟩
abbrev main_v178 : Ref sig .tc := ⟨.hbm, 374, rfl⟩
abbrev main_call15_c : Ref sig .tc := ⟨.hbm, 375, rfl⟩
abbrev main_call15_v0 : Ref sig .tc := ⟨.hbm, 376, rfl⟩
abbrev main_call15_v1 : Ref sig .tc := ⟨.hbm, 377, rfl⟩
abbrev main_call15_c_0 : Ref sig .tc := ⟨.hbm, 378, rfl⟩
abbrev main_call15_v2 : Ref sig .tc := ⟨.hbm, 379, rfl⟩
abbrev main_call15_v3 : Ref sig .tc := ⟨.hbm, 380, rfl⟩
abbrev main_call15_v4 : Ref sig .tc := ⟨.hbm, 381, rfl⟩
abbrev main_call15_c_1 : Ref sig .tc := ⟨.hbm, 382, rfl⟩
abbrev main_call15_c_2 : Ref sig .tc := ⟨.hbm, 383, rfl⟩
abbrev main_call15_v5 : Ref sig .tc := ⟨.hbm, 384, rfl⟩
abbrev main_call15_v6 : Ref sig .tc := ⟨.hbm, 385, rfl⟩
abbrev main_call15_v7 : Ref sig .tc := ⟨.hbm, 386, rfl⟩
abbrev main_call15_v8 : Ref sig .tc := ⟨.hbm, 387, rfl⟩
abbrev main_call15_v9 : Ref sig .tc := ⟨.hbm, 388, rfl⟩
abbrev main_call15_v10 : Ref sig .tc := ⟨.hbm, 389, rfl⟩
abbrev main_call15_c_3 : Ref sig .tc := ⟨.hbm, 390, rfl⟩
abbrev main_call15_v11 : Ref sig .tc := ⟨.hbm, 391, rfl⟩
abbrev main_call15_v12 : Ref sig .tc := ⟨.hbm, 392, rfl⟩
abbrev main_call15_v13 : Ref sig .tc := ⟨.hbm, 393, rfl⟩
abbrev main_call15_cst : Ref sig .tc := ⟨.hbm, 394, rfl⟩
abbrev main_call15_v14 : Ref sig .tc := ⟨.hbm, 395, rfl⟩
abbrev main_v179 : Ref sig .tc := ⟨.hbm, 396, rfl⟩
abbrev main_call16_c : Ref sig .tc := ⟨.hbm, 397, rfl⟩
abbrev main_call16_v0 : Ref sig .tc := ⟨.hbm, 398, rfl⟩
abbrev main_call16_v1 : Ref sig .tc := ⟨.hbm, 399, rfl⟩
abbrev main_call16_c_0 : Ref sig .tc := ⟨.hbm, 400, rfl⟩
abbrev main_call16_v2 : Ref sig .tc := ⟨.hbm, 401, rfl⟩
abbrev main_call16_v3 : Ref sig .tc := ⟨.hbm, 402, rfl⟩
abbrev main_call16_v4 : Ref sig .tc := ⟨.hbm, 403, rfl⟩
abbrev main_call16_v5 : Ref sig .tc := ⟨.hbm, 404, rfl⟩
abbrev main_call16_c_1 : Ref sig .tc := ⟨.hbm, 405, rfl⟩
abbrev main_call16_c_2 : Ref sig .tc := ⟨.hbm, 406, rfl⟩
abbrev main_call16_v6 : Ref sig .tc := ⟨.hbm, 407, rfl⟩
abbrev main_call16_v7 : Ref sig .tc := ⟨.hbm, 408, rfl⟩
abbrev main_call16_v8 : Ref sig .tc := ⟨.hbm, 409, rfl⟩
abbrev main_call16_v9 : Ref sig .tc := ⟨.hbm, 410, rfl⟩
abbrev main_call16_v10 : Ref sig .tc := ⟨.hbm, 411, rfl⟩
abbrev main_call16_v11 : Ref sig .tc := ⟨.hbm, 412, rfl⟩
abbrev main_call16_c_3 : Ref sig .tc := ⟨.hbm, 413, rfl⟩
abbrev main_call16_v12 : Ref sig .tc := ⟨.hbm, 414, rfl⟩
abbrev main_call16_v13 : Ref sig .tc := ⟨.hbm, 415, rfl⟩
abbrev main_call16_c_4 : Ref sig .tc := ⟨.hbm, 416, rfl⟩
abbrev main_call16_v14 : Ref sig .tc := ⟨.hbm, 417, rfl⟩
abbrev main_v180 : Ref sig .tc := ⟨.hbm, 418, rfl⟩
abbrev main_v181 : Ref sig .tc := ⟨.hbm, 419, rfl⟩
abbrev main_v182 : Ref sig .tc := ⟨.hbm, 420, rfl⟩
abbrev main_v183 : Ref sig .tc := ⟨.hbm, 421, rfl⟩
abbrev main_v184 : Ref sig .tc := ⟨.hbm, 422, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_18 : BitVec 32 := 0#32
  let c31_i32 : BitVec 32 := 31#32
  let v26 : BitVec 32 := Scalar.addi c0_i32_18 c31_i32
  let c1_i32 : BitVec 32 := 1#32
  ⟨c0_i32_18, v26, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x9x80x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x80x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S2x720x64x64 : Shape := ⟨4, ![2, 720, 64, 64]⟩
abbrev S2x36x64x64 : Shape := ⟨4, ![2, 36, 64, 64]⟩
abbrev S2x9x64x64 : Shape := ⟨4, ![2, 9, 64, 64]⟩
abbrev S2x36864x4 : Shape := ⟨3, ![2, 36864, 4]⟩
abbrev S2x9x4x64x64 : Shape := ⟨5, ![2, 9, 4, 64, 64]⟩
abbrev S2x64x64x9x4 : Shape := ⟨5, ![2, 64, 64, 9, 4]⟩
abbrev S2x9x80x64x64 : Shape := ⟨5, ![2, 9, 80, 64, 64]⟩
abbrev S2x64x64x9x80 : Shape := ⟨5, ![2, 64, 64, 9, 80]⟩
abbrev S2x36864x80 : Shape := ⟨3, ![2, 36864, 80]⟩
abbrev S_ : Shape := ⟨0, ![]⟩
abbrev S2x9x1x64x64 : Shape := ⟨5, ![2, 9, 1, 64, 64]⟩
abbrev S2x64x64x9x1 : Shape := ⟨5, ![2, 64, 64, 9, 1]⟩
abbrev S2x36864x1 : Shape := ⟨3, ![2, 36864, 1]⟩
abbrev S2x36864 : Shape := ⟨2, ![2, 36864]⟩
abbrev S2x2949120 : Shape := ⟨2, ![2, 2949120]⟩
abbrev S2x1000 : Shape := ⟨2, ![2, 1000]⟩
abbrev S2x1000x1 : Shape := ⟨3, ![2, 1000, 1]⟩
abbrev S1 : Shape := ⟨1, ![1]⟩
abbrev S1x1x1 : Shape := ⟨3, ![1, 1, 1]⟩
abbrev S2x1000x4 : Shape := ⟨3, ![2, 1000, 4]⟩
abbrev S2x1000x2 : Shape := ⟨3, ![2, 1000, 2]⟩
abbrev S2x1000x1x2 : Shape := ⟨4, ![2, 1000, 1, 2]⟩
abbrev S2x1x1000x2 : Shape := ⟨4, ![2, 1, 1000, 2]⟩
abbrev S2x1000x1000x2 : Shape := ⟨4, ![2, 1000, 1000, 2]⟩
abbrev S2x1000x1000x1 : Shape := ⟨4, ![2, 1000, 1000, 1]⟩
abbrev S2x1000x1000 : Shape := ⟨3, ![2, 1000, 1000]⟩
abbrev S2x1x1000 : Shape := ⟨3, ![2, 1, 1000]⟩
abbrev S2x100 : Shape := ⟨2, ![2, 100]⟩
abbrev S2x100x1 : Shape := ⟨3, ![2, 100, 1]⟩
abbrev S2x100x4 : Shape := ⟨3, ![2, 100, 4]⟩
abbrev S2x100x6 : Shape := ⟨3, ![2, 100, 6]⟩

abbrev nBuf : Space → Nat
  | .hbm => 435
  | .vmem => 0
  | .smem => 0
  | _ => 0

abbrev hbmTy0_0 (i : Nat) : BufTy := match i % 128 with
  | 0 => ⟨S2x720x64x64, .f32⟩
  | 1 => ⟨S2x36x64x64, .f32⟩
  | 2 => ⟨S2x9x64x64, .f32⟩
  | 3 => ⟨S2x36864x4, .f32⟩
  | 4 => ⟨S2x9x4x64x64, .f32⟩
  | 5 => ⟨S2x64x64x9x4, .f32⟩
  | 6 => ⟨S2x36864x4, .f32⟩
  | 7 => ⟨S2x9x80x64x64, .f32⟩
  | 8 => ⟨S2x64x64x9x80, .f32⟩
  | 9 => ⟨S2x36864x80, .f32⟩
  | 10 => ⟨S2x36864x80, .f32⟩
  | 11 => ⟨S2x36864x80, .f32⟩
  | 12 => ⟨S_, .f32⟩
  | 13 => ⟨S2x36864x80, .f32⟩
  | 14 => ⟨S2x36864x80, .f32⟩
  | 15 => ⟨S_, .f32⟩
  | 16 => ⟨S2x36864x80, .f32⟩
  | 17 => ⟨S2x36864x80, .f32⟩
  | 18 => ⟨S2x9x1x64x64, .f32⟩
  | 19 => ⟨S2x64x64x9x1, .f32⟩
  | 20 => ⟨S2x36864x1, .f32⟩
  | 21 => ⟨S2x36864, .f32⟩
  | 22 => ⟨S2x36864, .f32⟩
  | 23 => ⟨S2x36864, .f32⟩
  | 24 => ⟨S_, .f32⟩
  | 25 => ⟨S2x36864, .f32⟩
  | 26 => ⟨S2x36864, .f32⟩
  | 27 => ⟨S_, .f32⟩
  | 28 => ⟨S2x36864, .f32⟩
  | 29 => ⟨S2x36864, .f32⟩
  | 30 => ⟨S2x36864x1, .f32⟩
  | 31 => ⟨S2x36864x80, .f32⟩
  | 32 => ⟨S2x36864x80, .f32⟩
  | 33 => ⟨S2x36864x80, .f32⟩
  | 34 => ⟨S_, .f32⟩
  | 35 => ⟨S2x36864x80, .f32⟩
  | 36 => ⟨S2x36864x80, .i1⟩
  | 37 => ⟨S_, .f32⟩
  | 38 => ⟨S_, .f32⟩
  | 39 => ⟨S2x36864x80, .f32⟩
  | 40 => ⟨S2x36864x80, .f32⟩
  | 41 => ⟨S2x2949120, .f32⟩
  | 42 => ⟨S2x1000, .f32⟩
  | 43 => ⟨S2x1000, .i32⟩
  | 44 => ⟨S_, .i32⟩
  | 45 => ⟨S_, .i32⟩
  | 46 => ⟨S2x1000, .i32⟩
  | 47 => ⟨S2x1000, .i32⟩
  | 48 => ⟨S2x1000, .i32⟩
  | 49 => ⟨S_, .i32⟩
  | 50 => ⟨S2x1000, .i32⟩
  | 51 => ⟨S2x1000, .i1⟩
  | 52 => ⟨S2x1000, .i32⟩
  | 53 => ⟨S2x1000, .i32⟩
  | 54 => ⟨S_, .i32⟩
  | 55 => ⟨S2x1000, .i32⟩
  | 56 => ⟨S2x1000, .i1⟩
  | 57 => ⟨S2x1000, .i1⟩
  | 58 => ⟨S_, .i32⟩
  | 59 => ⟨S2x1000, .i32⟩
  | 60 => ⟨S2x1000, .i32⟩
  | 61 => ⟨S2x1000, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S2x1000, .i32⟩
  | 69 => ⟨S2x1000, .i32⟩
  | 70 => ⟨S_, .i32⟩
  | 71 => ⟨S2x1000, .i32⟩
  | 72 => ⟨S2x1000, .i1⟩
  | 73 => ⟨S_, .i32⟩
  | 74 => ⟨S2x1000, .i32⟩
  | 75 => ⟨S2x1000, .i1⟩
  | 76 => ⟨S_, .i32⟩
  | 77 => ⟨S_, .i1⟩
  | 78 => ⟨S2x1000, .i1⟩
  | 79 => ⟨S2x1000, .i1⟩
  | 80 => ⟨S2x1000, .i1⟩
  | 81 => ⟨S2x1000, .i32⟩
  | 82 => ⟨S2x1000, .i32⟩
  | 83 => ⟨S2x1000, .i32⟩
  | 84 => ⟨S_, .i32⟩
  | 85 => ⟨S2x1000, .i32⟩
  | 86 => ⟨S2x1000, .i32⟩
  | 87 => ⟨S2x1000x1, .i32⟩
  | 88 => ⟨S_, .i32⟩
  | 89 => ⟨S2x1000x1, .i32⟩
  | 90 => ⟨S2x1000x1, .i1⟩
  | 91 => ⟨S_, .i32⟩
  | 92 => ⟨S2x1000x1, .i32⟩
  | 93 => ⟨S2x1000x1, .i32⟩
  | 94 => ⟨S2x1000x1, .i32⟩
  | 95 => ⟨S1, .i32⟩
  | 96 => ⟨S_, .i32⟩
  | 97 => ⟨S2x1000x1, .i32⟩
  | 98 => ⟨S2x1000x1, .i1⟩
  | 99 => ⟨S1x1x1, .i32⟩
  | 100 => ⟨S2x1000x1, .i32⟩
  | 101 => ⟨S2x1000x1, .i1⟩
  | 102 => ⟨S2x1000x1, .i1⟩
  | 103 => ⟨S_, .i1⟩
  | 104 => ⟨S2x1000, .i1⟩
  | 105 => ⟨S2x1000x4, .f32⟩
  | 106 => ⟨S2x1000x4, .i1⟩
  | 107 => ⟨S_, .f32⟩
  | 108 => ⟨S2x1000x4, .f32⟩
  | 109 => ⟨S2x1000x4, .f32⟩
  | 110 => ⟨S2x1000x1, .i32⟩
  | 111 => ⟨S_, .i32⟩
  | 112 => ⟨S2x1000x1, .i32⟩
  | 113 => ⟨S2x1000x1, .i1⟩
  | 114 => ⟨S_, .i32⟩
  | 115 => ⟨S2x1000x1, .i32⟩
  | 116 => ⟨S2x1000x1, .i32⟩
  | 117 => ⟨S2x1000x1, .i32⟩
  | 118 => ⟨S1, .i32⟩
  | 119 => ⟨S_, .i32⟩
  | 120 => ⟨S2x1000x1, .i32⟩
  | 121 => ⟨S2x1000x1, .i1⟩
  | 122 => ⟨S1x1x1, .i32⟩
  | 123 => ⟨S2x1000x1, .i32⟩
  | 124 => ⟨S2x1000x1, .i1⟩
  | 125 => ⟨S2x1000x1, .i1⟩
  | 126 => ⟨S_, .i1⟩
  | 127 => ⟨S2x1000, .i1⟩
  | _ => ⟨S2x720x64x64, .f32⟩

abbrev hbmTy0_1 (i : Nat) : BufTy := match i % 128 with
  | 0 => ⟨S2x1000x4, .f32⟩
  | 1 => ⟨S2x1000x4, .i1⟩
  | 2 => ⟨S_, .f32⟩
  | 3 => ⟨S2x1000x4, .f32⟩
  | 4 => ⟨S2x1000x4, .f32⟩
  | 5 => ⟨S2x1000x1, .f32⟩
  | 6 => ⟨S2x1000, .f32⟩
  | 7 => ⟨S2x1000x1, .f32⟩
  | 8 => ⟨S2x1000, .f32⟩
  | 9 => ⟨S2x1000, .f32⟩
  | 10 => ⟨S_, .f32⟩
  | 11 => ⟨S2x1000, .f32⟩
  | 12 => ⟨S2x1000, .f32⟩
  | 13 => ⟨S2x1000x1, .f32⟩
  | 14 => ⟨S2x1000, .f32⟩
  | 15 => ⟨S2x1000x1, .f32⟩
  | 16 => ⟨S2x1000, .f32⟩
  | 17 => ⟨S2x1000, .f32⟩
  | 18 => ⟨S_, .f32⟩
  | 19 => ⟨S2x1000, .f32⟩
  | 20 => ⟨S2x1000, .f32⟩
  | 21 => ⟨S2x1000x1, .f32⟩
  | 22 => ⟨S2x1000, .f32⟩
  | 23 => ⟨S_, .f32⟩
  | 24 => ⟨S2x1000, .f32⟩
  | 25 => ⟨S2x1000, .f32⟩
  | 26 => ⟨S2x1000, .f32⟩
  | 27 => ⟨S2x1000x1, .f32⟩
  | 28 => ⟨S2x1000, .f32⟩
  | 29 => ⟨S_, .f32⟩
  | 30 => ⟨S2x1000, .f32⟩
  | 31 => ⟨S2x1000, .f32⟩
  | 32 => ⟨S2x1000, .f32⟩
  | 33 => ⟨S2x1000x1, .f32⟩
  | 34 => ⟨S2x1000, .f32⟩
  | 35 => ⟨S_, .f32⟩
  | 36 => ⟨S2x1000, .f32⟩
  | 37 => ⟨S2x1000, .f32⟩
  | 38 => ⟨S2x1000x1, .f32⟩
  | 39 => ⟨S2x1000, .f32⟩
  | 40 => ⟨S_, .f32⟩
  | 41 => ⟨S2x1000, .f32⟩
  | 42 => ⟨S2x1000, .f32⟩
  | 43 => ⟨S2x1000x1, .f32⟩
  | 44 => ⟨S2x1000, .f32⟩
  | 45 => ⟨S_, .f32⟩
  | 46 => ⟨S2x1000, .f32⟩
  | 47 => ⟨S2x1000, .f32⟩
  | 48 => ⟨S_, .f32⟩
  | 49 => ⟨S2x1000, .f32⟩
  | 50 => ⟨S2x1000, .f32⟩
  | 51 => ⟨S2x1000x1, .f32⟩
  | 52 => ⟨S2x1000, .f32⟩
  | 53 => ⟨S_, .f32⟩
  | 54 => ⟨S2x1000, .f32⟩
  | 55 => ⟨S2x1000, .f32⟩
  | 56 => ⟨S_, .f32⟩
  | 57 => ⟨S2x1000, .f32⟩
  | 58 => ⟨S2x1000, .f32⟩
  | 59 => ⟨S2x1000, .f32⟩
  | 60 => ⟨S2x1000, .f32⟩
  | 61 => ⟨S2x1000, .f32⟩
  | 62 => ⟨S2x1000, .f32⟩
  | 63 => ⟨S2x1000, .f32⟩
  | 64 => ⟨S2x1000, .f32⟩
  | 65 => ⟨S2x1000, .f32⟩
  | 66 => ⟨S2x1000, .f32⟩
  | 67 => ⟨S_, .f32⟩
  | 68 => ⟨S2x1000, .f32⟩
  | 69 => ⟨S2x1000, .f32⟩
  | 70 => ⟨S2x1000, .f32⟩
  | 71 => ⟨S_, .f32⟩
  | 72 => ⟨S2x1000, .f32⟩
  | 73 => ⟨S2x1000, .f32⟩
  | 74 => ⟨S2x1000, .f32⟩
  | 75 => ⟨S_, .f32⟩
  | 76 => ⟨S2x1000, .f32⟩
  | 77 => ⟨S2x1000, .f32⟩
  | 78 => ⟨S2x1000, .f32⟩
  | 79 => ⟨S_, .f32⟩
  | 80 => ⟨S2x1000, .f32⟩
  | 81 => ⟨S2x1000, .f32⟩
  | 82 => ⟨S_, .f32⟩
  | 83 => ⟨S2x1000, .f32⟩
  | 84 => ⟨S2x1000, .f32⟩
  | 85 => ⟨S2x1000, .f32⟩
  | 86 => ⟨S_, .f32⟩
  | 87 => ⟨S2x1000, .f32⟩
  | 88 => ⟨S2x1000, .f32⟩
  | 89 => ⟨S2x1000x1, .f32⟩
  | 90 => ⟨S2x1000x1, .f32⟩
  | 91 => ⟨S2x1000x1, .f32⟩
  | 92 => ⟨S2x1000x1, .f32⟩
  | 93 => ⟨S2x1000x4, .f32⟩
  | 94 => ⟨S2x1000x1, .f32⟩
  | 95 => ⟨S2x1000, .f32⟩
  | 96 => ⟨S_, .f32⟩
  | 97 => ⟨S_, .f32⟩
  | 98 => ⟨S_, .f32⟩
  | 99 => ⟨S2x1000, .f32⟩
  | 100 => ⟨S2x1000, .f32⟩
  | 101 => ⟨S_, .f32⟩
  | 102 => ⟨S2x1000, .f32⟩
  | 103 => ⟨S2x1000, .f32⟩
  | 104 => ⟨S2x1000x1, .f32⟩
  | 105 => ⟨S2x1000, .f32⟩
  | 106 => ⟨S_, .f32⟩
  | 107 => ⟨S_, .f32⟩
  | 108 => ⟨S_, .f32⟩
  | 109 => ⟨S2x1000, .f32⟩
  | 110 => ⟨S2x1000, .f32⟩
  | 111 => ⟨S_, .f32⟩
  | 112 => ⟨S2x1000, .f32⟩
  | 113 => ⟨S2x1000, .f32⟩
  | 114 => ⟨S2x1000x1, .f32⟩
  | 115 => ⟨S2x1000, .f32⟩
  | 116 => ⟨S_, .f32⟩
  | 117 => ⟨S_, .f32⟩
  | 118 => ⟨S_, .f32⟩
  | 119 => ⟨S2x1000, .f32⟩
  | 120 => ⟨S2x1000, .f32⟩
  | 121 => ⟨S_, .f32⟩
  | 122 => ⟨S2x1000, .f32⟩
  | 123 => ⟨S2x1000, .f32⟩
  | 124 => ⟨S2x1000x1, .f32⟩
  | 125 => ⟨S2x1000, .f32⟩
  | 126 => ⟨S_, .f32⟩
  | 127 => ⟨S_, .f32⟩
  | _ => ⟨S2x720x64x64, .f32⟩

abbrev hbmTy0_2 (i : Nat) : BufTy := match i % 128 with
  | 0 => ⟨S_, .f32⟩
  | 1 => ⟨S2x1000, .f32⟩
  | 2 => ⟨S2x1000, .f32⟩
  | 3 => ⟨S_, .f32⟩
  | 4 => ⟨S2x1000, .f32⟩
  | 5 => ⟨S2x1000, .f32⟩
  | 6 => ⟨S2x1000x1, .f32⟩
  | 7 => ⟨S2x1000x1, .f32⟩
  | 8 => ⟨S2x1000x1, .f32⟩
  | 9 => ⟨S2x1000x1, .f32⟩
  | 10 => ⟨S2x1000x4, .f32⟩
  | 11 => ⟨S2x1000x1, .f32⟩
  | 12 => ⟨S2x1000, .f32⟩
  | 13 => ⟨S2x1000x1, .f32⟩
  | 14 => ⟨S2x1000, .f32⟩
  | 15 => ⟨S2x1000, .f32⟩
  | 16 => ⟨S_, .f32⟩
  | 17 => ⟨S2x1000, .f32⟩
  | 18 => ⟨S2x1000, .f32⟩
  | 19 => ⟨S2x1000x1, .f32⟩
  | 20 => ⟨S2x1000, .f32⟩
  | 21 => ⟨S2x1000x1, .f32⟩
  | 22 => ⟨S2x1000, .f32⟩
  | 23 => ⟨S2x1000, .f32⟩
  | 24 => ⟨S_, .f32⟩
  | 25 => ⟨S2x1000, .f32⟩
  | 26 => ⟨S2x1000, .f32⟩
  | 27 => ⟨S_, .f32⟩
  | 28 => ⟨S2x1000, .f32⟩
  | 29 => ⟨S2x1000, .i1⟩
  | 30 => ⟨S_, .f32⟩
  | 31 => ⟨S2x1000, .f32⟩
  | 32 => ⟨S2x1000, .i1⟩
  | 33 => ⟨S2x1000, .i1⟩
  | 34 => ⟨S_, .f32⟩
  | 35 => ⟨S2x1000, .f32⟩
  | 36 => ⟨S2x1000, .i1⟩
  | 37 => ⟨S2x1000, .i1⟩
  | 38 => ⟨S_, .f32⟩
  | 39 => ⟨S_, .f32⟩
  | 40 => ⟨S2x1000, .f32⟩
  | 41 => ⟨S2x1000, .f32⟩
  | 42 => ⟨S2x1000, .f32⟩
  | 43 => ⟨S_, .f32⟩
  | 44 => ⟨S2x1000, .f32⟩
  | 45 => ⟨S2x1000, .f32⟩
  | 46 => ⟨S2x1000x1, .f32⟩
  | 47 => ⟨S2x1000x4, .f32⟩
  | 48 => ⟨S2x1000x4, .f32⟩
  | 49 => ⟨S2x1000x1, .f32⟩
  | 50 => ⟨S2x1000, .f32⟩
  | 51 => ⟨S2x1000x1, .f32⟩
  | 52 => ⟨S2x1000, .f32⟩
  | 53 => ⟨S2x1000, .f32⟩
  | 54 => ⟨S_, .f32⟩
  | 55 => ⟨S2x1000, .f32⟩
  | 56 => ⟨S2x1000, .f32⟩
  | 57 => ⟨S_, .f32⟩
  | 58 => ⟨S_, .f32⟩
  | 59 => ⟨S2x1000, .f32⟩
  | 60 => ⟨S2x1000, .f32⟩
  | 61 => ⟨S2x1000x1, .f32⟩
  | 62 => ⟨S2x1000, .f32⟩
  | 63 => ⟨S2x1000x1, .f32⟩
  | 64 => ⟨S2x1000, .f32⟩
  | 65 => ⟨S2x1000, .f32⟩
  | 66 => ⟨S_, .f32⟩
  | 67 => ⟨S2x1000, .f32⟩
  | 68 => ⟨S2x1000, .f32⟩
  | 69 => ⟨S_, .f32⟩
  | 70 => ⟨S_, .f32⟩
  | 71 => ⟨S2x1000, .f32⟩
  | 72 => ⟨S2x1000, .f32⟩
  | 73 => ⟨S2x1000, .f32⟩
  | 74 => ⟨S2x1000x2, .f32⟩
  | 75 => ⟨S2x1000x1x2, .f32⟩
  | 76 => ⟨S2x1000x2, .f32⟩
  | 77 => ⟨S2x1x1000x2, .f32⟩
  | 78 => ⟨S2x1000x1000x2, .f32⟩
  | 79 => ⟨S2x1000x1000x2, .f32⟩
  | 80 => ⟨S2x1000x1000x2, .f32⟩
  | 81 => ⟨S2x1000x2, .f32⟩
  | 82 => ⟨S2x1000x1x2, .f32⟩
  | 83 => ⟨S2x1000x2, .f32⟩
  | 84 => ⟨S2x1x1000x2, .f32⟩
  | 85 => ⟨S2x1000x1000x2, .f32⟩
  | 86 => ⟨S2x1000x1000x2, .f32⟩
  | 87 => ⟨S2x1000x1000x2, .f32⟩
  | 88 => ⟨S2x1000x1000x2, .f32⟩
  | 89 => ⟨S_, .f32⟩
  | 90 => ⟨S2x1000x1000x2, .f32⟩
  | 91 => ⟨S2x1000x1000x2, .f32⟩
  | 92 => ⟨S_, .f32⟩
  | 93 => ⟨S_, .f32⟩
  | 94 => ⟨S2x1000x1000x2, .f32⟩
  | 95 => ⟨S2x1000x1000x2, .f32⟩
  | 96 => ⟨S2x1000x1000x1, .f32⟩
  | 97 => ⟨S2x1000x1000, .f32⟩
  | 98 => ⟨S2x1000x1000x1, .f32⟩
  | 99 => ⟨S2x1000x1000, .f32⟩
  | 100 => ⟨S2x1000x1000, .f32⟩
  | 101 => ⟨S2x1000x1, .f32⟩
  | 102 => ⟨S2x1x1000, .f32⟩
  | 103 => ⟨S2x1000x1000, .f32⟩
  | 104 => ⟨S2x1000x1000, .f32⟩
  | 105 => ⟨S2x1000x1000, .f32⟩
  | 106 => ⟨S2x1000x1000, .f32⟩
  | 107 => ⟨S_, .f32⟩
  | 108 => ⟨S2x1000x1000, .f32⟩
  | 109 => ⟨S2x1000x1000, .f32⟩
  | 110 => ⟨S2x1000x1000, .f32⟩
  | 111 => ⟨S2x1x1000, .f32⟩
  | 112 => ⟨S2x1000x1, .f32⟩
  | 113 => ⟨S2x1000x1000, .f32⟩
  | 114 => ⟨S2x1000x1000, .f32⟩
  | 115 => ⟨S2x1000x1000, .i1⟩
  | 116 => ⟨S_, .f32⟩
  | 117 => ⟨S2x1000x1000, .f32⟩
  | 118 => ⟨S2x1000x1000, .i1⟩
  | 119 => ⟨S2x1000x1000, .i1⟩
  | 120 => ⟨S_, .i1⟩
  | 121 => ⟨S2x1000, .i1⟩
  | 122 => ⟨S2x1000, .i1⟩
  | 123 => ⟨S2x1000, .i1⟩
  | 124 => ⟨S_, .f32⟩
  | 125 => ⟨S_, .f32⟩
  | 126 => ⟨S2x1000, .f32⟩
  | 127 => ⟨S2x1000, .f32⟩
  | _ => ⟨S2x720x64x64, .f32⟩

abbrev hbmTy0_3 (i : Nat) : BufTy := match i % 128 with
  | 0 => ⟨S2x100, .f32⟩
  | 1 => ⟨S2x100, .i32⟩
  | 2 => ⟨S2x100x1, .i32⟩
  | 3 => ⟨S_, .i32⟩
  | 4 => ⟨S2x100x1, .i32⟩
  | 5 => ⟨S2x100x1, .i1⟩
  | 6 => ⟨S_, .i32⟩
  | 7 => ⟨S2x100x1, .i32⟩
  | 8 => ⟨S2x100x1, .i32⟩
  | 9 => ⟨S2x100x1, .i32⟩
  | 10 => ⟨S1, .i32⟩
  | 11 => ⟨S_, .i32⟩
  | 12 => ⟨S2x100x1, .i32⟩
  | 13 => ⟨S2x100x1, .i1⟩
  | 14 => ⟨S1x1x1, .i32⟩
  | 15 => ⟨S2x100x1, .i32⟩
  | 16 => ⟨S2x100x1, .i1⟩
  | 17 => ⟨S2x100x1, .i1⟩
  | 18 => ⟨S_, .i1⟩
  | 19 => ⟨S2x100, .i1⟩
  | 20 => ⟨S2x100x4, .f32⟩
  | 21 => ⟨S2x100x4, .i1⟩
  | 22 => ⟨S_, .f32⟩
  | 23 => ⟨S2x100x4, .f32⟩
  | 24 => ⟨S2x100x4, .f32⟩
  | 25 => ⟨S_, .i32⟩
  | 26 => ⟨S2x100, .i32⟩
  | 27 => ⟨S2x100, .i1⟩
  | 28 => ⟨S_, .i32⟩
  | 29 => ⟨S2x100, .i32⟩
  | 30 => ⟨S2x100, .i32⟩
  | 31 => ⟨S2x100, .i32⟩
  | 32 => ⟨S2x100x1, .i32⟩
  | 33 => ⟨S1, .i32⟩
  | 34 => ⟨S_, .i32⟩
  | 35 => ⟨S2x100x1, .i32⟩
  | 36 => ⟨S2x100x1, .i1⟩
  | 37 => ⟨S1x1x1, .i32⟩
  | 38 => ⟨S2x100x1, .i32⟩
  | 39 => ⟨S2x100x1, .i1⟩
  | 40 => ⟨S2x100x1, .i1⟩
  | 41 => ⟨S_, .i1⟩
  | 42 => ⟨S2x100, .i1⟩
  | 43 => ⟨S2x100, .i32⟩
  | 44 => ⟨S_, .i32⟩
  | 45 => ⟨S2x100, .i32⟩
  | 46 => ⟨S2x100, .i32⟩
  | 47 => ⟨S2x100x1, .f32⟩
  | 48 => ⟨S2x100, .f32⟩
  | 49 => ⟨S2x100x1, .f32⟩
  | 50 => ⟨S2x100x6, .f32⟩
  | _ => ⟨S2x720x64x64, .f32⟩

abbrev hbmTy (i : Nat) : BufTy := match i / 128 with
  | 0 => hbmTy0_0 i
  | 1 => hbmTy0_1 i
  | 2 => hbmTy0_2 i
  | 3 => hbmTy0_3 i
  | _ => ⟨S2x720x64x64, .f32⟩

abbrev bufTy : (tb : Table) → Fin (tcTables nBuf tb) → BufTy
  | .hbm, ⟨i, _⟩ => hbmTy i
  | _, _ => ⟨S2x720x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v28 : Ref sig .tc := ⟨.hbm, 40, rfl⟩
abbrev main_v29 : Ref sig .tc := ⟨.hbm, 41, rfl⟩
abbrev main_values : Ref sig .tc := ⟨.hbm, 42, rfl⟩
abbrev main_indices : Ref sig .tc := ⟨.hbm, 43, rfl⟩
abbrev main_c : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v30 : Ref sig .tc := ⟨.hbm, 61, rfl⟩
abbrev main_c_5 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v31 : Ref sig .tc := ⟨.hbm, 83, rfl⟩
abbrev main_c_6 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_c_1 : Ref sig .tc := ⟨.hbm, 95, rfl⟩
abbrev main_call3_c_2 : Ref sig .tc := ⟨.hbm, 96, rfl⟩
abbrev main_call3_v5 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_c_3 : Ref sig .tc := ⟨.hbm, 103, rfl⟩
abbrev main_call3_v11 : Ref sig .tc := ⟨.hbm, 104, rfl⟩
abbrev main_call3_v12 : Ref sig .tc := ⟨.hbm, 105, rfl⟩
abbrev main_call3_v13 : Ref sig .tc := ⟨.hbm, 106, rfl⟩
abbrev main_call3_cst : Ref sig .tc := ⟨.hbm, 107, rfl⟩
abbrev main_call3_v14 : Ref sig .tc := ⟨.hbm, 108, rfl⟩
abbrev main_v35 : Ref sig .tc := ⟨.hbm, 109, rfl⟩
abbrev main_v36 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_c_1 : Ref sig .tc := ⟨.hbm, 118, rfl⟩
abbrev main_call4_c_2 : Ref sig .tc := ⟨.hbm, 119, rfl⟩
abbrev main_call4_v5 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_c_3 : Ref sig .tc := ⟨.hbm, 126, rfl⟩
abbrev main_call4_v11 : Ref sig .tc := ⟨.hbm, 127, rfl⟩
abbrev main_call4_v12 : Ref sig .tc := ⟨.hbm, 128, rfl⟩
abbrev main_call4_v13 : Ref sig .tc := ⟨.hbm, 129, rfl⟩
abbrev main_call4_cst : Ref sig .tc := ⟨.hbm, 130, rfl⟩
abbrev main_call4_v14 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩
abbrev main_v41 : Ref sig .tc := ⟨.hbm, 136, rfl⟩
abbrev main_v42 : Ref sig .tc := ⟨.hbm, 137, rfl⟩
abbrev main_cst_7 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_cst_8 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_cst_9 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_cst_10 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_cst_11 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_cst_12 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_cst_13 : Ref sig .tc := ⟨.hbm, 173, rfl⟩
abbrev main_v72 : Ref sig .tc := ⟨.hbm, 174, rfl⟩
abbrev main_v73 : Ref sig .tc := ⟨.hbm, 175, rfl⟩
abbrev main_cst_14 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_cst_15 : Ref sig .tc := ⟨.hbm, 181, rfl⟩
abbrev main_v78 : Ref sig .tc := ⟨.hbm, 182, rfl⟩
abbrev main_v79 : Ref sig .tc := ⟨.hbm, 183, rfl⟩
abbrev main_cst_16 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_cst_17 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_cst_18 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_cst_19 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_cst_20 : Ref sig .tc := ⟨.hbm, 207, rfl⟩
abbrev main_v99 : Ref sig .tc := ⟨.hbm, 208, rfl⟩
abbrev main_v100 : Ref sig .tc := ⟨.hbm, 209, rfl⟩
abbrev main_cst_21 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_cst_22 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_cst_23 : Ref sig .tc := ⟨.hbm, 224, rfl⟩
abbrev main_cst_24 : Ref sig .tc := ⟨.hbm, 225, rfl⟩
abbrev main_call5_v0 : Ref sig .tc := ⟨.hbm, 226, rfl⟩
abbrev main_call5_v1 : Ref sig .tc := ⟨.hbm, 227, rfl⟩
abbrev main_call5_v2 : Ref sig .tc := ⟨.hbm, 228, rfl⟩
abbrev main_call5_v3 : Ref sig .tc := ⟨.hbm, 229, rfl⟩
abbrev main_call5_v4 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_cst_25 : Ref sig .tc := ⟨.hbm, 234, rfl⟩
abbrev main_cst_26 : Ref sig .tc := ⟨.hbm, 235, rfl⟩
abbrev main_call6_v0 : Ref sig .tc := ⟨.hbm, 236, rfl⟩
abbrev main_call6_v1 : Ref sig .tc := ⟨.hbm, 237, rfl⟩
abbrev main_call6_v2 : Ref sig .tc := ⟨.hbm, 238, rfl⟩
abbrev main_call6_v3 : Ref sig .tc := ⟨.hbm, 239, rfl⟩
abbrev main_call6_v4 : Ref sig .tc := ⟨.hbm, 240, rfl⟩
abbrev main_v116 : Ref sig .tc := ⟨.hbm, 241, rfl⟩
abbrev main_v117 : Ref sig .tc := ⟨.hbm, 242, rfl⟩
abbrev main_v118 : Ref sig .tc := ⟨.hbm, 243, rfl⟩
abbrev main_cst_27 : Ref sig .tc := ⟨.hbm, 244, rfl⟩
abbrev main_cst_28 : Ref sig .tc := ⟨.hbm, 245, rfl⟩
abbrev main_call7_v0 : Ref sig .tc := ⟨.hbm, 246, rfl⟩
abbrev main_call7_v1 : Ref sig .tc := ⟨.hbm, 247, rfl⟩
abbrev main_call7_v2 : Ref sig .tc := ⟨.hbm, 248, rfl⟩
abbrev main_call7_v3 : Ref sig .tc := ⟨.hbm, 249, rfl⟩
abbrev main_call7_v4 : Ref sig .tc := ⟨.hbm, 250, rfl⟩
abbrev main_v119 : Ref sig .tc := ⟨.hbm, 251, rfl⟩
abbrev main_v120 : Ref sig .tc := ⟨.hbm, 252, rfl⟩
abbrev main_v121 : Ref sig .tc := ⟨.hbm, 253, rfl⟩
abbrev main_cst_29 : Ref sig .tc := ⟨.hbm, 254, rfl⟩
abbrev main_cst_30 : Ref sig .tc := ⟨.hbm, 255, rfl⟩
abbrev main_call8_v0 : Ref sig .tc := ⟨.hbm, 256, rfl⟩
abbrev main_call8_v1 : Ref sig .tc := ⟨.hbm, 257, rfl⟩
abbrev main_call8_v2 : Ref sig .tc := ⟨.hbm, 258, rfl⟩
abbrev main_call8_v3 : Ref sig .tc := ⟨.hbm, 259, rfl⟩
abbrev main_call8_v4 : Ref sig .tc := ⟨.hbm, 260, rfl⟩
abbrev main_v122 : Ref sig .tc := ⟨.hbm, 261, rfl⟩
abbrev main_v123 : Ref sig .tc := ⟨.hbm, 262, rfl⟩
abbrev main_v124 : Ref sig .tc := ⟨.hbm, 263, rfl⟩
abbrev main_v125 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩
abbrev main_cst_31 : Ref sig .tc := ⟨.hbm, 272, rfl⟩
abbrev main_v133 : Ref sig .tc := ⟨.hbm, 273, rfl⟩
abbrev main_v134 : Ref sig .tc := ⟨.hbm, 274, rfl⟩
abbrev main_v135 : Ref sig .tc := ⟨.hbm, 275, rfl⟩
abbrev main_v136 : Ref sig .tc := ⟨.hbm, 276, rfl⟩
abbrev main_v137 : Ref sig .tc := ⟨.hbm, 277, rfl⟩
abbrev main_v138 : Ref sig .tc := ⟨.hbm, 278, rfl⟩
abbrev main_v139 : Ref sig .tc := ⟨.hbm, 279, rfl⟩
abbrev main_cst_32 : Ref sig .tc := ⟨.hbm, 280, rfl⟩
abbrev main_v140 : Ref sig .tc := ⟨.hbm, 281, rfl⟩
abbrev main_v141 : Ref sig .tc := ⟨.hbm, 282, rfl⟩
abbrev main_cst_33 : Ref sig .tc := ⟨.hbm, 283, rfl⟩
abbrev main_v142 : Ref sig .tc := ⟨.hbm, 284, rfl⟩
abbrev main_v143 : Ref sig .tc := ⟨.hbm, 285, rfl⟩
abbrev main_cst_34 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩
abbrev main_cst_35 : Ref sig .tc := ⟨.hbm, 290, rfl⟩
abbrev main_v147 : Ref sig .tc := ⟨.hbm, 291, rfl⟩
abbrev main_v148 : Ref sig .tc := ⟨.hbm, 292, rfl⟩
abbrev main_v149 : Ref sig .tc := ⟨.hbm, 293, rfl⟩
abbrev main_cst_36 : Ref sig .tc := ⟨.hbm, 294, rfl⟩
abbrev main_call9_v0 : Ref sig .tc := ⟨.hbm, 295, rfl⟩
abbrev main_call9_v1 : Ref sig .tc := ⟨.hbm, 296, rfl⟩
abbrev main_v150 : Ref sig .tc := ⟨.hbm, 297, rfl⟩
abbrev main_v151 : Ref sig .tc := ⟨.hbm, 298, rfl⟩
abbrev main_cst_37 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_v156 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_cst_38 : Ref sig .tc := ⟨.hbm, 310, rfl⟩
abbrev main_v162 : Ref sig .tc := ⟨.hbm, 311, rfl⟩
abbrev main_v163 : Ref sig .tc := ⟨.hbm, 312, rfl⟩
abbrev main_cst_39 : Ref sig .tc := ⟨.hbm, 313, rfl⟩
abbrev main_call10_v0 : Ref sig .tc := ⟨.hbm, 314, rfl⟩
abbrev main_call10_v1 : Ref sig .tc := ⟨.hbm, 315, rfl⟩
abbrev main_v164 : Ref sig .tc := ⟨.hbm, 316, rfl⟩
abbrev main_v165 : Ref sig .tc := ⟨.hbm, 317, rfl⟩
abbrev main_v166 : Ref sig .tc := ⟨.hbm, 318, rfl⟩
abbrev main_v167 : Ref sig .tc := ⟨.hbm, 319, rfl⟩
abbrev main_v168 : Ref sig .tc := ⟨.hbm, 320, rfl⟩
abbrev main_v169 : Ref sig .tc := ⟨.hbm, 321, rfl⟩
abbrev main_cst_40 : Ref sig .tc := ⟨.hbm, 322, rfl⟩
abbrev main_v170 : Ref sig .tc := ⟨.hbm, 323, rfl⟩
abbrev main_v171 : Ref sig .tc := ⟨.hbm, 324, rfl⟩
abbrev main_cst_41 : Ref sig .tc := ⟨.hbm, 325, rfl⟩
abbrev main_call11_v0 : Ref sig .tc := ⟨.hbm, 326, rfl⟩
abbrev main_call11_v1 : Ref sig .tc := ⟨.hbm, 327, rfl⟩
abbrev main_v172 : Ref sig .tc := ⟨.hbm, 328, rfl⟩
abbrev main_v173 : Ref sig .tc := ⟨.hbm, 329, rfl⟩
abbrev main_v174 : Ref sig .tc := ⟨.hbm, 330, rfl⟩
abbrev main_v175 : Ref sig .tc := ⟨.hbm, 331, rfl⟩
abbrev main_v176 : Ref sig .tc := ⟨.hbm, 332, rfl⟩
abbrev main_v177 : Ref sig .tc := ⟨.hbm, 333, rfl⟩
abbrev main_v178 : Ref sig .tc := ⟨.hbm, 334, rfl⟩
abbrev main_v179 : Ref sig .tc := ⟨.hbm, 335, rfl⟩
abbrev main_v180 : Ref sig .tc := ⟨.hbm, 336, rfl⟩
abbrev main_v181 : Ref sig .tc := ⟨.hbm, 337, rfl⟩
abbrev main_v182 : Ref sig .tc := ⟨.hbm, 338, rfl⟩
abbrev main_v183 : Ref sig .tc := ⟨.hbm, 339, rfl⟩
abbrev main_v184 : Ref sig .tc := ⟨.hbm, 340, rfl⟩
abbrev main_v185 : Ref sig .tc := ⟨.hbm, 341, rfl⟩
abbrev main_v186 : Ref sig .tc := ⟨.hbm, 342, rfl⟩
abbrev main_v187 : Ref sig .tc := ⟨.hbm, 343, rfl⟩
abbrev main_v188 : Ref sig .tc := ⟨.hbm, 344, rfl⟩
abbrev main_cst_42 : Ref sig .tc := ⟨.hbm, 345, rfl⟩
abbrev main_v189 : Ref sig .tc := ⟨.hbm, 346, rfl⟩
abbrev main_v190 : Ref sig .tc := ⟨.hbm, 347, rfl⟩
abbrev main_cst_43 : Ref sig .tc := ⟨.hbm, 348, rfl⟩
abbrev main_call12_v0 : Ref sig .tc := ⟨.hbm, 349, rfl⟩
abbrev main_call12_v1 : Ref sig .tc := ⟨.hbm, 350, rfl⟩
abbrev main_v191 : Ref sig .tc := ⟨.hbm, 351, rfl⟩
abbrev main_v192 : Ref sig .tc := ⟨.hbm, 352, rfl⟩
abbrev main_v193 : Ref sig .tc := ⟨.hbm, 353, rfl⟩
abbrev main_v194 : Ref sig .tc := ⟨.hbm, 354, rfl⟩
abbrev main_v195 : Ref sig .tc := ⟨.hbm, 355, rfl⟩
abbrev main_v196 : Ref sig .tc := ⟨.hbm, 356, rfl⟩
abbrev main_v197 : Ref sig .tc := ⟨.hbm, 357, rfl⟩
abbrev main_v198 : Ref sig .tc := ⟨.hbm, 358, rfl⟩
abbrev main_v199 : Ref sig .tc := ⟨.hbm, 359, rfl⟩
abbrev main_v200 : Ref sig .tc := ⟨.hbm, 360, rfl⟩
abbrev main_v201 : Ref sig .tc := ⟨.hbm, 361, rfl⟩
abbrev main_v202 : Ref sig .tc := ⟨.hbm, 362, rfl⟩
abbrev main_cst_44 : Ref sig .tc := ⟨.hbm, 363, rfl⟩
abbrev main_v203 : Ref sig .tc := ⟨.hbm, 364, rfl⟩
abbrev main_v204 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_cst_45 : Ref sig .tc := ⟨.hbm, 372, rfl⟩
abbrev main_v211 : Ref sig .tc := ⟨.hbm, 373, rfl⟩
abbrev main_v212 : Ref sig .tc := ⟨.hbm, 374, rfl⟩
abbrev main_v213 : Ref sig .tc := ⟨.hbm, 375, rfl⟩
abbrev main_c_46 : Ref sig .tc := ⟨.hbm, 376, rfl⟩
abbrev main_v214 : Ref sig .tc := ⟨.hbm, 377, rfl⟩
abbrev main_v215 : Ref sig .tc := ⟨.hbm, 378, rfl⟩
abbrev main_v216 : Ref sig .tc := ⟨.hbm, 379, rfl⟩
abbrev main_cst_47 : Ref sig .tc := ⟨.hbm, 380, rfl⟩
abbrev main_call13_v0 : Ref sig .tc := ⟨.hbm, 381, rfl⟩
abbrev main_call13_v1 : Ref sig .tc := ⟨.hbm, 382, rfl⟩
abbrev main_v217 : Ref sig .tc := ⟨.hbm, 383, rfl⟩
abbrev main_values_48 : Ref sig .tc := ⟨.hbm, 384, rfl⟩
abbrev main_indices_49 : Ref sig .tc := ⟨.hbm, 385, rfl⟩
abbrev main_v218 : Ref sig .tc := ⟨.hbm, 386, rfl⟩
abbrev main_call14_c : Ref sig .tc := ⟨.hbm, 387, rfl⟩
abbrev main_call14_v0 : Ref sig .tc := ⟨.hbm, 388, rfl⟩
abbrev main_call14_v1 : Ref sig .tc := ⟨.hbm, 389, rfl⟩
abbrev main_call14_c_0 : Ref sig .tc := ⟨.hbm, 390, rfl⟩
abbrev main_call14_v2 : Ref sig .tc := ⟨.hbm, 391, rfl⟩
abbrev main_call14_v3 : Ref sig .tc := ⟨.hbm, 392, rfl⟩
abbrev main_call14_v4 : Ref sig .tc := ⟨.hbm, 393, rfl⟩
abbrev main_call14_c_1 : Ref sig .tc := ⟨.hbm, 394, rfl⟩
abbrev main_call14_c_2 : Ref sig .tc := ⟨.hbm, 395, rfl⟩
abbrev main_call14_v5 : Ref sig .tc := ⟨.hbm, 396, rfl⟩
abbrev main_call14_v6 : Ref sig .tc := ⟨.hbm, 397, rfl⟩
abbrev main_call14_v7 : Ref sig .tc := ⟨.hbm, 398, rfl⟩
abbrev main_call14_v8 : Ref sig .tc := ⟨.hbm, 399, rfl⟩
abbrev main_call14_v9 : Ref sig .tc := ⟨.hbm, 400, rfl⟩
abbrev main_call14_v10 : Ref sig .tc := ⟨.hbm, 401, rfl⟩
abbrev main_call14_c_3 : Ref sig .tc := ⟨.hbm, 402, rfl⟩
abbrev main_call14_v11 : Ref sig .tc := ⟨.hbm, 403, rfl⟩
abbrev main_call14_v12 : Ref sig .tc := ⟨.hbm, 404, rfl⟩
abbrev main_call14_v13 : Ref sig .tc := ⟨.hbm, 405, rfl⟩
abbrev main_call14_cst : Ref sig .tc := ⟨.hbm, 406, rfl⟩
abbrev main_call14_v14 : Ref sig .tc := ⟨.hbm, 407, rfl⟩
abbrev main_v219 : Ref sig .tc := ⟨.hbm, 408, rfl⟩
abbrev main_call15_c : Ref sig .tc := ⟨.hbm, 409, rfl⟩
abbrev main_call15_v0 : Ref sig .tc := ⟨.hbm, 410, rfl⟩
abbrev main_call15_v1 : Ref sig .tc := ⟨.hbm, 411, rfl⟩
abbrev main_call15_c_0 : Ref sig .tc := ⟨.hbm, 412, rfl⟩
abbrev main_call15_v2 : Ref sig .tc := ⟨.hbm, 413, rfl⟩
abbrev main_call15_v3 : Ref sig .tc := ⟨.hbm, 414, rfl⟩
abbrev main_call15_v4 : Ref sig .tc := ⟨.hbm, 415, rfl⟩
abbrev main_call15_v5 : Ref sig .tc := ⟨.hbm, 416, rfl⟩
abbrev main_call15_c_1 : Ref sig .tc := ⟨.hbm, 417, rfl⟩
abbrev main_call15_c_2 : Ref sig .tc := ⟨.hbm, 418, rfl⟩
abbrev main_call15_v6 : Ref sig .tc := ⟨.hbm, 419, rfl⟩
abbrev main_call15_v7 : Ref sig .tc := ⟨.hbm, 420, rfl⟩
abbrev main_call15_v8 : Ref sig .tc := ⟨.hbm, 421, rfl⟩
abbrev main_call15_v9 : Ref sig .tc := ⟨.hbm, 422, rfl⟩
abbrev main_call15_v10 : Ref sig .tc := ⟨.hbm, 423, rfl⟩
abbrev main_call15_v11 : Ref sig .tc := ⟨.hbm, 424, rfl⟩
abbrev main_call15_c_3 : Ref sig .tc := ⟨.hbm, 425, rfl⟩
abbrev main_call15_v12 : Ref sig .tc := ⟨.hbm, 426, rfl⟩
abbrev main_call15_v13 : Ref sig .tc := ⟨.hbm, 427, rfl⟩
abbrev main_call15_c_4 : Ref sig .tc := ⟨.hbm, 428, rfl⟩
abbrev main_call15_v14 : Ref sig .tc := ⟨.hbm, 429, rfl⟩
abbrev main_v220 : Ref sig .tc := ⟨.hbm, 430, rfl⟩
abbrev main_v221 : Ref sig .tc := ⟨.hbm, 431, rfl⟩
abbrev main_v222 : Ref sig .tc := ⟨.hbm, 432, rfl⟩
abbrev main_v223 : Ref sig .tc := ⟨.hbm, 433, rfl⟩
abbrev main_v224 : Ref sig .tc := ⟨.hbm, 434, rfl⟩

abbrev nD : Nat := 1
abbrev τ : Topo := Topo.v7x

variable {F : FTy → Type} [FloatOps F]
-- ==== Proof.Frames.lean ====
/- The frames of the certificate: each program runs, leaves its arguments as they were and ends with every semaphore
   counter at zero. The kernel's two are the generated launch; the reference has no kernel and no semaphore. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

/-- The reference, at the ideal instance, runs, keeps its four arguments, and has no semaphore to leave raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Run.lean ====
/- The kernel's run, read at its result: every execution ends with the value the host operations and the two regions
   leave in the result's buffer, and with the arguments as they were. -/
module

public import proofs.«01_k».proof.Proof.Gen.KernelIdeal.Frame

@[expose] public section

set_option maxRecDepth 16384

noncomputable section

namespace Cert.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run ends with the last host state's value in the result's buffer and the four arguments unchanged. -/
theorem kernel_run : θ_run defs (onTc (τ := τ) (main (F := F))) ⟨m, fun _ => 0, ρ⟩ (fun r => ∀ c : Dev nD,
      r.2.mem ((c.tc : Thread nD τ).loc main_v184) = W38 m ρ c (Proc.devRef .tc main_v184)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W38 m ρ c b)
    (hfin := fun c s' => by
      iintro ⟨⟨Hh, -⟩, HSI⟩
      unfold StableHlo.held
      imodintro
      iapply (pointsTo_read_all (Pipeline.ucRefs τ sig) (fun b => (((c : Thread nD τ)).1, b)) (W38 m ρ c) s')
      isplitl [Hh] <;> iassumption)
    (hQ := fun s h hz => fun c =>
      ⟨h c _ (mem_uc main_v184 (by decide)),
       (h c _ (mem_uc main_arg0 (by decide))).trans (W38_main_arg0 m ρ c),
       (h c _ (mem_uc main_arg1 (by decide))).trans (W38_main_arg1 m ρ c),
       (h c _ (mem_uc main_arg2 (by decide))).trans (W38_main_arg2 m ρ c),
       (h c _ (mem_uc main_arg3 (by decide))).trans (W38_main_arg3 m ρ c)⟩)

end Cert.Nms
-- ==== Proof.Rank.lean ====
/- The position of an entry in a row sorted by decreasing value, equal entries in index order: `rank`. -/
module

public import Idealize.ShloMosaic.Lib.SortFacts
public import Mathlib.Data.Fintype.Card
public import Mathlib.Data.EReal.Basic

@[expose] public section

namespace Cert.Nms

open Finset

variable {α : Type} [LinearOrder α] {n : ℕ}

/-- Entry `k` of the row comes strictly before entry `j`: it is larger, or equal and earlier. -/
def Before (f : Fin n → α) (k j : Fin n) : Prop := f j < f k ∨ (f k = f j ∧ k < j)

instance (f : Fin n → α) (k j : Fin n) : Decidable (Before f k j) := by unfold Before; infer_instance

/-- No place comes before itself. -/
theorem before_irrefl (f : Fin n → α) (j : Fin n) : ¬ Before f j j := by
  rintro (h | h)
  · exact lt_irrefl _ h
  · exact lt_irrefl _ h.2

/-- Coming before is transitive. -/
theorem before_trans (f : Fin n → α) {a b c : Fin n} (h : Before f a b) (h' : Before f b c) : Before f a c := by
  rcases h with h | ⟨h, i⟩ <;> rcases h' with h' | ⟨h', i'⟩
  · exact .inl (h'.trans h)
  · exact .inl (h' ▸ h)
  · exact .inl (h ▸ h')
  · exact .inr ⟨h.trans h', i.trans i'⟩

/-- Of two places one comes before the other. -/
theorem before_total (f : Fin n → α) {a b : Fin n} (h : a ≠ b) : Before f a b ∨ Before f b a := by
  rcases lt_trichotomy (f a) (f b) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- How many entries come strictly before entry `j`. -/
def rank (f : Fin n → α) (j : Fin n) : ℕ := (univ.filter fun k => Before f k j).card

/-- A place that comes before has the smaller rank. -/
theorem rank_lt_of_before (f : Fin n → α) {a b : Fin n} (h : Before f a b) : rank f a < rank f b := by
  apply card_lt_card
  refine ⟨fun k hk => ?_, fun hs => ?_⟩
  · simp only [mem_filter, mem_univ, true_and] at hk ⊢
    exact before_trans f hk h
  · have := hs (mem_filter.2 ⟨mem_univ a, h⟩)
    exact before_irrefl f a (mem_filter.1 this).2

/-- Different places have different ranks. -/
theorem rank_injective (f : Fin n → α) : Function.Injective (rank f) := by
  intro a b h
  by_contra hne
  rcases before_total f hne with h1 | h1
  · exact (rank_lt_of_before f h1).ne h
  · exact (rank_lt_of_before f h1).ne h.symm

/-- Coming before is having the smaller rank. -/
theorem before_iff_rank (f : Fin n → α) {a b : Fin n} : Before f a b ↔ rank f a < rank f b := by
  refine ⟨rank_lt_of_before f, fun h => ?_⟩
  by_cases hab : a = b
  · subst hab; exact absurd h (lt_irrefl _)
  rcases before_total f hab with h1 | h1
  · exact h1
  · exact absurd (h.trans (rank_lt_of_before f h1)) (lt_irrefl _)

/-- A rank is less than the number of places. -/
theorem rank_lt (f : Fin n → α) (j : Fin n) : rank f j < n := by
  have h : (univ.filter fun k => Before f k j) ⊂ univ := by
    refine ⟨subset_univ _, fun hs => ?_⟩
    exact before_irrefl f j (mem_filter.1 (hs (mem_univ j))).2
  simpa [rank] using card_lt_card h

/-- Every position below the row's length is some entry's. -/
theorem exists_rank_eq (f : Fin n → α) {r : ℕ} (hr : r < n) : ∃ j, rank f j = r := by
  have hinj : Function.Injective (fun j : Fin n => (⟨rank f j, rank_lt f j⟩ : Fin n)) :=
    fun a b h => rank_injective f (Fin.ext_iff.1 h)
  obtain ⟨j, hj⟩ := (Finite.injective_iff_surjective.1 hinj) ⟨r, hr⟩
  exact ⟨j, Fin.ext_iff.1 hj⟩

/-- Exactly `r` entries have position below `r`. -/
theorem card_rank_lt (f : Fin n → α) {r : ℕ} (hr : r ≤ n) : (univ.filter fun j => rank f j < r).card = r := by
  rw [← card_image_of_injective _ (rank_injective f)]
  conv_rhs => rw [← card_range r]
  congr 1
  ext k
  simp only [mem_image, mem_filter, mem_univ, true_and, mem_range]
  constructor
  · rintro ⟨j, hj, rfl⟩; exact hj
  · intro hk
    obtain ⟨j, hj⟩ := exists_rank_eq f (hk.trans_le hr)
    exact ⟨j, hj ▸ hk, hj⟩

/-- A numbering of the entries in which every earlier one comes strictly before every later one numbers each by
    its position. -/
theorem rank_of_ordered (f : Fin n → α) (σ : Fin n → Fin n) (hσ : Function.Surjective σ)
    (h : ∀ i j, i < j → Before f (σ i) (σ j)) (i : Fin n) : rank f (σ i) = i := by
  have hinj : Function.Injective σ := Finite.injective_iff_surjective.2 hσ
  have : (univ.filter fun k => Before f k (σ i)) = (Finset.Iio i).image σ := by
    ext k
    simp only [mem_filter, mem_univ, true_and, mem_image, mem_Iio]
    constructor
    · intro hk
      obtain ⟨a, rfl⟩ := hσ k
      refine ⟨a, ?_, rfl⟩
      by_contra hai
      rcases (not_lt.1 hai).lt_or_eq with h1 | h1
      · exact before_irrefl f _ (before_trans f hk (h _ _ h1))
      · subst h1; exact before_irrefl f _ hk
    · rintro ⟨a, ha, rfl⟩; exact h _ _ ha
  unfold rank
  rw [this, card_image_of_injective _ hinj, Fin.card_Iio]

/-- The position of a pulled-back entry: when a strictly increasing map's range is closed under coming before,
    positions are kept. -/
theorem rank_comp (f : Fin n → α) {m : ℕ} (e : Fin m → Fin n) (he : StrictMono e)
    (hdown : ∀ q k, Before f k (e q) → ∃ q', e q' = k) (q : Fin m) : rank (fun i => f (e i)) q = rank f (e q) := by
  unfold rank
  rw [← card_image_of_injective _ he.injective]
  congr 1
  ext k
  simp only [mem_image, mem_filter, mem_univ, true_and]
  constructor
  · rintro ⟨a, ha, rfl⟩
    rcases ha with h | ⟨h, i⟩
    · exact .inl h
    · exact .inr ⟨h, he i⟩
  · intro hk
    obtain ⟨a, rfl⟩ := hdown q k hk
    refine ⟨a, ?_, rfl⟩
    rcases hk with h | ⟨h, i⟩
    · exact .inl h
    · exact .inr ⟨h, he.lt_iff_lt.1 i⟩

/-! ## A stable sort by decreasing value puts the entry of position `r` at `r` -/

open Idealize.ShloMosaic in
/-- Inserting into a list keeps it ordered: entries of the list all come after the inserted one in the row. -/
theorem pairwise_insertBefore_before (f : Fin n → α) (B : Fin n → Fin n → Bool) (hB : ∀ a b, B a b = true ↔ f b < f a)
    (a : Fin n) (l : List (Fin n)) (ha : ∀ b ∈ l, a < b) (hl : l.Pairwise (Before f)) :
    (insertBefore B a l).Pairwise (Before f) := by
  induction l with
  | nil => exact List.pairwise_singleton _ _
  | cons b l ih =>
    rw [List.pairwise_cons] at hl
    unfold insertBefore
    split
    · rename_i h
      refine List.pairwise_cons.2 ⟨fun c hc => ?_, ih (fun c hc => ha c (List.mem_cons_of_mem _ hc)) hl.2⟩
      rcases List.mem_cons.1 ((perm_insertBefore B a l).mem_iff.1 hc) with rfl | hc'
      · exact .inl ((hB _ _).1 h)
      · exact hl.1 c hc'
    · rename_i h
      have hab : Before f a b := by
        rcases (not_lt.1 (fun hh => h ((hB _ _).2 hh))).lt_or_eq with h1 | h1
        · exact .inl h1
        · exact .inr ⟨h1.symm, ha b (List.mem_cons_self ..)⟩
      refine List.pairwise_cons.2 ⟨fun c hc => ?_, List.pairwise_cons.2 hl⟩
      rcases List.mem_cons.1 hc with rfl | hc'
      · exact hab
      · exact before_trans f hab (hl.1 c hc')

open Idealize.ShloMosaic in
/-- A stable sort by value of places in rising order puts each before the next. -/
theorem pairwise_stableSort_before (f : Fin n → α) (B : Fin n → Fin n → Bool) (hB : ∀ a b, B a b = true ↔ f b < f a)
    (l : List (Fin n)) (hl : l.Pairwise (· < ·)) : (stableSort B l).Pairwise (Before f) := by
  induction l with
  | nil => exact List.Pairwise.nil
  | cons a l ih =>
    rw [List.pairwise_cons] at hl
    unfold stableSort
    exact pairwise_insertBefore_before f B hB a _ (fun b hb => hl.1 b ((perm_stableSort B l).mem_iff.1 hb)) (ih hl.2)

open Idealize.ShloMosaic in
/-- The stable sort by decreasing value puts the entry of position `r` at `r`. -/
theorem rank_sortedFrom (f : Fin n → α) (B : Fin n → Fin n → Bool) (hB : ∀ a b, B a b = true ↔ f b < f a) (r : Fin n) :
    rank f (sortedFrom B r) = r := by
  refine rank_of_ordered f (sortedFrom B) (sortedFrom_surjective B) (fun i j hij => ?_) r
  have hp : ∀ a b : Fin (sortPositions n B).length, a < b →
      Before f ((sortPositions n B).get a) ((sortPositions n B).get b) :=
    List.pairwise_iff_get.1 (pairwise_stableSort_before f B hB (List.finRange n) (List.pairwise_lt_finRange n))
  unfold sortedFrom
  exact hp _ _ (by simp only [Fin.lt_def, Fin.val_cast]; exact hij)

end Cert.Nms

end
-- ==== Proof.Words.lean ====
/- The reals that the nonnegative 32-bit float words denote: increasing in the word, and next to one another below one
   by at most 2^-24. -/
module

public import Idealize.ShloMosaic.Lib.TotalOrder
public import Idealize.ShloMosaic.Lib.IdealHost

@[expose] public section

noncomputable section

namespace Cert.Nms

open Idealize.ShloMosaic

/-- The float word `w` in units of 2^-149: significand times the power of its exponent field. -/
def units (w : ℕ) : ℕ := (w % 2 ^ 23 + if w / 2 ^ 23 = 0 then 0 else 2 ^ 23) * 2 ^ (w / 2 ^ 23 - 1)

/-- The extended real that the float word `w` denotes. -/
def wordVal (w : ℕ) : EReal := Ideal.ofBits .f32 (BitVec.ofNat 32 w)

/-- The value of a word is its number of smallest units. -/
theorem wordVal_eq {w : ℕ} (h : w < 0x7F800000) : wordVal w = (((units w : ℝ) * (2 : ℝ) ^ (-149 : ℤ) : ℝ) : EReal) := by
  have hw : (BitVec.ofNat 32 w).toNat = w := by rw [BitVec.toNat_ofNat]; omega
  have h31 : (BitVec.ofNat 32 w).extractLsb' 31 1 = 0#1 := by
    apply BitVec.eq_of_toNat_eq
    rw [BitVec.extractLsb'_toNat, hw, Nat.shiftRight_eq_div_pow]
    simp; omega
  have hex : ((BitVec.ofNat 32 w).extractLsb' 23 8).toNat = w / 2 ^ 23 := by
    rw [BitVec.extractLsb'_toNat, hw, Nat.shiftRight_eq_div_pow]; omega
  have hfr : ((BitVec.ofNat 32 w).extractLsb' 0 23).toNat = w % 2 ^ 23 := by
    rw [BitVec.extractLsb'_toNat, hw, Nat.shiftRight_eq_div_pow]; omega
  unfold wordVal
  show Ideal.ieee 8 23 (BitVec.ofNat 32 w) = _
  unfold Ideal.ieee units
  simp only [show (8 + 23 : ℕ) = 31 from rfl, h31, hex, hfr]
  rw [if_neg (by omega)]
  by_cases h0 : w / 2 ^ 23 = 0
  · rw [if_pos h0, if_pos h0, h0]
    norm_num
  · rw [if_neg h0, if_neg h0]
    congr 1
    obtain ⟨e, he⟩ : ∃ e, w / 2 ^ 23 = e + 1 := ⟨w / 2 ^ 23 - 1, by omega⟩
    rw [he]
    have : (2 : ℝ) ^ (((e + 1 : ℕ) : ℤ) - (2 ^ (8 - 1) - 1) - (23 : ℕ)) = 2 ^ e * (2 : ℝ) ^ (-149 : ℤ) := by
      rw [← zpow_natCast, ← zpow_add₀ (by norm_num)]
      congr 1; push_cast; ring
    rw [this]
    push_cast
    simp
    ring

/-- The next word is larger by the spacing at the word. -/
theorem units_succ (w : ℕ) : units (w + 1) = units w + 2 ^ (w / 2 ^ 23 - 1) := by
  unfold units
  by_cases h : w % 2 ^ 23 + 1 < 2 ^ 23
  · have h1 : (w + 1) / 2 ^ 23 = w / 2 ^ 23 := by omega
    have h2 : (w + 1) % 2 ^ 23 = w % 2 ^ 23 + 1 := by omega
    rw [h1, h2]; ring
  · have h1 : (w + 1) / 2 ^ 23 = w / 2 ^ 23 + 1 := by omega
    have h2 : (w + 1) % 2 ^ 23 = 0 := by omega
    have h3 : w % 2 ^ 23 = 2 ^ 23 - 1 := by omega
    rw [h1, h2, h3, if_neg (by omega)]
    by_cases h0 : w / 2 ^ 23 = 0
    · rw [if_pos h0, h0]; norm_num
    · rw [if_neg h0]
      obtain ⟨e, he⟩ : ∃ e, w / 2 ^ 23 = e + 1 := ⟨w / 2 ^ 23 - 1, by omega⟩
      rw [he]
      simp only [Nat.add_sub_cancel]
      ring

/-- A larger word has more units. -/
theorem units_strictMono : StrictMono units := strictMono_nat_of_lt_succ fun w => by
  rw [units_succ]; exact Nat.lt_add_of_pos_right (by positivity)

/-- A larger word has a larger value. -/
theorem wordVal_lt {a b : ℕ} (hab : a < b) (hb : b < 0x7F800000) : wordVal a < wordVal b := by
  rw [wordVal_eq hb, wordVal_eq (hab.trans hb), EReal.coe_lt_coe_iff]
  have : (units a : ℝ) < units b := by exact_mod_cast units_strictMono hab
  exact mul_lt_mul_of_pos_right this (by positivity)

/-- The word zero has the value zero. -/
theorem wordVal_zero : wordVal 0 = 0 := by
  rw [wordVal_eq (by norm_num)]; simp [units]

/-- The word 0x3F800000 has the value one. -/
theorem wordVal_one : wordVal 0x3F800000 = 1 := Ideal.ofBits_one_f32

/-- Below the word of one, neighbouring words denote reals at most 2^-24 apart. -/
theorem wordVal_succ_le {w : ℕ} (h : w < 0x3F800000) :
    ∃ x y : ℝ, wordVal w = (x : EReal) ∧ wordVal (w + 1) = (y : EReal) ∧ y ≤ x + (2 : ℝ) ^ (-24 : ℤ) := by
  refine ⟨_, _, wordVal_eq (by omega), wordVal_eq (by omega), ?_⟩
  rw [units_succ]
  push_cast
  rw [add_mul]
  have h1 : (2 : ℝ) ^ (w / 2 ^ 23 - 1) ≤ 2 ^ 125 := by
    apply pow_le_pow_right₀ (by norm_num)
    omega
  have h2 : (2 : ℝ) ^ 125 * (2 : ℝ) ^ (-149 : ℤ) = (2 : ℝ) ^ (-24 : ℤ) := by
    rw [← zpow_natCast, ← zpow_add₀ (by norm_num)]; norm_num
  have h3 : (2 : ℝ) ^ (w / 2 ^ 23 - 1) * (2 : ℝ) ^ (-149 : ℤ) ≤ (2 : ℝ) ^ (-24 : ℤ) := by
    rw [← h2]; exact mul_le_mul_of_nonneg_right h1 (by positivity)
  linarith

/-- The word 0x33800000 is 2^-24. -/
theorem ofBits_gap : Ideal.ofBits .f32 0x33800000#32 = (((2 : ℝ) ^ (-24 : ℤ) : ℝ) : EReal) := by
  have : Ideal.ofBits .f32 0x33800000#32 = wordVal 0x33800000 := rfl
  rw [this, wordVal_eq (by norm_num)]
  congr 1
  norm_num [units, zpow_neg]

end Cert.Nms

end
-- ==== Proof.Select.lean ====
/- The bisection over float words and the selection mask it gives, as mathematics over a row of extended reals: the
   mask holds exactly at the entries of position below `K` (Rank.lean). -/
module

public import proofs.«01_k».proof.Proof.Rank
public import proofs.«01_k».proof.Proof.Words

@[expose] public section

noncomputable section

namespace Cert.Nms

open Finset Idealize.ShloMosaic

variable {n : ℕ}

/-- How many entries of the row are at least `v`. -/
def countGe {ι : Type} [Fintype ι] (f : ι → EReal) (v : EReal) : ℕ := by
  classical exact (univ.filter fun j => v ≤ f j).card

/-- The count of the values that reach `v`, as the size of a set. -/
theorem countGe_eq {ι : Type} [Fintype ι] (f : ι → EReal) (v : EReal) [DecidablePred fun j => v ≤ f j] :
    countGe f v = (univ.filter fun j => v ≤ f j).card := by
  unfold countGe; congr!

/-- The count does not depend on how the places are numbered. -/
theorem countGe_equiv {ι κ : Type} [Fintype ι] [Fintype κ] (e : ι ≃ κ) (f : κ → EReal) (v : EReal) :
    countGe (fun i => f (e i)) v = countGe f v := by
  classical
  rw [countGe_eq, countGe_eq]
  exact Finset.card_equiv e (by simp)

/-- One step of the bisection on words: the middle replaces the lower end when at least `K` entries reach it. -/
def bisectStep {ι : Type} [Fintype ι] (f : ι → EReal) (K : ℕ) (s : ℕ × ℕ) : ℕ × ℕ :=
  if K ≤ countGe f (wordVal ((s.1 + s.2) / 2)) then ((s.1 + s.2) / 2, s.2) else (s.1, (s.1 + s.2) / 2)

/-- What the bisection keeps after `t` steps. -/
structure BisectInv {ι : Type} [Fintype ι] (f : ι → EReal) (K : ℕ) (t : ℕ) (s : ℕ × ℕ) : Prop where
  lt : s.1 < s.2
  le : s.2 ≤ 0x3F800001
  near : s.2 - s.1 ≤ 2 ^ (30 - t)
  lower : K ≤ countGe f (wordVal s.1)
  upper : countGe f (wordVal s.2) < K

/-- One halving keeps the invariant of the bisection. -/
theorem bisectInv_step {ι : Type} [Fintype ι] (f : ι → EReal) (K t : ℕ) (s : ℕ × ℕ) (h : BisectInv f K t s) :
    BisectInv f K (t + 1) (bisectStep f K s) := by
  obtain ⟨h1, h2, h3, h4, h5⟩ := h
  have hp : s.2 - s.1 ≤ 2 ^ (30 - (t + 1)) ∨ s.2 - s.1 ≤ 2 * 2 ^ (30 - (t + 1)) := by
    by_cases ht : t < 30
    · right
      rw [← pow_succ', show 30 - (t + 1) + 1 = 30 - t by omega]; exact h3
    · left
      rw [show 30 - t = 0 by omega] at h3
      exact h3.trans Nat.one_le_two_pow
  have hpos : 1 ≤ 2 ^ (30 - (t + 1)) := Nat.one_le_two_pow
  unfold bisectStep
  split
  · rename_i hc
    refine ⟨?_, h2, ?_, hc, h5⟩ <;> dsimp only <;> omega
  · rename_i hc
    have hne : (s.1 + s.2) / 2 ≠ s.1 := by
      intro he; rw [he] at hc; exact hc h4
    refine ⟨?_, ?_, ?_, h4, not_le.1 hc⟩ <;> dsimp only <;> omega

/-- The invariant holds at the start. -/
theorem bisectInv_init {ι : Type} [Fintype ι] (f : ι → EReal) (K : ℕ) (h0 : ∀ j, 0 ≤ f j) (h1 : ∀ j, f j ≤ 1)
    (hK : K ≤ Fintype.card ι) (hpos : 0 < K) : BisectInv f K 0 (0, 0x3F800001) := by
  classical
  refine ⟨by norm_num, le_refl _, by norm_num, ?_, ?_⟩
  · rw [countGe_eq, wordVal_zero, filter_true_of_mem (fun j _ => h0 j)]
    exact hK
  · rw [countGe_eq, filter_false_of_mem, card_empty]
    · exact hpos
    · intro j _ hj
      have : wordVal 0x3F800000 < wordVal 0x3F800001 := wordVal_lt (by norm_num) (by norm_num)
      rw [wordVal_one] at this
      exact absurd (this.trans_le hj) (not_lt.2 (h1 j))

/-- The invariant holds after any number of halvings. -/
theorem bisectInv_iterate {ι : Type} [Fintype ι] (f : ι → EReal) (K : ℕ) (s : ℕ × ℕ) (h : BisectInv f K 0 s) (t : ℕ) :
    BisectInv f K t ((bisectStep f K)^[t] s) := by
  induction t with
  | zero => exact h
  | succ t ih => rw [Function.iterate_succ_apply']; exact bisectInv_step f K t _ ih

/-- After 31 steps the ends are neighbours. -/
theorem bisectInv_last {ι : Type} [Fintype ι] (f : ι → EReal) (K : ℕ) (s : ℕ × ℕ) (h : BisectInv f K 31 s) :
    s.2 = s.1 + 1 := by
  have := h.lt; have := h.near
  norm_num at this; omega

/-- How many entries up to and including entry `j` equal `v`. -/
def eqRank (f : Fin n → EReal) (v : EReal) (j : Fin n) : ℕ := by
  classical exact (univ.filter fun i => i ≤ j ∧ f i = v).card

/-- The running count of the values equal to `v`, as the size of a set. -/
theorem eqRank_eq (f : Fin n → EReal) (v : EReal) (j : Fin n) [DecidablePred fun i => i ≤ j ∧ f i = v] :
    eqRank f v j = (univ.filter fun i => i ≤ j ∧ f i = v).card := by
  unfold eqRank; congr!

/-- The entries of the row of position below `K` are those above the found value and, of those at it, the first ones in
    index order: on a row of nonnegative entries whose entry of position `K` is below the found value, or whose
    found value is zero and whose other entries reach the next word. -/
theorem mask_iff (f : Fin n → EReal) (K : ℕ) (v v' : EReal) (hvv : v < v') (hlo : K ≤ countGe f v) (hhi : countGe f v' < K)
    (hcase : (v = 0 ∧ (∀ j, 0 ≤ f j) ∧ ∀ j, 0 < f j → v' ≤ f j) ∨ ∀ b, rank f b = K → f b < v) (j : Fin n) :
    (v < f j ∨ (f j = v ∧ eqRank f v j + countGe f v' ≤ K)) ↔ rank f j < K := by
  classical
  rw [eqRank_eq, countGe_eq]
  rw [countGe_eq] at hlo hhi
  rcases hcase with ⟨rfl, h0, hpos⟩ | hb
  · have hset : (univ.filter fun i => v' ≤ f i) = univ.filter fun i => 0 < f i := by
      ext i; simp only [mem_filter, mem_univ, true_and]
      exact ⟨fun h => hvv.trans_le h, hpos i⟩
    rw [hset] at hhi ⊢
    rcases (h0 j).lt_or_eq with hj | hj
    · refine ⟨fun _ => ?_, fun _ => .inl hj⟩
      refine lt_of_le_of_lt (card_le_card fun i hi => ?_) hhi
      simp only [mem_filter, mem_univ, true_and] at hi ⊢
      rcases hi with h | ⟨h, _⟩
      · exact hj.trans h
      · exact h ▸ hj
    · have hr : rank f j + 1 = (univ.filter fun i => i ≤ j ∧ f i = 0).card + (univ.filter fun i => 0 < f i).card := by
        have hu : (univ.filter fun i => i ≤ j ∧ f i = 0) = insert j (univ.filter fun i => i < j ∧ f i = 0) := by
          ext i; simp only [mem_filter, mem_univ, true_and, mem_insert]
          constructor
          · rintro ⟨h1, h2⟩
            rcases h1.lt_or_eq with h | h
            · exact .inr ⟨h, h2⟩
            · exact .inl h
          · rintro (rfl | ⟨h1, h2⟩)
            · exact ⟨le_refl _, hj.symm⟩
            · exact ⟨h1.le, h2⟩
        rw [hu, card_insert_of_notMem (by simp)]
        have hd : Disjoint (univ.filter fun i => i < j ∧ f i = 0) (univ.filter fun i => 0 < f i) := by
          rw [disjoint_left]; intro i h1 h2
          simp only [mem_filter, mem_univ, true_and] at h1 h2
          exact absurd h1.2 h2.ne'
        have : rank f j = ((univ.filter fun i => i < j ∧ f i = 0) ∪ (univ.filter fun i => 0 < f i)).card := by
          unfold rank; congr 1; ext i
          simp only [mem_filter, mem_univ, true_and, mem_union, Before, ← hj]
          tauto
        rw [this, card_union_of_disjoint hd]; omega
      constructor
      · rintro (h | ⟨-, h⟩)
        · exact absurd hj h.ne
        · omega
      · intro h; exact .inr ⟨hj.symm, by omega⟩
  · -- the entries at least `v` are exactly those of position below `K`
    have hge : ∀ i, v ≤ f i ↔ rank f i < K := by
      have hsub : (univ.filter fun i => v ≤ f i) ⊆ univ.filter fun i => rank f i < K := by
        intro i hi
        simp only [mem_filter, mem_univ, true_and] at hi ⊢
        by_contra hk
        rw [not_lt] at hk
        obtain ⟨b, hbr⟩ := exists_rank_eq f (hk.trans_lt (rank_lt f i))
        have hlt := hb b hbr
        rcases hk.lt_or_eq with h | h
        · rcases (before_iff_rank f).2 (hbr ▸ h : rank f b < rank f i) with h' | ⟨h', _⟩
          · exact absurd (hi.trans_lt h') (not_lt.2 hlt.le)
          · exact absurd (h' ▸ hlt) (not_lt.2 hi)
        · rw [rank_injective f (hbr.trans h)] at hlt
          exact absurd hlt (not_lt.2 hi)
      have hKn : K ≤ n := hlo.trans ((card_le_univ _).trans (by simp))
      have heq := eq_of_subset_of_card_le hsub (by rw [card_rank_lt f hKn]; exact hlo)
      intro i
      have := Finset.ext_iff.1 heq i
      simpa using this
    rw [← hge]
    constructor
    · rintro (h | ⟨h, -⟩)
      · exact h.le
      · exact h.ge
    · intro h
      rcases h.lt_or_eq with h | h
      · exact .inl h
      · refine .inr ⟨h.symm, ?_⟩
        have hKn : K ≤ n := hlo.trans ((card_le_univ _).trans (by simp))
        rw [← card_rank_lt f hKn]
        rw [← card_union_of_disjoint]
        · apply card_le_card
          intro i hi
          simp only [mem_filter, mem_univ, true_and, mem_union] at hi ⊢
          rw [← hge]
          rcases hi with ⟨_, hi⟩ | hi
          · exact hi.ge
          · exact hvv.le.trans hi
        · rw [disjoint_left]; intro i h1 h2
          simp only [mem_filter, mem_univ, true_and] at h1 h2
          rw [h1.2] at h2
          exact absurd hvv (not_lt.2 h2)

/-- The bisection's two facts and the condition on the row's entries of positions `K - 1` and `K` give `mask_iff`'s case:
    every entry is zero or above a twentieth (more than the word one), none above one. -/
theorem mask_case (f : Fin n → EReal) (K : ℕ) (hK : 0 < K) (lo : ℕ) (hlt : lo < 0x3F800001)
    (hlo : K ≤ countGe f (wordVal lo)) (hhi : countGe f (wordVal (lo + 1)) < K)
    (h0 : ∀ j, 0 ≤ f j) (h1 : ∀ j, f j ≤ 1) (hpos : ∀ j, 0 < f j → wordVal 1 ≤ f j)
    (a b : Fin n) (ha : rank f a = K - 1) (hb : rank f b = K)
    (hgap : f a = 0 ∨ Ideal.ofBits .f32 0x33800000#32 ≤ f a - f b) :
    (wordVal lo = 0 ∧ (∀ j, 0 ≤ f j) ∧ ∀ j, 0 < f j → wordVal (lo + 1) ≤ f j) ∨ ∀ b', rank f b' = K → f b' < wordVal lo := by
  classical
  rw [countGe_eq] at hlo hhi
  -- the entry of position `K - 1` is at least the found value and below the next
  have hla : wordVal lo ≤ f a := by
    by_contra hc
    rw [not_le] at hc
    have : (univ.filter fun j => wordVal lo ≤ f j) ⊆ univ.filter fun j => rank f j < K - 1 := by
      intro i hi
      simp only [mem_filter, mem_univ, true_and] at hi ⊢
      rw [← ha, ← before_iff_rank]
      exact .inl (hc.trans_le hi)
    have h2 := card_le_card this
    rw [card_rank_lt f (by rw [← ha]; exact (rank_lt f a).le)] at h2
    omega
  have hah : f a < wordVal (lo + 1) := by
    by_contra hc
    rw [not_lt] at hc
    have : (univ.filter fun j => rank f j < K) ⊆ univ.filter fun j => wordVal (lo + 1) ≤ f j := by
      intro i hi
      simp only [mem_filter, mem_univ, true_and] at hi ⊢
      have hle : rank f i ≤ rank f a := by omega
      rcases hle.lt_or_eq with h | h
      · rcases (before_iff_rank f).2 h with h' | ⟨h', _⟩
        · exact hc.trans h'.le
        · exact h' ▸ hc
      · rw [rank_injective f h]; exact hc
    have h2 := card_le_card this
    rw [card_rank_lt f (by rw [← hb]; exact (rank_lt f b).le)] at h2
    omega
  rcases hgap with hz | hg
  · left
    have hlo0 : lo = 0 := by
      by_contra hne
      have := wordVal_lt (Nat.pos_of_ne_zero hne) (by omega : lo < 0x7F800000)
      rw [wordVal_zero] at this
      exact absurd (this.trans_le hla) (by rw [hz]; exact lt_irrefl _)
    subst hlo0
    exact ⟨wordVal_zero, h0, hpos⟩
  · right
    intro b' hb'
    obtain rfl : b' = b := rank_injective f (hb'.trans hb.symm)
    have fin : ∀ j, ∃ x : ℝ, f j = (x : EReal) := fun j => by
      have hne1 : f j ≠ ⊥ := fun h => absurd (h0 j) (by rw [h]; simp)
      have hne2 : f j ≠ ⊤ := fun h => absurd (h1 j) (by rw [h]; exact not_le.2 (EReal.coe_lt_top 1))
      exact ⟨(f j).toReal, (EReal.coe_toReal hne2 hne1).symm⟩
    obtain ⟨x, hx⟩ := fin a
    obtain ⟨y, hy⟩ := fin b'
    rw [ofBits_gap, hx, hy, ← EReal.coe_sub, EReal.coe_le_coe_iff] at hg
    by_cases hl : lo < 0x3F800000
    · obtain ⟨p, q, hp, hq, hpq⟩ := wordVal_succ_le hl
      rw [hx, hq, EReal.coe_lt_coe_iff] at hah
      rw [hy, hp, EReal.coe_lt_coe_iff]
      linarith
    · obtain rfl : lo = 0x3F800000 := by omega
      rw [wordVal_one, hy]
      have hx1 := h1 a
      rw [hx] at hx1
      have hx1' : x ≤ 1 := by exact_mod_cast hx1
      have : y < 1 := by
        have : (0 : ℝ) < 2 ^ (-24 : ℤ) := by positivity
        linarith
      exact_mod_cast this

end Cert.Nms

end
-- ==== Proof.Block.lean ====
/- What one grid point of the scoring kernel writes: the block of masked scores, and the word the bisection ends on. -/
module

public import proofs.«01_k».proof.Proof.Gen.KernelIdeal.Frame
public import proofs.«01_k».proof.Proof.Select
public import Idealize.ShloMosaic.Lib.Pipeline.Value

@[expose] public section

noncomputable section

namespace Cert.Nms

open Idealize.ShloMosaic Idealize.ShloMosaic.TcCoe Idealize.ShloMosaic.Tactic Idealize.SL.Sem
open Cert.KernelIdeal Cert.KernelIdeal.Gen

/-- Four zero offsets. -/
theorem hz4 : (![0, 0, 0, 0] : Fin 4 → Nat) = fun _ => 0 := by decide
/-- Three zero offsets. -/
theorem hz3 : (![0, 0, 0] : Fin 3 → Nat) = fun _ => 0 := by decide

/-- The middle of a bracket of words, as the kernel computes it: the quotient by two, rounded down. -/
def midWord (lo hi : BitVec 32) : BitVec 32 :=
  Scalar.select
    (Scalar.andi
      (Scalar.cmpi .ne
        (Scalar.subi (Scalar.extui (Scalar.cmpi .sgt (Scalar.addi lo hi) 0#32))
          (Scalar.extui (Scalar.cmpi .slt (Scalar.addi lo hi) 0#32)))
        (Scalar.subi (Scalar.extui (Scalar.cmpi .sgt 2#32 0#32)) (Scalar.extui (Scalar.cmpi .slt 2#32 0#32))))
      (Scalar.cmpi .ne (Scalar.remsi (Scalar.addi lo hi) 2#32) 0#32))
    (Scalar.subi (Scalar.divsi (Scalar.addi lo hi) 2#32) 1#32)
    (Scalar.divsi (Scalar.addi lo hi) 2#32)

/-- One trip of the kernel's bisection. -/
def tripWord (x0 : Vec Ideal S1x9x80x4096 .f32) (x1 : Vec Ideal S1x9x1x4096 .f32) (p : BitVec 32 × BitVec 32) : BitVec 32 × BitVec 32 :=
  (Scalar.select (Scalar.cmpi .sge (extractAt ![0, 0, 0, 0, 0] (k0_pay3 x0 x1 p.1 p.2) inpos_S1x1x1x1x1_p0_0_0_0_0) 1000#32) (midWord p.1 p.2) p.1,
   Scalar.select (Scalar.cmpi .sge (extractAt ![0, 0, 0, 0, 0] (k0_pay3 x0 x1 p.1 p.2) inpos_S1x1x1x1x1_p0_0_0_0_0) 1000#32) p.2 (midWord p.1 p.2))

/-- The word the kernel's bisection of a block ends on. -/
def lastWord (x0 : Vec Ideal S1x9x80x4096 .f32) (x1 : Vec Ideal S1x9x1x4096 .f32) : BitVec 32 :=
  (Scf.fold (n := k0_t1_loop.trips) (fun _ => tripWord x0 x1) (0#32, 1065353217#32)).1

/-- The first result's block is the masked scores of the two input blocks. -/
theorem out_scores (c : Dev nD) (i : grid0.Coords) (a1 : Memref sig .tc .vmem S1x9x80x4096 .f32) (h1 : a1.IsWhole)
    (a2 : Memref sig .tc .vmem S1x9x1x4096 .f32) (h2 : a2.IsWhole) (a3 : Memref sig .tc .vmem S1x9x80x4096 .f32) (h3 : a3.IsWhole)
    (a4 : Memref sig .tc .vmem S1x8x128 .i32) (h4 : a4.IsWhole)
    (x0 : Vec Ideal S1x9x80x4096 .f32) (x1 : Vec Ideal S1x9x1x4096 .f32) :
    out0_A_2 (F := Ideal) c i a1 h1 a2 h2 a3 h3 a4 h4 x0 x1 = k0_pay2 x0 x1 := by
  unfold out0_A_2
  rw [View.read_writes_eq_canon _ _ _ (cover0_A_2 c i a1 h1 a2 h2 a3 h3 a4 h4 x0 x1)]
  unfold kernelRun0_A
  dsimp only
  sl_unfold_words
  simp only [View.readAt_eq_ld, h1.read_unread, h2.read_unread, View.ld_unit_zero (S := S1x9x80x4096) hz4, View.ld_unit_zero (S := S1x9x1x4096) hz4]
  exact View.canon_unit_zero (S := S1x9x80x4096) hz4 _ _

/-- The second result's block holds the word the bisection ends on and the count above it. -/
theorem out_words (c : Dev nD) (i : grid0.Coords) (a1 : Memref sig .tc .vmem S1x9x80x4096 .f32) (h1 : a1.IsWhole)
    (a2 : Memref sig .tc .vmem S1x9x1x4096 .f32) (h2 : a2.IsWhole) (a3 : Memref sig .tc .vmem S1x9x80x4096 .f32) (h3 : a3.IsWhole)
    (a4 : Memref sig .tc .vmem S1x8x128 .i32) (h4 : a4.IsWhole)
    (x0 : Vec Ideal S1x9x80x4096 .f32) (x1 : Vec Ideal S1x9x1x4096 .f32) :
    out0_A_3 (F := Ideal) c i a1 h1 a2 h2 a3 h3 a4 h4 x0 x1 = k0_pay1 (lastWord x0 x1) (k0_pay4 x0 x1 (lastWord x0 x1)) := by
  unfold out0_A_3
  rw [View.read_writes_eq_canon _ _ _ (cover0_A_3 c i a1 h1 a2 h2 a3 h3 a4 h4 x0 x1)]
  unfold kernelRun0_A
  dsimp only
  sl_unfold_words
  simp only [View.readAt_eq_ld, h1.read_unread, h2.read_unread]
  refine (View.canon_unit_zero (S := S1x8x128) hz3 _ _).trans ?_
  have e0 : ∀ inb, View.ld (S := S1x9x80x4096) x0 (Rect.unit ![0, 0, 0, 0] ![1, 9, 80, 4096] inb) = x0 := fun inb => View.ld_unit_zero (S := S1x9x80x4096) hz4 inb x0
  have e1 : ∀ inb, View.ld (S := S1x9x1x4096) x1 (Rect.unit ![0, 0, 0, 0] ![1, 9, 1, 4096] inb) = x1 := fun inb => View.ld_unit_zero (S := S1x9x1x4096) hz4 inb x1
  simp only [e0, e1]
  rfl

end Cert.Nms

end
-- ==== Proof.Bisect.lean ====
/- The kernel's bisection over words, read as numbers: a trip is a step of `bisectStep` on the block's scores, so the word
   it ends on and the next one bracket the thousandth greatest score. -/
module

public import proofs.«01_k».proof.Proof.Block
public import Idealize.ShloMosaic.Lib.WordSum
public import Idealize.ShloMosaic.Lib.WordArith
public import Idealize.ShloMosaic.Lib.StableHlo.Predicate
public import Idealize.ShloMosaic.Lib.Routing.Words

@[expose] public section

noncomputable section

namespace Cert.Nms

open Idealize.ShloMosaic Idealize.ShloMosaic.TcCoe Idealize.SL.Sem Idealize.ShloMosaic.WordSum Idealize.ShloMosaic.StableHlo.Predicate
open Cert.KernelIdeal Cert.KernelIdeal.Gen

/-- The kernel's count of the lanes set in a mask of a block. -/
def countWord (b : IVec S1x9x80x4096 1) : BitVec 32 :=
  extractAt ![0, 0, 0, 0, 0] (shapeCast S1x1x1x1x1 (multiReductionI .add [1, 2, 3, 4] S1
    (shapeCast S1x1x9x80x4096 (extui 32 b natLt_1_32) shapeCasts_S1x9x80x4096_S1x1x9x80x4096) 0#32 reduces_S1x1x9x80x4096_S1 rfl)
    shapeCasts_S1_S1x1x1x1x1) inpos_S1x1x1x1x1_p0_0_0_0_0

/-- An image has 2949120 scores. -/
theorem card_block : Fintype.card S1x9x80x4096.Idx = 2949120 := by
  rw [Shape.card_idx]; decide +kernel

/-- A bit widened to a word is one if it is set and zero if not. -/
theorem extui_bit (b : BitVec 1) : (b.setWidth 32).toNat = if b = 1#1 then 1 else 0 := by
  revert b; decide

/-- It is the number of those lanes. -/
theorem countWord_toNat (b : IVec S1x9x80x4096 1) : (countWord b).toNat = (Finset.univ.filter fun i => b i = 1#1).card := by
  classical
  have key : ∀ j : S1.Idx, ∑ i ∈ Finset.univ.filter (fun i => reduces_S1x1x9x80x4096_S1.drop i = j),
      ((shapeCast S1x1x9x80x4096 (extui 32 b natLt_1_32) shapeCasts_S1x9x80x4096_S1x1x9x80x4096) i).toNat
      = (Finset.univ.filter fun i => b i = 1#1).card := by
    intro j
    have hsub : ∀ a b : S1.Idx, a = b := by
      intro a b; funext k
      fin_cases k
      exact Fin.ext (by have := (a 0).isLt; have := (b 0).isLt; simp only [S1] at *; change (a 0).val < 1 at *; change (b 0).val < 1 at *; show (a 0).val = (b 0).val; omega)
    rw [Finset.filter_true_of_mem fun i _ => hsub _ _, Finset.card_filter]
    refine Fintype.sum_equiv (Shape.reshapeEquiv shapeCasts_S1x9x80x4096_S1x1x9x80x4096) _ _ fun i => ?_
    exact extui_bit _
  unfold countWord extractAt shapeCast
  refine (toNat_multiReductionI_add _ _ rfl _ ?_).trans (key _)
  refine (key _).trans_lt ((Finset.card_le_univ _).trans_lt ?_)
  rw [card_block]; norm_num

/-- Counting the lanes at or above a value. -/
theorem countWord_oge (f : S1x9x80x4096.Idx → EReal) (w : BitVec 32) :
    (countWord (cmpf (F := Ideal) (φ := .f32) .oge f (broadcast S1x9x80x4096 (Scalar.ofBits (F := Ideal) .f32 w)))).toNat
      = countGe f (wordVal w.toNat) := by
  classical
  rw [countWord_toNat, countGe_eq]
  congr 1
  ext i
  simp only [Finset.mem_filter, Finset.mem_univ, true_and]
  have hw : wordVal w.toNat = Ideal.ofBits .f32 w := by unfold wordVal; rw [BitVec.ofNat_toNat, BitVec.setWidth_eq]
  rw [hw]
  show Ideal.cmp .oge (f i) (Ideal.ofBits .f32 w) = 1#1 ↔ _
  simp [Ideal.cmp, WordArith.ofBool_eq_one_iff]

/-- No count of scores reaches 2^31. -/
theorem countGe_lt (f : S1x9x80x4096.Idx → EReal) (v : EReal) : countGe f v < 2 ^ 31 := by
  classical
  rw [countGe_eq]
  refine (Finset.card_le_univ _).trans_lt ?_
  rw [card_block]; norm_num

/-- The middle word is half the sum. -/
theorem midWord_toNat (lo hi : BitVec 32) (h : lo.toNat + hi.toNat < 2 ^ 31) : (midWord lo hi).toNat = (lo.toNat + hi.toNat) / 2 := by
  have hs : (Scalar.addi lo hi).toNat = lo.toNat + hi.toNat := by
    show (lo + hi).toNat = _
    rw [BitVec.toNat_add, Nat.mod_eq_of_lt (by omega)]
  obtain ⟨x, hx⟩ : ∃ x, x = Scalar.addi lo hi := ⟨_, rfl⟩
  unfold midWord
  rw [← hx] at hs ⊢
  rw [← hs]
  have hlt : Scalar.cmpi .slt x 0#32 = 0#1 := by
    rcases BitVec.eq_zero_or_eq_one (Scalar.cmpi .slt x 0#32) with h0 | h0
    · exact h0
    · have := (slt_iff_toNat (by omega) (by decide)).1 h0
      simp at this
  have hd : (Scalar.divsi x 2#32).toNat = x.toNat / 2 := divsi_two _ x (by omega)
  by_cases h0 : x.toNat = 0
  · have hx0 : x = 0#32 := BitVec.eq_of_toNat_eq (by simpa using h0)
    subst hx0
    decide
  · have hgt : Scalar.cmpi .sgt x 0#32 = 1#1 := (sgt_iff_toNat (by omega) (by decide)).2 (by simpa using Nat.pos_of_ne_zero h0)
    rw [hlt, hgt]
    have : Scalar.cmpi .ne (Scalar.subi (Scalar.extui (1#1 : BitVec 1)) (Scalar.extui (0#1 : BitVec 1)) : BitVec 32)
        (Scalar.subi (Scalar.extui (Scalar.cmpi .sgt 2#32 0#32)) (Scalar.extui (Scalar.cmpi .slt 2#32 0#32))) = 0#1 := by decide
    rw [this]
    have hz : ∀ y : BitVec 1, Scalar.andi 0#1 y = 0#1 := by decide
    rw [hz]
    exact hd

/-- A trip on words is a step on numbers. -/
theorem tripWord_toNat (x0 : Vec Ideal S1x9x80x4096 .f32) (x1 : Vec Ideal S1x9x1x4096 .f32) (p : BitVec 32 × BitVec 32)
    (h : p.1.toNat + p.2.toNat < 2 ^ 31) :
    ((tripWord x0 x1 p).1.toNat, (tripWord x0 x1 p).2.toNat) = bisectStep (k0_pay2 x0 x1) 1000 (p.1.toNat, p.2.toNat) := by
  have hm := midWord_toNat p.1 p.2 h
  have hc : (extractAt ![0, 0, 0, 0, 0] (k0_pay3 x0 x1 p.1 p.2) inpos_S1x1x1x1x1_p0_0_0_0_0).toNat
      = countGe (k0_pay2 x0 x1) (wordVal ((p.1.toNat + p.2.toNat) / 2)) := by
    rw [← hm]; exact countWord_oge _ _
  have hlt := countGe_lt (k0_pay2 x0 x1) (wordVal ((p.1.toNat + p.2.toNat) / 2))
  have hsel : Scalar.cmpi .sge (extractAt ![0, 0, 0, 0, 0] (k0_pay3 x0 x1 p.1 p.2) inpos_S1x1x1x1x1_p0_0_0_0_0) 1000#32 = 1#1
      ↔ 1000 ≤ countGe (k0_pay2 x0 x1) (wordVal ((p.1.toNat + p.2.toNat) / 2)) := by
    rw [← hc]
    exact sge_iff_toNat (by rw [hc]; exact hlt) (by decide)
  unfold bisectStep tripWord Scalar.select
  by_cases hk : 1000 ≤ countGe (k0_pay2 x0 x1) (wordVal ((p.1.toNat + p.2.toNat) / 2))
  · rw [if_pos hk]; simp only [show ((1 : BitVec 1)) = 1#1 from rfl, hsel.2 hk, if_true, hm]
  · rw [if_neg hk]; simp only [show ((1 : BitVec 1)) = 1#1 from rfl, mt hsel.1 hk, if_false, hm]

/-- The word the bisection ends on, and the next one, bracket the thousandth greatest of scores between zero and one. -/
theorem lastWord_spec (x0 : Vec Ideal S1x9x80x4096 .f32) (x1 : Vec Ideal S1x9x1x4096 .f32)
    (h0 : ∀ i, 0 ≤ k0_pay2 (F := Ideal) x0 x1 i) (h1 : ∀ i, k0_pay2 (F := Ideal) x0 x1 i ≤ 1) :
    (lastWord x0 x1).toNat < 0x3F800001
      ∧ 1000 ≤ countGe (k0_pay2 x0 x1) (wordVal (lastWord x0 x1).toNat)
      ∧ countGe (k0_pay2 x0 x1) (wordVal ((lastWord x0 x1).toNat + 1)) < 1000 := by
  have init := bisectInv_init (k0_pay2 (F := Ideal) x0 x1) 1000 h0 h1 (by rw [card_block]; norm_num) (by norm_num)
  have key : ∀ (l : List (Fin k0_t1_loop.trips)) (p : BitVec 32 × BitVec 32) (t : ℕ),
      BisectInv (k0_pay2 (F := Ideal) x0 x1) 1000 t (p.1.toNat, p.2.toNat) →
      ∃ q : BitVec 32 × BitVec 32, l.foldl (fun acc _ => tripWord x0 x1 acc) p = q
        ∧ BisectInv (k0_pay2 (F := Ideal) x0 x1) 1000 (t + l.length) (q.1.toNat, q.2.toNat) := by
    intro l
    induction l with
    | nil => intro p t hp; exact ⟨p, rfl, hp⟩
    | cons a l ih =>
      intro p t hp
      have hlt := hp.lt; have hle := hp.le
      dsimp only at hlt hle
      have hstep := bisectInv_step _ _ _ _ hp
      rw [← tripWord_toNat x0 x1 p (by omega)] at hstep
      obtain ⟨q, hq, hi⟩ := ih (tripWord x0 x1 p) (t + 1) hstep
      refine ⟨q, (List.foldl_cons ..).trans hq, ?_⟩
      rw [List.length_cons, show t + (l.length + 1) = t + 1 + l.length by omega]
      exact hi
  obtain ⟨q, hq, hi⟩ := key (List.finRange _) (0#32, 1065353217#32) 0 init
  have hlast : (lastWord x0 x1) = q.1 := by
    unfold lastWord; rw [Scf.fold_eq, hq]
  rw [List.length_finRange, show (0 : ℕ) + k0_t1_loop.trips = 31 by decide] at hi
  have h2 := bisectInv_last _ _ _ hi
  have hle := hi.le
  have hlo := hi.lower
  have hup := hi.upper
  dsimp only at h2 hle hlo hup
  rw [h2] at hle hup
  rw [hlast]
  exact ⟨by omega, hlo, hup⟩

end Cert.Nms

end
-- ==== Proof.Arrays.lean ====
/- What the two arrays the scoring kernel writes hold after its grid: image by image, the block of that image. -/
module

public import proofs.«01_k».proof.Proof.Bisect
public import Idealize.ShloMosaic.Lib.Pipeline.ValueKit
public import Idealize.ShloMosaic.Lib.ValueIdx

@[expose] public section

noncomputable section

namespace Cert.Nms

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Image `b` of an array whose leading axis is the image. -/
def image4 {α : Type} {p q r : ℕ} (X : (⟨4, ![2, p, q, r]⟩ : Shape).Idx → α) (b : Fin 2) : (⟨4, ![1, p, q, r]⟩ : Shape).Idx → α :=
  fun y => X (ValueIdx.ix4 b (y 1) (y 2) (y 3))

/-- Image `b` of a two-image array of rank three. -/
def image3 {α : Type} {p q : ℕ} (X : (⟨3, ![2, p, q]⟩ : Shape).Idx → α) (b : Fin 2) : (⟨3, ![1, p, q]⟩ : Shape).Idx → α :=
  fun y => X (ValueIdx.ix3 b (y 1) (y 2))

/-- The first window's block at step `t` is image `t`. -/
theorem idx0_0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
/-- So is the second window's. -/
theorem idx0_1 : ∀ t : Fin cfg0.N, win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)
/-- So is the third window's. -/
theorem idx0_2 : ∀ t : Fin cfg0.N, win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)
/-- So is the fourth window's. -/
theorem idx0_3 : ∀ t : Fin cfg0.N, win0_3.index t (0 : Fin 3) = t.val ∧ win0_3.index t (1 : Fin 3) = 0 ∧ win0_3.index t (2 : Fin 3) = 0 :=
  (by decide +kernel : ∀ t : Fin grid0.N, _)

/-- A grid point of the scoring kernel is an image. -/
def img0 (t : Fin cfg0.N) : Fin 2 := ⟨t.val, t.isLt⟩

/-- A place in the first window's block is the same place of the step's image. -/
theorem emb0_0 (t : Fin cfg0.N) (j : S1x9x80x4096.Idx) : ((cfg0.win 0).blk t).view.emb j = (ValueIdx.ix4 (img0 t) (j 1) (j 2) (j 3) : S2x9x80x4096.Idx) := by
  obtain ⟨e0, e1, e2, e3⟩ := idx0_0 t
  have h0 : (j 0).val < 1 := (j 0).isLt
  funext a; apply Fin.ext
  match a with
  | ⟨0, _⟩ => show win0_0.index t (0 : Fin 4) * 1 + 1 * (j 0).val = t.val; omega
  | ⟨1, _⟩ => show win0_0.index t (1 : Fin 4) * 9 + 1 * (j 1).val = (j 1).val; omega
  | ⟨2, _⟩ => show win0_0.index t (2 : Fin 4) * 80 + 1 * (j 2).val = (j 2).val; omega
  | ⟨3, _⟩ => show win0_0.index t (3 : Fin 4) * 4096 + 1 * (j 3).val = (j 3).val; omega

/-- The same of the second window. -/
theorem emb0_1 (t : Fin cfg0.N) (j : S1x9x1x4096.Idx) : ((cfg0.win 1).blk t).view.emb j = (ValueIdx.ix4 (img0 t) (j 1) (j 2) (j 3) : S2x9x1x4096.Idx) := by
  obtain ⟨e0, e1, e2, e3⟩ := idx0_1 t
  have h0 : (j 0).val < 1 := (j 0).isLt
  funext a; apply Fin.ext
  match a with
  | ⟨0, _⟩ => show win0_1.index t (0 : Fin 4) * 1 + 1 * (j 0).val = t.val; omega
  | ⟨1, _⟩ => show win0_1.index t (1 : Fin 4) * 9 + 1 * (j 1).val = (j 1).val; omega
  | ⟨2, _⟩ => show win0_1.index t (2 : Fin 4) * 1 + 1 * (j 2).val = (j 2).val; omega
  | ⟨3, _⟩ => show win0_1.index t (3 : Fin 4) * 4096 + 1 * (j 3).val = (j 3).val; omega

/-- The same of the third window. -/
theorem emb0_2 (t : Fin cfg0.N) (j : S1x9x80x4096.Idx) : ((cfg0.win 2).blk t).view.emb j = (ValueIdx.ix4 (img0 t) (j 1) (j 2) (j 3) : S2x9x80x4096.Idx) := by
  obtain ⟨e0, e1, e2, e3⟩ := idx0_2 t
  have h0 : (j 0).val < 1 := (j 0).isLt
  funext a; apply Fin.ext
  match a with
  | ⟨0, _⟩ => show win0_2.index t (0 : Fin 4) * 1 + 1 * (j 0).val = t.val; omega
  | ⟨1, _⟩ => show win0_2.index t (1 : Fin 4) * 9 + 1 * (j 1).val = (j 1).val; omega
  | ⟨2, _⟩ => show win0_2.index t (2 : Fin 4) * 80 + 1 * (j 2).val = (j 2).val; omega
  | ⟨3, _⟩ => show win0_2.index t (3 : Fin 4) * 4096 + 1 * (j 3).val = (j 3).val; omega

/-- The same of the fourth window. -/
theorem emb0_3 (t : Fin cfg0.N) (j : S1x8x128.Idx) : ((cfg0.win 3).blk t).view.emb j = (ValueIdx.ix3 (img0 t) (j 1) (j 2) : S2x8x128.Idx) := by
  obtain ⟨e0, e1, e2⟩ := idx0_3 t
  have h0 : (j 0).val < 1 := (j 0).isLt
  funext a; apply Fin.ext
  match a with
  | ⟨0, _⟩ => show win0_3.index t (0 : Fin 3) * 1 + 1 * (j 0).val = t.val; omega
  | ⟨1, _⟩ => show win0_3.index t (1 : Fin 3) * 8 + 1 * (j 1).val = (j 1).val; omega
  | ⟨2, _⟩ => show win0_3.index t (2 : Fin 3) * 128 + 1 * (j 2).val = (j 2).val; omega

variable (V : (c : Dev nD) → (b : Ref sig .tc) → Buf (Elt Ideal) ((c : Thread nD τ).loc b))

/-- The logits read at step `t` are those of its image. -/
theorem iblk0_0 (c : Dev nD) (t : Fin cfg0.N) : iblk0 V c 0 t = image4 (V c main_v0) (img0 t) := by
  funext j; show V c main_v0 (((cfg0.win 0).blk t).view.emb j) = _; rw [emb0_0]; rfl

/-- The centre logits read at step `t` are those of its image. -/
theorem iblk0_1 (c : Dev nD) (t : Fin cfg0.N) : iblk0 V c 1 t = image4 (V c main_v1) (img0 t) := by
  funext j; show V c main_v1 (((cfg0.win 1).blk t).view.emb j) = _; rw [emb0_1]; rfl

/-- The scores of image `b`, as the kernel lays them out. -/
def scores (x : Vec Ideal S2x9x80x4096 .f32) (y : Vec Ideal S2x9x1x4096 .f32) (b : Fin 2) : Vec Ideal S1x9x80x4096 .f32 :=
  k0_pay2 (image4 x b) (image4 y b)

/-- The word the bisection of image `b` ends on. -/
def loWord (x : Vec Ideal S2x9x80x4096 .f32) (y : Vec Ideal S2x9x1x4096 .f32) (b : Fin 2) : BitVec 32 :=
  lastWord (image4 x b) (image4 y b)

/-- At lane (0, 0) of its tile the second array holds the word. -/
theorem word_lane (w : BitVec 32) (g : IVec S1x9x80x4096 1) : k0_pay1 w g (ValueIdx.ix3 0 0 0 : S1x8x128.Idx) = w := by
  unfold k0_pay1
  generalize multiReductionI (s := S1x1x9x80x4096) .add [1, 2, 3, 4] S1 _ _ _ _ = r
  rfl

/-- The lane number at place (0, 1) is one. -/
theorem lane_iota2_one : cmpi .eq (iota .tc S1x8x128 32 [2] iota_S1x8x128_d2_w32) (broadcast S1x8x128 1#32) (ValueIdx.ix3 0 0 1) = 1#1 := by rfl
/-- The lane number at place (0, 1) is not zero. -/
theorem lane_iota2_zero : cmpi .eq (iota .tc S1x8x128 32 [2] iota_S1x8x128_d2_w32) (broadcast S1x8x128 0#32) (ValueIdx.ix3 0 0 1) = 0#1 := by rfl
/-- The row number at place (0, 1) is zero. -/
theorem lane_iota1 : cmpi .eq (iota .tc S1x8x128 32 [1] iota_S1x8x128_d1_w32) (broadcast S1x8x128 0#32) (ValueIdx.ix3 0 0 1) = 1#1 := by rfl

/-- At lane (0, 1) it holds the count. -/
theorem count_lane (w : BitVec 32) (g : IVec S1x9x80x4096 1) : k0_pay1 w g (ValueIdx.ix3 0 0 1 : S1x8x128.Idx) = countWord g := by
  have h1 : ∀ a b c : BitVec 1, ∀ x y z u : BitVec 32, a = 1#1 → b = 0#1 → c = 1#1 → y = u →
      Scalar.select (IntOp.andi a b) x (Scalar.select (IntOp.andi a c) y z) = u := by
    rintro _ _ _ x y z u rfl rfl rfl rfl
    rfl
  unfold k0_pay1
  unfold countWord
  exact h1 _ _ _ _ _ _ _ lane_iota1 lane_iota2_zero lane_iota2_one (ValueIdx.broadcast_apply _ _)

attribute [local irreducible] k0_pay1 k0_pay2 k0_pay4 lastWord out0_A_2 out0_A_3

/-- The first output of a step is its image's scores. -/
theorem outs0_fst (c : Dev nD) (t : Fin cfg0.N) : (outsAt0 V c t).1 = scores (V c main_v0) (V c main_v1) (img0 t) := by
  have e : (outsAt0 V c t).1 = k0_pay2 (iblk0 V c 0 t) (iblk0 V c 1 t) := by
    unfold outsAt0
    exact out_scores _ _ _ _ _ _ _ _ _ _ _ _
  rw [e, iblk0_0, iblk0_1, scores]

/-- The words of image `b`: the bisection's word and the count above it, in their two lanes. -/
def words (x : Vec Ideal S2x9x80x4096 .f32) (y : Vec Ideal S2x9x1x4096 .f32) (b : Fin 2) : IVec S1x8x128 32 :=
  k0_pay1 (loWord x y b) (k0_pay4 (image4 x b) (image4 y b) (loWord x y b))

/-- The second output of a step is its image's two words. -/
theorem outs0_snd (c : Dev nD) (t : Fin cfg0.N) : (outsAt0 V c t).2 = words (V c main_v0) (V c main_v1) (img0 t) := by
  have e : (outsAt0 V c t).2 = k0_pay1 (lastWord (iblk0 V c 0 t) (iblk0 V c 1 t))
      (k0_pay4 (iblk0 V c 0 t) (iblk0 V c 1 t) (lastWord (iblk0 V c 0 t) (iblk0 V c 1 t))) := by
    unfold outsAt0
    exact out_words _ _ _ _ _ _ _ _ _ _ _ _
  rw [e, iblk0_0, iblk0_1, words, loWord]

/-- The score blocks cover the score array. -/
theorem covers0_2 : (cfg0.win 2).Covers := by decide +kernel
/-- The word blocks cover the word array. -/
theorem covers0_3 : (cfg0.win 3).Covers := by decide +kernel

/-- An array of two images, from its images. -/
def images4 {α : Type} {p q r : ℕ} (G : Fin 2 → (⟨4, ![1, p, q, r]⟩ : Shape).Idx → α) : (⟨4, ![2, p, q, r]⟩ : Shape).Idx → α :=
  fun i => G (i 0) (ValueIdx.ix4 0 (i 1) (i 2) (i 3))
/-- Two images put together as one array of rank three. -/
def images3 {α : Type} {p q : ℕ} (G : Fin 2 → (⟨3, ![1, p, q]⟩ : Shape).Idx → α) : (⟨3, ![2, p, q]⟩ : Shape).Idx → α :=
  fun i => G (i 0) (ValueIdx.ix3 0 (i 1) (i 2))

/-- The first coordinate of a one-image block of rank four is zero. -/
theorem ix4_zero {p q r : ℕ} (y : (⟨4, ![1, p, q, r]⟩ : Shape).Idx) : y = ValueIdx.ix4 (0 : Fin 1) (y 1) (y 2) (y 3) := by
  have h0 : (y 0).val < 1 := (y 0).isLt
  funext a; apply Fin.ext
  match a with
  | ⟨0, _⟩ => show (y 0).val = 0; omega
  | ⟨1, _⟩ => rfl
  | ⟨2, _⟩ => rfl
  | ⟨3, _⟩ => rfl

/-- The first coordinate of a one-image block of rank three is zero. -/
theorem ix3_zero {p q : ℕ} (y : (⟨3, ![1, p, q]⟩ : Shape).Idx) : y = ValueIdx.ix3 (0 : Fin 1) (y 1) (y 2) := by
  have h0 : (y 0).val < 1 := (y 0).isLt
  funext a; apply Fin.ext
  match a with
  | ⟨0, _⟩ => show (y 0).val = 0; omega
  | ⟨1, _⟩ => rfl
  | ⟨2, _⟩ => rfl

/-- The first array after the grid: at image `b`, its scores. -/
theorem final0_2 (c : Dev nD) : (dat0 V c).arrAt 2 cfg0.N = images4 (scores (V c main_v0) (V c main_v1)) := by
  refine (dat0 V c).arrAt_eq_of_covers 2 _ covers0_2 fun t _ y => ?_
  refine (show _ = (outsAt0 V c t).1 y from rfl).trans ?_
  refine (congrFun (outs0_fst V c t) y).trans ?_
  refine Eq.trans ?_ (congrArg (images4 (scores (V c main_v0) (V c main_v1))) (emb0_2 t y)).symm
  exact congrArg (scores (V c main_v0) (V c main_v1) (img0 t)) (ix4_zero y)

/-- The second: at image `b`, its words. -/
theorem final0_3 (c : Dev nD) : (dat0 V c).arrAt 3 cfg0.N = images3 (words (V c main_v0) (V c main_v1)) := by
  refine (dat0 V c).arrAt_eq_of_covers 3 _ covers0_3 fun t _ y => ?_
  refine (show _ = (outsAt0 V c t).2 y from rfl).trans ?_
  refine (congrFun (outs0_snd V c t) y).trans ?_
  refine Eq.trans ?_ (congrArg (images3 (words (V c main_v0) (V c main_v1))) (emb0_3 t y)).symm
  exact congrArg (words (V c main_v0) (V c main_v1) (img0 t)) (ix3_zero y)

end Cert.Nms

end
-- ==== Proof.Suppress.lean ====
/- The suppression kernel's body, one strip of 128 boxes after another: a box keeps its score unless a box of a
   higher score overlaps it by more than the threshold. -/
module

public import proofs.«01_k».proof.Proof.Arrays

@[expose] public section

noncomputable section

namespace Cert.Nms

open Idealize.ShloMosaic Idealize.ShloMosaic.TcCoe Idealize.SL.Sem
open Cert.KernelIdeal Cert.KernelIdeal.Gen

/-! ## The rule, on numbers -/

/-- The length of the side from `lo` to `hi`, counted with both ends and never negative. -/
def extent (lo hi : Ideal .f32) : Ideal .f32 :=
  FloatOps.maximumf (Scalar.ofBits .f32 0x00000000#32) (FloatOps.addf (FloatOps.subf hi lo) (Scalar.ofBits .f32 0x3F800000#32))

/-- The area of the box with corners (x1, y1) and (x2, y2). -/
def area (x1 y1 x2 y2 : Ideal .f32) : Ideal .f32 := FloatOps.mulf (extent x1 x2) (extent y1 y2)

/-- The area two boxes share. -/
def shared (x1 x1' y1 y1' x2 x2' y2 y2' : Ideal .f32) : Ideal .f32 :=
  FloatOps.mulf (extent (FloatOps.maximumf x1 x1') (FloatOps.minimumf x2 x2')) (extent (FloatOps.maximumf y1 y1') (FloatOps.minimumf y2 y2'))

/-- What share of two boxes' union (areas `a` and `a'`, common area `s`) is common. -/
def share (s a a' : Ideal .f32) : Ideal .f32 :=
  FloatOps.divf s (FloatOps.maximumf (FloatOps.subf (FloatOps.addf a a') s) (Scalar.ofBits .f32 0x358637BD#32))

/-- Whether the primed box suppresses the other one: its score is higher and the share is above the threshold. -/
def beats (x1 x1' y1 y1' x2 x2' y2 y2' a a' s s' : Ideal .f32) : BitVec 1 :=
  IntOp.andi (FloatOps.cmpf .ogt s' s) (FloatOps.cmpf .ogt (share (shared x1 x1' y1 y1' x2 x2' y2 y2') a a') (Scalar.ofBits .f32 0x3F19999A#32))

/-! ## A strip of the kernel -/

/-- The 128 entries from `o` on, along the rows of a 128 by 1024 table. -/
def rowsOf (o : ℕ) (hs : S1024.Slices ![o] S128) (v : FVec Ideal S1024 .f32) : FVec Ideal S128x1024 .f32 :=
  broadcastTo S128x1024 (shapeCast S128x1 (extractStridedSlice S128 ![o] v hs) shapeCasts_S128_S128x1) broadcasts_S128x1_S128x1024

/-- All entries, along the columns of the table. -/
def colsOf (v : FVec Ideal S1024 .f32) : FVec Ideal S128x1024 .f32 :=
  broadcastTo S128x1024 (shapeCast S1x1024 v shapeCasts_S1024_S1x1024) broadcasts_S1x1024_S128x1024

/-- The boxes' areas. -/
def areasOf (v1 v3 v5 v7 : FVec Ideal S1024 .f32) : FVec Ideal S1024 .f32 :=
  mulf (maximumf (broadcast S1024 (Scalar.ofBits .f32 0x00000000#32)) (addf (subf v5 v1) (broadcast S1024 (Scalar.ofBits .f32 0x3F800000#32))))
    (maximumf (broadcast S1024 (Scalar.ofBits .f32 0x00000000#32)) (addf (subf v7 v3) (broadcast S1024 (Scalar.ofBits .f32 0x3F800000#32))))

/-- Sides of the common parts. -/
def sidesOf (lo hi : FVec Ideal S128x1024 .f32) : FVec Ideal S128x1024 .f32 :=
  maximumf (broadcast S128x1024 (Scalar.ofBits .f32 0x00000000#32)) (addf (subf hi lo) (broadcast S128x1024 (Scalar.ofBits .f32 0x3F800000#32)))

/-- Common parts over unions. -/
def sharesOf (s a : FVec Ideal S128x1024 .f32) : FVec Ideal S128x1024 .f32 :=
  divf s (maximumf (subf a s) (broadcast S128x1024 (Scalar.ofBits .f32 0x358637BD#32)))

/-- The table of suppressions of a strip. -/
def hitsOf (o : ℕ) (hs : S1024.Slices ![o] S128) (v1 v3 v5 v7 v9 v20 : FVec Ideal S1024 .f32) : IVec S128x1024 1 :=
  andi (cmpf .ogt (colsOf v9) (rowsOf o hs v9))
    (cmpf .ogt (sharesOf (mulf (sidesOf (maximumf (rowsOf o hs v1) (colsOf v1)) (minimumf (rowsOf o hs v5) (colsOf v5)))
        (sidesOf (maximumf (rowsOf o hs v3) (colsOf v3)) (minimumf (rowsOf o hs v7) (colsOf v7)))) (addf (rowsOf o hs v20) (colsOf v20)))
      (broadcast S128x1024 (Scalar.ofBits .f32 0x3F19999A#32)))

/-- The kept scores of a strip, from its table of suppressions. -/
def keptOf (o : ℕ) (hs : S1024.Slices ![o] S128) (v9 : FVec Ideal S1024 .f32) (g : IVec S128x1024 1) : FVec Ideal S1x1x128 .f32 :=
  shapeCast S1x1x128
    (select (cmpf .ogt (multiReduction .maximumf [1] S128 (select g (broadcast S128x1024 (Scalar.ofBits .f32 0x3F800000#32 : Ideal .f32))
        (broadcast S128x1024 (Scalar.ofBits .f32 0x00000000#32 : Ideal .f32))) 0xFF800000#32 reduces_S128x1024_S128 (.inl rfl) rfl)
        (broadcast S128 (Scalar.ofBits .f32 0x00000000#32)))
      (broadcast S128 (Scalar.ofBits .f32 0x00000000#32)) (extractStridedSlice S128 ![o] v9 hs)) shapeCasts_S128_S1x1x128

/-- The strip from `o` on. -/
def stripOf (o : ℕ) (hs : S1024.Slices ![o] S128) (v1 v3 v5 v7 v9 : FVec Ideal S1024 .f32) : FVec Ideal S1x1x128 .f32 :=
  keptOf o hs v9 (hitsOf o hs v1 v3 v5 v7 v9 (areasOf v1 v3 v5 v7))

/-- A strip of 128 values spread along its rows. -/
theorem rowsOf_apply (o : ℕ) (hs : S1024.Slices ![o] S128) (v : FVec Ideal S1024 .f32) (r : Fin 128) (j k : Fin 1024) (hk : k.val = o + r.val) :
    rowsOf o hs v (ValueIdx.ix2 r j) = v (ValueIdx.ix1 k) := by
  refine (broadcastTo_apply _ _ _ (ValueIdx.ix2 r 0 : S128x1.Idx) (fun i => match i with | ⟨0, _⟩ => rfl | ⟨1, _⟩ => rfl)).trans ?_
  refine (shapeCast_apply _ _ _ (ValueIdx.ix1 r : S128.Idx) ?_).trans ?_
  · rw [Shape.rowMajor_val_one, Shape.rowMajor_val_two]; show r.val = r.val * 1 + 0; omega
  · exact extractStridedSlice_apply _ _ _ _ _ fun a => match a with | ⟨0, _⟩ => hk

/-- All 1024 values spread along the columns. -/
theorem colsOf_apply (v : FVec Ideal S1024 .f32) (r : Fin 128) (j : Fin 1024) : colsOf v (ValueIdx.ix2 r j) = v (ValueIdx.ix1 j) := by
  refine (broadcastTo_apply _ _ _ (ValueIdx.ix2 0 j : S1x1024.Idx) (fun i => match i with | ⟨0, _⟩ => rfl | ⟨1, _⟩ => rfl)).trans ?_
  refine shapeCast_apply _ _ _ (ValueIdx.ix1 j : S1024.Idx) ?_
  rw [Shape.rowMajor_val_one, Shape.rowMajor_val_two]; show j.val = 0 * 1024 + j.val; omega

/-- A strip's table of hits says at each place whether the column's box beats the row's. -/
theorem hitsOf_apply (o : ℕ) (hs : S1024.Slices ![o] S128) (v1 v3 v5 v7 v9 v20 : FVec Ideal S1024 .f32) (r : Fin 128) (j k : Fin 1024) (hk : k.val = o + r.val) :
    hitsOf o hs v1 v3 v5 v7 v9 v20 (ValueIdx.ix2 r j)
      = beats (v1 (ValueIdx.ix1 k)) (v1 (ValueIdx.ix1 j)) (v3 (ValueIdx.ix1 k)) (v3 (ValueIdx.ix1 j)) (v5 (ValueIdx.ix1 k)) (v5 (ValueIdx.ix1 j))
          (v7 (ValueIdx.ix1 k)) (v7 (ValueIdx.ix1 j)) (v20 (ValueIdx.ix1 k)) (v20 (ValueIdx.ix1 j)) (v9 (ValueIdx.ix1 k)) (v9 (ValueIdx.ix1 j)) := by
  have e : ∀ i, hitsOf o hs v1 v3 v5 v7 v9 v20 i = beats (rowsOf o hs v1 i) (colsOf v1 i) (rowsOf o hs v3 i) (colsOf v3 i)
      (rowsOf o hs v5 i) (colsOf v5 i) (rowsOf o hs v7 i) (colsOf v7 i) (rowsOf o hs v20 i) (colsOf v20 i) (rowsOf o hs v9 i) (colsOf v9 i) := fun i => rfl
  rw [e]
  simp only [rowsOf_apply o hs _ r j k hk, colsOf_apply]

/-- Comparing with zero at the ideal instance. -/
theorem above_zero_iff (x : Ideal .f32) : FloatOps.cmpf .ogt x (Scalar.ofBits .f32 0x00000000#32) = 1#1 ↔ (0 : EReal) < x := by
  have zero : (Scalar.ofBits .f32 0x00000000#32 : Ideal .f32) = (0 : EReal) := Ideal.ofBits_zero_f32
  rw [zero]
  exact (StableHlo.Predicate.ofBool_eq_one_iff _).trans decide_eq_true_iff

/-- The start of a maximum is not above zero. -/
theorem start_not_above : ¬ (0 : EReal) < (FloatOps.ofBits .f32 0xFF800000#32 : Ideal .f32) := by
  show ¬ (0 : EReal) < Ideal.ofBits .f32 0xFF800000#32
  simp [Ideal.ofBits, Ideal.ieee]

/-- A selection depends on its bit alone. -/
theorem select_cond {α : Type} {b b' : BitVec 1} (h : b = b') (x y : α) : Scalar.select b x y = Scalar.select b' x y := by rw [h]

/-- A row of ones and zeros has a greatest entry above zero exactly when it has a one. -/
theorem flag_iff (g : IVec S128x1024 1) (r : Fin 128) :
    cmpf .ogt (multiReduction .maximumf [1] S128 (select g (broadcast S128x1024 (Scalar.ofBits .f32 0x3F800000#32 : Ideal .f32))
        (broadcast S128x1024 (Scalar.ofBits .f32 0x00000000#32 : Ideal .f32))) 0xFF800000#32 reduces_S128x1024_S128 (.inl rfl) rfl)
        (broadcast S128 (Scalar.ofBits .f32 0x00000000#32)) (ValueIdx.ix1 r) = 1#1 ↔ ∃ j : Fin 1024, g (ValueIdx.ix2 r j) = 1#1 := by
  have one : (Scalar.ofBits .f32 0x3F800000#32 : Ideal .f32) = (1 : EReal) := Ideal.ofBits_one_f32
  have zero : (Scalar.ofBits .f32 0x00000000#32 : Ideal .f32) = (0 : EReal) := Ideal.ofBits_zero_f32
  rw [ValueIdx.cmpf_apply, ValueIdx.broadcast_apply, above_zero_iff]
  refine Iff.trans (iff_of_eq (congrArg (fun x : EReal => (0 : EReal) < x) (Ideal.multiReduction_maximumf_single (φ := .f32) (t := S128) (a := 1)
    (select g (broadcast S128x1024 (Scalar.ofBits .f32 0x3F800000#32 : Ideal .f32)) (broadcast S128x1024 (Scalar.ofBits .f32 0x00000000#32 : Ideal .f32)))
    0xFF800000#32 reduces_S128x1024_S128 (.inl rfl) rfl (ValueIdx.ix1 r)))) ?_
  rw [Finset.lt_fold_max]
  have val : ∀ j : Fin 1024, ((select g (broadcast S128x1024 (Scalar.ofBits .f32 0x3F800000#32 : Ideal .f32))
        (broadcast S128x1024 (Scalar.ofBits .f32 0x00000000#32 : Ideal .f32))) ∘ reduces_S128x1024_S128.lift (ValueIdx.ix1 r)) j
      = if g (ValueIdx.ix2 r j) = 1#1 then (1 : EReal) else 0 := by
    intro j
    have hl : reduces_S128x1024_S128.lift (ValueIdx.ix1 r) j = (ValueIdx.ix2 r j : S128x1024.Idx) := by
      funext a
      match a with
      | ⟨0, _⟩ => rfl
      | ⟨1, _⟩ => rfl
    refine (congrArg (select g (broadcast S128x1024 (Scalar.ofBits .f32 0x3F800000#32 : Ideal .f32))
      (broadcast S128x1024 (Scalar.ofBits .f32 0x00000000#32 : Ideal .f32))) hl).trans ?_
    rw [← one, ← zero]
    rfl
  constructor
  · rintro (h | ⟨j, -, h⟩)
    · exact absurd h start_not_above
    · refine ⟨j, ?_⟩
      by_contra hc
      exact lt_irrefl _ (lt_of_lt_of_eq h ((val j).trans (if_neg hc)))
  · rintro ⟨j, hj⟩
    refine Or.inr ⟨j, Finset.mem_univ _, ?_⟩
    exact lt_of_lt_of_eq zero_lt_one ((val j).trans (if_pos hj)).symm

/-- The strip at lane `r`: zero for a suppressed box, its score otherwise. -/
theorem stripOf_apply (o : ℕ) (hs : S1024.Slices ![o] S128) (v1 v3 v5 v7 v9 : FVec Ideal S1024 .f32) (r : Fin 128) (k : Fin 1024) (hk : k.val = o + r.val) :
    stripOf o hs v1 v3 v5 v7 v9 (ValueIdx.ix3 0 0 r)
      = Scalar.select (BitVec.ofBool (decide (∃ j : Fin 1024, beats (v1 (ValueIdx.ix1 k)) (v1 (ValueIdx.ix1 j)) (v3 (ValueIdx.ix1 k)) (v3 (ValueIdx.ix1 j)) (v5 (ValueIdx.ix1 k)) (v5 (ValueIdx.ix1 j))
          (v7 (ValueIdx.ix1 k)) (v7 (ValueIdx.ix1 j)) (areasOf v1 v3 v5 v7 (ValueIdx.ix1 k)) (areasOf v1 v3 v5 v7 (ValueIdx.ix1 j)) (v9 (ValueIdx.ix1 k)) (v9 (ValueIdx.ix1 j)) = 1#1)))
          (Scalar.ofBits .f32 0x00000000#32) (v9 (ValueIdx.ix1 k)) := by
  unfold stripOf keptOf
  refine (shapeCast_apply _ _ _ (ValueIdx.ix1 r : S128.Idx) ?_).trans ?_
  · rw [Shape.rowMajor_val_one, Shape.rowMajor_val_three]; show r.val = (0 * 1 + 0) * 128 + r.val; omega
  rw [ValueIdx.select_apply, ValueIdx.broadcast_apply]
  have hx : extractStridedSlice S128 ![o] v9 hs (ValueIdx.ix1 r) = v9 (ValueIdx.ix1 k) :=
    extractStridedSlice_apply _ _ _ _ _ fun a => match a with | ⟨0, _⟩ => hk
  rw [hx]
  refine select_cond ?_ _ _
  have hf := flag_iff (hitsOf o hs v1 v3 v5 v7 v9 (areasOf v1 v3 v5 v7)) r
  simp only [hitsOf_apply o hs _ _ _ _ _ _ r _ k hk] at hf
  have two : ∀ a b : BitVec 1, (a = 1#1 ↔ b = 1#1) → a = b := by decide
  exact two _ _ (hf.trans ((decide_eq_true_iff).symm.trans (StableHlo.Predicate.ofBool_eq_one_iff _).symm))

/-! ## The body's eight strips -/

variable (x0 : Vec Ideal S1x4x1024 .f32) (x1 : Vec Ideal S1x1x1024 .f32)

/-- The step's output is made of eight strips. -/
theorem out1_2_strips : out1_2 (F := Ideal) x0 x1 = View.canon
    [⟨r1_12, stripOf 896 slices_S1024_o896_S128 (k1_pay58 x0 x1) (k1_pay59 x0 x1) (k1_pay60 x0 x1) (k1_pay61 x0 x1) (k1_pay62 x0 x1)⟩,
     ⟨r1_11, stripOf 768 slices_S1024_o768_S128 (k1_pay58 x0 x1) (k1_pay59 x0 x1) (k1_pay60 x0 x1) (k1_pay61 x0 x1) (k1_pay62 x0 x1)⟩,
     ⟨r1_10, stripOf 640 slices_S1024_o640_S128 (k1_pay58 x0 x1) (k1_pay59 x0 x1) (k1_pay60 x0 x1) (k1_pay61 x0 x1) (k1_pay62 x0 x1)⟩,
     ⟨r1_9, stripOf 512 slices_S1024_o512_S128 (k1_pay58 x0 x1) (k1_pay59 x0 x1) (k1_pay60 x0 x1) (k1_pay61 x0 x1) (k1_pay62 x0 x1)⟩,
     ⟨r1_8, stripOf 384 slices_S1024_o384_S128 (k1_pay58 x0 x1) (k1_pay59 x0 x1) (k1_pay60 x0 x1) (k1_pay61 x0 x1) (k1_pay62 x0 x1)⟩,
     ⟨r1_7, stripOf 256 slices_S1024_o256_S128 (k1_pay58 x0 x1) (k1_pay59 x0 x1) (k1_pay60 x0 x1) (k1_pay61 x0 x1) (k1_pay62 x0 x1)⟩,
     ⟨r1_6, stripOf 128 slices_S1024_o128_S128 (k1_pay58 x0 x1) (k1_pay59 x0 x1) (k1_pay60 x0 x1) (k1_pay61 x0 x1) (k1_pay62 x0 x1)⟩,
     ⟨r1_5, stripOf 0 slices_S1024_o0_S128 (k1_pay58 x0 x1) (k1_pay59 x0 x1) (k1_pay60 x0 x1) (k1_pay61 x0 x1) (k1_pay62 x0 x1)⟩] := by
  rfl

end Cert.Nms
-- ==== Proof.Strips.lean ====
/- What the suppression kernel leaves in its output array: image by image, every box's kept score. -/
module

public import proofs.«01_k».proof.Proof.Suppress

@[expose] public section

noncomputable section

namespace Cert.Nms

open Idealize.ShloMosaic Idealize.ShloMosaic.TcCoe Idealize.SL.Sem
open Cert.KernelIdeal Cert.KernelIdeal.Gen

/-- The score box `k` of `n` boxes keeps: zero when some box suppresses it. The boxes' corners are (x1, y1) and (x2, y2). -/
def keptAt {n : ℕ} (x1 y1 x2 y2 s : Fin n → Ideal .f32) (k : Fin n) : Ideal .f32 :=
  Scalar.select (BitVec.ofBool (decide (∃ j : Fin n, beats (x1 k) (x1 j) (y1 k) (y1 j) (x2 k) (x2 j) (y2 k) (y2 j)
    (area (x1 k) (y1 k) (x2 k) (y2 k)) (area (x1 j) (y1 j) (x2 j) (y2 j)) (s k) (s j) = 1#1)))
    (Scalar.ofBits .f32 0x00000000#32) (s k)

variable (x0 : Vec Ideal S1x4x1024 .f32) (x1 : Vec Ideal S1x1x1024 .f32)

/-- Reading a row of the four. -/
theorem row_apply (off : Fin 3 → ℕ) (inb : ∀ a, off a + S1x1x1024.size a ≤ S1x4x1024.size a) (w : Fin 4) (hw : off = ![0, w.val, 0]) (k : Fin 1024) :
    shapeCast S1024 (View.ld (Val := Elt Ideal) (e' := .f32) x0 (Rect.unit (s := S1x4x1024) off S1x1x1024.size inb)) shapeCasts_S1x1x1024_S1024 (ValueIdx.ix1 k)
      = x0 (ValueIdx.ix3 0 w k) := by
  subst hw
  refine (shapeCast_apply _ _ _ (ValueIdx.ix3 0 0 k : S1x1x1024.Idx) ?_).trans ?_
  · rw [Shape.rowMajor_val_one, Shape.rowMajor_val_three]; show (0 * 1 + 0) * 1024 + k.val = k.val; omega
  · refine View.ld_unit_apply_of _ _ _ _ _ _ fun a => ?_
    match a with
    | ⟨0, _⟩ => rfl
    | ⟨1, _⟩ => rfl
    | ⟨2, _⟩ => exact (Nat.zero_add _).symm

/-- The score read at a place. -/
theorem score_apply (k : Fin 1024) : k1_pay62 (F := Ideal) x0 x1 (ValueIdx.ix1 k) = x1 (ValueIdx.ix3 0 0 k) := by
  show shapeCast S1024 (View.ld (Val := Elt Ideal) (e' := .f32) x1 r1_4) shapeCasts_S1x1x1024_S1024 (ValueIdx.ix1 k) = _
  refine (shapeCast_apply _ _ _ (ValueIdx.ix3 0 0 k : S1x1x1024.Idx) ?_).trans ?_
  · rw [Shape.rowMajor_val_one, Shape.rowMajor_val_three]; show (0 * 1 + 0) * 1024 + k.val = k.val; omega
  · refine View.ld_unit_apply_of _ _ _ _ _ _ fun a => ?_
    match a with
    | ⟨0, _⟩ => rfl
    | ⟨1, _⟩ => rfl
    | ⟨2, _⟩ => exact (Nat.zero_add _).symm

/-- The left edge read at a place. -/
theorem pay58_apply (k : Fin 1024) : k1_pay58 (F := Ideal) x0 x1 (ValueIdx.ix1 k) = x0 (ValueIdx.ix3 0 0 k) := row_apply x0 _ _ 0 rfl k
/-- The upper edge read at a place. -/
theorem pay59_apply (k : Fin 1024) : k1_pay59 (F := Ideal) x0 x1 (ValueIdx.ix1 k) = x0 (ValueIdx.ix3 0 1 k) := row_apply x0 _ _ 1 rfl k
/-- The right edge read at a place. -/
theorem pay60_apply (k : Fin 1024) : k1_pay60 (F := Ideal) x0 x1 (ValueIdx.ix1 k) = x0 (ValueIdx.ix3 0 2 k) := row_apply x0 _ _ 2 rfl k
/-- The lower edge read at a place. -/
theorem pay61_apply (k : Fin 1024) : k1_pay61 (F := Ideal) x0 x1 (ValueIdx.ix1 k) = x0 (ValueIdx.ix3 0 3 k) := row_apply x0 _ _ 3 rfl k

/-- The area at a place. -/
theorem areasOf_apply (v1 v3 v5 v7 : FVec Ideal S1024 .f32) (i : S1024.Idx) : areasOf v1 v3 v5 v7 i = area (v1 i) (v3 i) (v5 i) (v7 i) := rfl

/-- The kept score of box `k`, of the boxes in the rows of `x0` with the scores of `x1`. -/
def keptRow (k : Fin 1024) : Ideal .f32 :=
  keptAt (fun j => x0 (ValueIdx.ix3 0 0 j)) (fun j => x0 (ValueIdx.ix3 0 1 j)) (fun j => x0 (ValueIdx.ix3 0 2 j)) (fun j => x0 (ValueIdx.ix3 0 3 j))
    (fun j => x1 (ValueIdx.ix3 0 0 j)) k

/-- A strip, wherever it holds box `k`, has there the kept score. -/
theorem strip_tile (o : ℕ) (hs : S1024.Slices ![o] S128) (k : Fin 1024) :
    View.TileAt (Val := Elt Ideal) (e := .f32) (ValueIdx.ix3 0 0 k : S1x1x1024.Idx) ![0, 0, o] S1x1x128.size
      (stripOf o hs (k1_pay58 x0 x1) (k1_pay59 x0 x1) (k1_pay60 x0 x1) (k1_pay61 x0 x1) (k1_pay62 x0 x1)) (keptRow x0 x1 k) := by
  intro x hx
  have hk : k.val = o + (x 2).val := hx 2
  have ex : x = (ValueIdx.ix3 0 0 (x 2) : S1x1x128.Idx) := by
    refine (ix3_zero x).trans ?_
    have e : x 1 = (0 : Fin 1) := Subsingleton.elim (α := Fin 1) _ _
    exact congrArg (fun q : Fin 1 => (ValueIdx.ix3 0 q (x 2) : S1x1x128.Idx)) e
  rw [ex]
  refine (stripOf_apply o hs _ _ _ _ _ (x 2) k hk).trans ?_
  simp only [areasOf_apply, pay58_apply, pay59_apply, pay60_apply, pay61_apply, score_apply]
  rfl

/-- The body's output at box `k`. -/
theorem out1_2_apply (k : Fin 1024) : out1_2 (F := Ideal) x0 x1 (ValueIdx.ix3 0 0 k) = keptRow x0 x1 k := by
  rw [out1_2_strips]
  refine View.canon_eq_of_allAt _ _ _ (cover1_2 _ _ _ _ _ _ _ _ _) ?_
  refine View.allAt_cons_unit _ _ _ _ _ (strip_tile x0 x1 _ _ k) ?_
  refine View.allAt_cons_unit _ _ _ _ _ (strip_tile x0 x1 _ _ k) ?_
  refine View.allAt_cons_unit _ _ _ _ _ (strip_tile x0 x1 _ _ k) ?_
  refine View.allAt_cons_unit _ _ _ _ _ (strip_tile x0 x1 _ _ k) ?_
  refine View.allAt_cons_unit _ _ _ _ _ (strip_tile x0 x1 _ _ k) ?_
  refine View.allAt_cons_unit _ _ _ _ _ (strip_tile x0 x1 _ _ k) ?_
  refine View.allAt_cons_unit _ _ _ _ _ (strip_tile x0 x1 _ _ k) ?_
  refine View.allAt_cons_unit _ _ _ _ _ (strip_tile x0 x1 _ _ k) ?_
  exact View.allAt_nil _ _

/-! ## The array -/

/-- The box window's block at step `t` is image `t`. -/
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
/-- So is the score window's. -/
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
/-- So is the output window's. -/
theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)

/-- A grid point of the suppression kernel is an image. -/
def img1 (t : Fin cfg1.N) : Fin 2 := ⟨t.val, t.isLt⟩

/-- A place in the box window's block is the same place of the step's image. -/
theorem emb1_0 (t : Fin cfg1.N) (j : S1x4x1024.Idx) : ((cfg1.win 0).blk t).view.emb j = (ValueIdx.ix3 (img1 t) (j 1) (j 2) : S2x4x1024.Idx) := by
  obtain ⟨e0, e1, e2⟩ := idx1_0 t
  have h0 : (j 0).val < 1 := (j 0).isLt
  funext a; apply Fin.ext
  match a with
  | ⟨0, _⟩ => show win1_0.index t (0 : Fin 3) * 1 + 1 * (j 0).val = t.val; omega
  | ⟨1, _⟩ => show win1_0.index t (1 : Fin 3) * 4 + 1 * (j 1).val = (j 1).val; omega
  | ⟨2, _⟩ => show win1_0.index t (2 : Fin 3) * 1024 + 1 * (j 2).val = (j 2).val; omega

/-- The same of the score window. -/
theorem emb1_1 (t : Fin cfg1.N) (j : S1x1x1024.Idx) : ((cfg1.win 1).blk t).view.emb j = (ValueIdx.ix3 (img1 t) (j 1) (j 2) : S2x1x1024.Idx) := by
  obtain ⟨e0, e1, e2⟩ := idx1_1 t
  have h0 : (j 0).val < 1 := (j 0).isLt
  funext a; apply Fin.ext
  match a with
  | ⟨0, _⟩ => show win1_1.index t (0 : Fin 3) * 1 + 1 * (j 0).val = t.val; omega
  | ⟨1, _⟩ => show win1_1.index t (1 : Fin 3) * 1 + 1 * (j 1).val = (j 1).val; omega
  | ⟨2, _⟩ => show win1_1.index t (2 : Fin 3) * 1024 + 1 * (j 2).val = (j 2).val; omega

/-- The same of the output window. -/
theorem emb1_2 (t : Fin cfg1.N) (j : S1x1x1024.Idx) : ((cfg1.win 2).blk t).view.emb j = (ValueIdx.ix3 (img1 t) (j 1) (j 2) : S2x1x1024.Idx) := by
  obtain ⟨e0, e1, e2⟩ := idx1_2 t
  have h0 : (j 0).val < 1 := (j 0).isLt
  funext a; apply Fin.ext
  match a with
  | ⟨0, _⟩ => show win1_2.index t (0 : Fin 3) * 1 + 1 * (j 0).val = t.val; omega
  | ⟨1, _⟩ => show win1_2.index t (1 : Fin 3) * 1 + 1 * (j 1).val = (j 1).val; omega
  | ⟨2, _⟩ => show win1_2.index t (2 : Fin 3) * 1024 + 1 * (j 2).val = (j 2).val; omega

variable (V : (c : Dev nD) → (b : Ref sig .tc) → Buf (Elt Ideal) ((c : Thread nD τ).loc b))

/-- The boxes read at step `t` are those of its image. -/
theorem iblk1_0 (c : Dev nD) (t : Fin cfg1.N) : iblk1 V c 0 t = image3 (V c main_v172) (img1 t) := by
  funext j; show V c main_v172 (((cfg1.win 0).blk t).view.emb j) = _; rw [emb1_0]; rfl

/-- The scores read at step `t` are those of its image. -/
theorem iblk1_1 (c : Dev nD) (t : Fin cfg1.N) : iblk1 V c 1 t = image3 (V c main_v174) (img1 t) := by
  funext j; show V c main_v174 (((cfg1.win 1).blk t).view.emb j) = _; rw [emb1_1]; rfl

/-- The output blocks cover the output. -/
theorem covers1_2 : (cfg1.win 2).Covers := by decide +kernel

attribute [local irreducible] out1_2

/-- Image `b` of the output array. -/
def keptImage (x : Vec Ideal S2x4x1024 .f32) (y : Vec Ideal S2x1x1024 .f32) (b : Fin 2) : Vec Ideal S1x1x1024 .f32 :=
  out1_2 (image3 x b) (image3 y b)

/-- The second region's output is each image's kept scores. -/
theorem final1_2 (c : Dev nD) : (dat1 V c).arrAt 2 cfg1.N = images3 (keptImage (V c main_v172) (V c main_v174)) := by
  refine (dat1 V c).arrAt_eq_of_covers 2 _ covers1_2 fun t _ y => ?_
  have e : (dat1 V c).after 2 t = keptImage (V c main_v172) (V c main_v174) (img1 t) := by
    rw [after1_2, iblk1_0, iblk1_1, keptImage]
  refine (congrFun e y).trans ?_
  refine Eq.trans ?_ (congrArg (images3 (keptImage (V c main_v172) (V c main_v174))) (emb1_2 t y)).symm
  exact congrArg (keptImage (V c main_v172) (V c main_v174) (img1 t)) (ix3_zero y)

end Cert.Nms
-- ==== Proof.RefKept.lean ====
/- The reference's suppression, box by box: the same rule on the same numbers. -/
module

public import proofs.«01_k».proof.Proof.Strips
public import proofs.«01_k».proof.Proof.Gen.ReferenceIdeal.Read

@[expose] public section

noncomputable section

namespace Cert.Nms

open Idealize.ShloMosaic Idealize.ShloMosaic.StableHlo Cert.KernelIdeal Cert.KernelIdeal.Gen Cert.ReferenceIdeal.Read

variable (x0 : Vec Ideal S2x720x64x64 .f32) (x1 : Vec Ideal S2x36x64x64 .f32)
  (x2 : Vec Ideal S2x9x64x64 .f32) (x3 : Vec Ideal S2x36864x4 .f32)

/-- A place of rank two is known by its coordinates. -/
theorem at2 {p q : ℕ} (i : (⟨2, ![p, q]⟩ : Shape).Idx) (b : Fin p) (k : Fin q) (h0 : (i 0).val = b.val) (h1 : (i 1).val = k.val) :
    i = ValueIdx.ix2 b k := by
  funext a; apply Fin.ext
  match a with
  | ⟨0, _⟩ => exact h0
  | ⟨1, _⟩ => exact h1

/-- A place of rank three is known by its coordinates. -/
theorem at3 {p q r : ℕ} (i : (⟨3, ![p, q, r]⟩ : Shape).Idx) (b : Fin p) (k : Fin q) (w : Fin r) (h0 : (i 0).val = b.val) (h1 : (i 1).val = k.val)
    (h2 : (i 2).val = w.val) : i = ValueIdx.ix3 b k w := by
  funext a; apply Fin.ext
  match a with
  | ⟨0, _⟩ => exact h0
  | ⟨1, _⟩ => exact h1
  | ⟨2, _⟩ => exact h2

/-- A place of rank four is known by its coordinates. -/
theorem at4 {p q r s : ℕ} (i : (⟨4, ![p, q, r, s]⟩ : Shape).Idx) (b : Fin p) (k : Fin q) (w : Fin r) (d : Fin s) (h0 : (i 0).val = b.val)
    (h1 : (i 1).val = k.val) (h2 : (i 2).val = w.val) (h3 : (i 3).val = d.val) : i = ValueIdx.ix4 b k w d := by
  funext a; apply Fin.ext
  match a with
  | ⟨0, _⟩ => exact h0
  | ⟨1, _⟩ => exact h1
  | ⟨2, _⟩ => exact h2
  | ⟨3, _⟩ => exact h3

/-- The row of a flat place of rows of a thousand. -/
theorem flat2_row {b k : ℕ} (hk : k < 1000) : (b * 1000 + k) / 1000 = b := by omega
/-- The column of a flat place of rows of a thousand. -/
theorem flat2_col {b k : ℕ} (hk : k < 1000) : (b * 1000 + k) / 1 % 1000 = k := by omega
/-- The first of three coordinates of a flat place. -/
theorem flat3_0 {b i j : ℕ} (hi : i < 1000) (hj : j < 1000) : ((b * 1000 + i) * 1000 + j) / 1000000 = b := by omega
/-- The second of three coordinates of a flat place. -/
theorem flat3_1 {b i j : ℕ} (hi : i < 1000) (hj : j < 1000) : ((b * 1000 + i) * 1000 + j) / 1000 % 1000 = i := by omega
/-- The third of three coordinates of a flat place. -/
theorem flat3_2 {b i j : ℕ} (hj : j < 1000) : ((b * 1000 + i) * 1000 + j) / 1 % 1000 = j := by omega

attribute [local irreducible] val_main_v156 val_main_v150 val_main_v149

variable (b : Fin 2) (i j : Fin 1000)

/-! ## Areas -/

/-- The reference's right edge of a box. -/
theorem ref_x2 : val_main_v158 (F := Ideal) x0 x1 x2 x3 (ValueIdx.ix2 b i) = val_main_v156 (F := Ideal) x0 x1 x2 x3 (ValueIdx.ix3 b i 2) := by
  rw [val_main_v158_apply, val_main_v157_apply]
  exact congrArg _ (at3 _ b i 2 (flat2_row i.isLt) (flat2_col i.isLt) rfl)
/-- The reference's left edge of a box. -/
theorem ref_x1 : val_main_v160 (F := Ideal) x0 x1 x2 x3 (ValueIdx.ix2 b i) = val_main_v156 (F := Ideal) x0 x1 x2 x3 (ValueIdx.ix3 b i 0) := by
  rw [val_main_v160_apply, val_main_v159_apply]
  exact congrArg _ (at3 _ b i 0 (flat2_row i.isLt) (flat2_col i.isLt) rfl)
/-- The reference's lower edge of a box. -/
theorem ref_y2 : val_main_v166 (F := Ideal) x0 x1 x2 x3 (ValueIdx.ix2 b i) = val_main_v156 (F := Ideal) x0 x1 x2 x3 (ValueIdx.ix3 b i 3) := by
  rw [val_main_v166_apply, val_main_v165_apply]
  exact congrArg _ (at3 _ b i 3 (flat2_row i.isLt) (flat2_col i.isLt) rfl)
/-- The reference's upper edge of a box. -/
theorem ref_y1 : val_main_v168 (F := Ideal) x0 x1 x2 x3 (ValueIdx.ix2 b i) = val_main_v156 (F := Ideal) x0 x1 x2 x3 (ValueIdx.ix3 b i 1) := by
  rw [val_main_v168_apply, val_main_v167_apply]
  exact congrArg _ (at3 _ b i 1 (flat2_row i.isLt) (flat2_col i.isLt) rfl)

/-- Corner coordinate `w` of box `i` of image `b`. -/
def corner (w : Fin 4) (i : Fin 1000) : Ideal .f32 := val_main_v156 (F := Ideal) x0 x1 x2 x3 (ValueIdx.ix3 b i w)

/-- The reference's area of box `i`. -/
theorem ref_area : val_main_v173 (F := Ideal) x0 x1 x2 x3 (ValueIdx.ix2 b i)
    = area (corner x0 x1 x2 x3 b 0 i) (corner x0 x1 x2 x3 b 1 i) (corner x0 x1 x2 x3 b 2 i) (corner x0 x1 x2 x3 b 3 i) := by
  rw [val_main_v173_apply, val_main_v164_apply, val_main_v172_apply, val_main_v163_apply, val_main_v171_apply, val_main_v161_apply, val_main_v169_apply,
    ref_x2, ref_x1, ref_y2, ref_y1]
  rfl

/-! ## Common parts -/

/-- The lower corner of the row's box, in the reference's table of pairs. -/
theorem ref_lo_row (d : Fin 2) (w : Fin 4) (hw : d.val = w.val) :
    val_main_v178 (F := Ideal) x0 x1 x2 x3 (ValueIdx.ix4 b i j d) = corner x0 x1 x2 x3 b w i := by
  rw [val_main_v178_apply, val_main_v175_apply, val_main_v174_apply]
  exact congrArg _ (at3 _ b i w rfl rfl hw)
/-- The lower corner of the column's box. -/
theorem ref_lo_col (d : Fin 2) (w : Fin 4) (hw : d.val = w.val) :
    val_main_v179 (F := Ideal) x0 x1 x2 x3 (ValueIdx.ix4 b i j d) = corner x0 x1 x2 x3 b w j := by
  rw [val_main_v179_apply, val_main_v177_apply, val_main_v176_apply]
  exact congrArg _ (at3 _ b j w rfl rfl hw)
/-- The upper corner of the row's box. -/
theorem ref_hi_row (d : Fin 2) (w : Fin 4) (hw : 2 + d.val = w.val) :
    val_main_v185 (F := Ideal) x0 x1 x2 x3 (ValueIdx.ix4 b i j d) = corner x0 x1 x2 x3 b w i := by
  rw [val_main_v185_apply, val_main_v182_apply, val_main_v181_apply]
  exact congrArg _ (at3 _ b i w rfl rfl hw)
/-- The upper corner of the column's box. -/
theorem ref_hi_col (d : Fin 2) (w : Fin 4) (hw : 2 + d.val = w.val) :
    val_main_v186 (F := Ideal) x0 x1 x2 x3 (ValueIdx.ix4 b i j d) = corner x0 x1 x2 x3 b w j := by
  rw [val_main_v186_apply, val_main_v184_apply, val_main_v183_apply]
  exact congrArg _ (at3 _ b j w rfl rfl hw)

/-- A side of the intersection of two boxes, clipped at zero. -/
theorem ref_side (d : Fin 2) (w w' : Fin 4) (hw : d.val = w.val) (hw' : 2 + d.val = w'.val) :
    val_main_v191 (F := Ideal) x0 x1 x2 x3 (ValueIdx.ix4 b i j d)
      = extent (FloatOps.maximumf (corner x0 x1 x2 x3 b w i) (corner x0 x1 x2 x3 b w j))
          (FloatOps.minimumf (corner x0 x1 x2 x3 b w' i) (corner x0 x1 x2 x3 b w' j)) := by
  rw [val_main_v191_apply, val_main_v190_apply, val_main_v188_apply, val_main_v187_apply, val_main_v180_apply,
    ref_lo_row x0 x1 x2 x3 b i j d w hw, ref_lo_col x0 x1 x2 x3 b i j d w hw, ref_hi_row x0 x1 x2 x3 b i j d w' hw', ref_hi_col x0 x1 x2 x3 b i j d w' hw']
  rfl

/-- The first side of the intersection. -/
theorem ref_side_x : val_main_v193 (F := Ideal) x0 x1 x2 x3 (ValueIdx.ix3 b i j) = val_main_v191 (F := Ideal) x0 x1 x2 x3 (ValueIdx.ix4 b i j 0) := by
  rw [val_main_v193_apply, val_main_v192_apply]
  exact congrArg _ (at4 _ b i j 0 (flat3_0 i.isLt j.isLt) (flat3_1 i.isLt j.isLt) (flat3_2 j.isLt) rfl)
/-- The second side of the intersection. -/
theorem ref_side_y : val_main_v195 (F := Ideal) x0 x1 x2 x3 (ValueIdx.ix3 b i j) = val_main_v191 (F := Ideal) x0 x1 x2 x3 (ValueIdx.ix4 b i j 1) := by
  rw [val_main_v195_apply, val_main_v194_apply]
  exact congrArg _ (at4 _ b i j 1 (flat3_0 i.isLt j.isLt) (flat3_1 i.isLt j.isLt) (flat3_2 j.isLt) rfl)

/-- The area of the row's box. -/
theorem ref_area_row : val_main_v199 (F := Ideal) x0 x1 x2 x3 (ValueIdx.ix3 b i j) = val_main_v173 (F := Ideal) x0 x1 x2 x3 (ValueIdx.ix2 b i) := by
  rw [val_main_v199_apply, val_main_v197_apply]
  exact congrArg _ (at2 _ b i rfl rfl)
/-- The area of the column's box. -/
theorem ref_area_col : val_main_v200 (F := Ideal) x0 x1 x2 x3 (ValueIdx.ix3 b i j) = val_main_v173 (F := Ideal) x0 x1 x2 x3 (ValueIdx.ix2 b j) := by
  rw [val_main_v200_apply, val_main_v198_apply]
  exact congrArg _ (at2 _ b j rfl rfl)
/-- The score of the column's box. -/
theorem ref_score_col : val_main_v208 (F := Ideal) x0 x1 x2 x3 (ValueIdx.ix3 b i j) = val_main_v150 (F := Ideal) x0 x1 x2 x3 (ValueIdx.ix2 b j) := by
  rw [val_main_v208_apply, val_main_v206_apply]
  exact congrArg _ (at2 _ b j rfl rfl)
/-- The score of the row's box. -/
theorem ref_score_row : val_main_v209 (F := Ideal) x0 x1 x2 x3 (ValueIdx.ix3 b i j) = val_main_v150 (F := Ideal) x0 x1 x2 x3 (ValueIdx.ix2 b i) := by
  rw [val_main_v209_apply, val_main_v207_apply]
  exact congrArg _ (at2 _ b i rfl rfl)

/-- The score of box `i` of image `b`. -/
def scoreAt (i : Fin 1000) : Ideal .f32 := val_main_v150 (F := Ideal) x0 x1 x2 x3 (ValueIdx.ix2 b i)

/-- Whether box `j` suppresses box `i` in the reference. -/
theorem ref_beats : val_main_v213 (F := Ideal) x0 x1 x2 x3 (ValueIdx.ix3 b i j)
    = beats (corner x0 x1 x2 x3 b 0 i) (corner x0 x1 x2 x3 b 0 j) (corner x0 x1 x2 x3 b 1 i) (corner x0 x1 x2 x3 b 1 j)
        (corner x0 x1 x2 x3 b 2 i) (corner x0 x1 x2 x3 b 2 j) (corner x0 x1 x2 x3 b 3 i) (corner x0 x1 x2 x3 b 3 j)
        (area (corner x0 x1 x2 x3 b 0 i) (corner x0 x1 x2 x3 b 1 i) (corner x0 x1 x2 x3 b 2 i) (corner x0 x1 x2 x3 b 3 i))
        (area (corner x0 x1 x2 x3 b 0 j) (corner x0 x1 x2 x3 b 1 j) (corner x0 x1 x2 x3 b 2 j) (corner x0 x1 x2 x3 b 3 j))
        (scoreAt x0 x1 x2 x3 b i) (scoreAt x0 x1 x2 x3 b j) := by
  rw [val_main_v213_apply, val_main_v210_apply, val_main_v212_apply, val_main_v205_apply, val_main_v204_apply, val_main_v202_apply, val_main_v201_apply,
    val_main_v196_apply, ref_side_x, ref_side_y, ref_side x0 x1 x2 x3 b i j 0 0 2 rfl rfl, ref_side x0 x1 x2 x3 b i j 1 1 3 rfl rfl,
    ref_area_row, ref_area_col, ref_area, ref_area, ref_score_col, ref_score_row]
  rfl

/-! ## Which boxes are suppressed -/

/-- A disjunction over a finite set holds when one of its terms does. -/
theorem fold_ori {ι : Type} [DecidableEq ι] (s : Finset ι) (f : ι → BitVec 1) : s.fold IntOp.ori 0#1 f = 1#1 ↔ ∃ k ∈ s, f k = 1#1 := by
  have two : ∀ a c : BitVec 1, IntOp.ori a c = 1#1 ↔ (a = 1#1 ∨ c = 1#1) := by decide
  induction s using Finset.induction_on with
  | empty => simp
  | insert a s ha ih => rw [Finset.fold_insert ha, two, Finset.exists_mem_insert]; exact or_congr Iff.rfl ih

/-- A box is suppressed in the reference just if some box beats it. -/
theorem ref_suppressed : val_main_v214 (F := Ideal) x0 x1 x2 x3 (ValueIdx.ix2 b i) = 1#1
    ↔ ∃ j : Fin 1000, val_main_v213 (F := Ideal) x0 x1 x2 x3 (ValueIdx.ix3 b i j) = 1#1 := by
  unfold val_main_v214
  generalize val_main_v213 (F := Ideal) x0 x1 x2 x3 = g
  rw [Host.reduce_eq_fold, Shape.ReducesTo.fold_fiber_r3_a2]
  refine (fold_ori _ _).trans ?_
  simp only [Finset.mem_univ, true_and]
  rfl

/-- A bit is zero or one. -/
theorem bit_cases : ∀ a : BitVec 1, a = 0#1 ∨ a = 1#1 := by decide

/-- The value put in for a score that is not kept is zero. -/
theorem zero_fill_eq : val_main_call9_v1 (F := Ideal) (ValueIdx.ix2 b i) = (Scalar.ofBits .f32 0x00000000#32 : Ideal .f32) := rfl
/-- The value put in for a suppressed score is zero. -/
theorem zero_fill_eq' : val_main_call13_v1 (F := Ideal) (ValueIdx.ix2 b i) = (Scalar.ofBits .f32 0x00000000#32 : Ideal .f32) := rfl

/-- The reference's kept score of box `i` of image `b`. -/
theorem ref_kept : val_main_v217 (F := Ideal) x0 x1 x2 x3 (ValueIdx.ix2 b i)
    = keptAt (corner x0 x1 x2 x3 b 0) (corner x0 x1 x2 x3 b 1) (corner x0 x1 x2 x3 b 2) (corner x0 x1 x2 x3 b 3) (scoreAt x0 x1 x2 x3 b) i := by
  have key : ∀ (a c c' : BitVec 1) (z v : Ideal .f32), c = c' →
      Scalar.select (IntOp.andi a (~~~ c)) (Scalar.select a v z) z = Scalar.select c' z (Scalar.select a v z) := by
    rintro a c _ z v rfl
    have ha := bit_cases a
    have hc := bit_cases c
    rcases ha with rfl | rfl <;> rcases hc with rfl | rfl <;> rfl
  have two : ∀ a b : BitVec 1, (a = 1#1 ↔ b = 1#1) → a = b := by decide
  rw [val_main_v217_apply, val_main_v216_apply, val_main_v215_apply, zero_fill_eq', keptAt, scoreAt, val_main_v150_apply, zero_fill_eq]
  refine key _ _ _ _ _ (two _ _ ?_)
  refine (ref_suppressed x0 x1 x2 x3 b i).trans (Iff.trans ?_ ((decide_eq_true_iff).symm.trans (Predicate.ofBool_eq_one_iff _).symm))
  refine exists_congr fun j => ?_
  rw [ref_beats]
  unfold scoreAt
  rw [val_main_v150_apply, val_main_v150_apply, zero_fill_eq, zero_fill_eq]

/-- Scores are never negative. -/
theorem score_nonneg : ¬ scoreAt x0 x1 x2 x3 b i < (0 : EReal) := by
  have zero : (Scalar.ofBits .f32 0x00000000#32 : Ideal .f32) = (0 : EReal) := Ideal.ofBits_zero_f32
  have key : ∀ (a c : BitVec 1) (v : Ideal .f32), (c = 1#1 → (0 : EReal) < v) → ¬ (Scalar.select (IntOp.andi a c) v (Scalar.ofBits .f32 0x00000000#32 : Ideal .f32)) < (0 : EReal) := by
    intro a c v hv
    have ha := bit_cases a
    have hc := bit_cases c
    rcases ha with rfl | rfl <;> rcases hc with rfl | rfl
    · exact fun h => lt_irrefl _ (lt_of_eq_of_lt zero.symm h)
    · exact fun h => lt_irrefl _ (lt_of_eq_of_lt zero.symm h)
    · exact fun h => lt_irrefl _ (lt_of_eq_of_lt zero.symm h)
    · exact fun h => lt_asymm h (hv rfl)
  unfold scoreAt
  rw [val_main_v150_apply, val_main_v149_apply, zero_fill_eq, val_main_v148_apply]
  exact key _ _ _ (fun h => (above_zero_iff _).1 h)

end Cert.Nms
-- ==== Proof.Compact.lean ====
/- Listing the marked entries of a row in index order by counting prefix counts, and ordering the list by value. -/
module

public import proofs.«01_k».proof.Proof.Rank
public import Mathlib.Data.Finset.Sort

@[expose] public section

noncomputable section

namespace Cert.Nms

open Finset

variable {n : ℕ}

/-- How many marked entries there are up to and including entry `j`. -/
def prefixCount (T : Fin n → Prop) (j : Fin n) : ℕ := by
  classical exact (univ.filter fun i => i ≤ j ∧ T i).card

/-- A running count, as the size of a set. -/
theorem prefixCount_eq (T : Fin n → Prop) (j : Fin n) [DecidablePred fun i => i ≤ j ∧ T i] :
    prefixCount T j = (univ.filter fun i => i ≤ j ∧ T i).card := by
  unfold prefixCount; congr!

/-- With `K` marked entries, the number of entries whose prefix count is at most `q` is the index of marked entry `q`, in
    index order, for every `q` below `K`. -/
theorem compact (T : Fin n → Prop) [DecidablePred T] (K : ℕ) (hT : (univ.filter T).card = K) :
    ∃ e : Fin K → Fin n, StrictMono e ∧ (∀ q, T (e q)) ∧ (∀ k, T k → ∃ q, e q = k)
      ∧ ∀ q : Fin K, (univ.filter fun j => prefixCount T j < 1 + q).card = (e q).val := by
  classical
  let e := (univ.filter T).orderEmbOfFin hT
  have hmem : ∀ q, T (e q) := fun q => (mem_filter.1 (orderEmbOfFin_mem _ hT q)).2
  have hsur : ∀ k, T k → ∃ q, e q = k := fun k hk => by
    have := range_orderEmbOfFin (univ.filter T) hT
    have hk' : k ∈ Set.range ((univ.filter T).orderEmbOfFin hT) := by rw [this]; simpa using hk
    exact hk'
  refine ⟨e, e.strictMono, hmem, hsur, fun q => ?_⟩
  have hpos : ∀ j, prefixCount T j = (univ.filter fun q' => e q' ≤ j).card := by
    intro j
    rw [prefixCount_eq, ← card_image_of_injective (univ.filter fun q' => e q' ≤ j) e.injective]
    congr 1; ext k
    simp only [mem_filter, mem_univ, true_and, mem_image]
    constructor
    · rintro ⟨h1, h2⟩
      obtain ⟨q', rfl⟩ := hsur k h2
      exact ⟨q', h1, rfl⟩
    · rintro ⟨q', h1, rfl⟩; exact ⟨h1, hmem _⟩
  have hset : (univ.filter fun j => prefixCount T j < 1 + q) = Iio (e q) := by
    ext j
    simp only [mem_filter, mem_univ, true_and, mem_Iio, hpos]
    constructor
    · intro h
      by_contra hc
      rw [not_lt] at hc
      have : (Iic q).card ≤ (univ.filter fun q' => e q' ≤ j).card := card_le_card fun a ha => by
        simp only [mem_filter, mem_univ, true_and]
        exact (e.monotone (mem_Iic.1 ha)).trans hc
      rw [Fin.card_Iic] at this
      omega
    · intro h
      have : (univ.filter fun q' => e q' ≤ j).card ≤ (Iio q).card := card_le_card fun a ha => by
        simp only [mem_filter, mem_univ, true_and] at ha
        exact mem_Iio.2 (e.lt_iff_lt.1 (ha.trans_lt h))
      rw [Fin.card_Iio] at this
      omega
  rw [hset, Fin.card_Iio]

/-- When the marked entries are those of position below `K`, the entry of position `r` of the list, in index order, of
    their values is the row's entry of position `r`. -/
theorem compact_rank {α : Type} [LinearOrder α] (f : Fin n → α) (K : ℕ) (e : Fin K → Fin n) (he : StrictMono e)
    (hmem : ∀ q, rank f (e q) < K) (hsur : ∀ k, rank f k < K → ∃ q, e q = k) (q : Fin K) (j : Fin n)
    (h : rank (fun i => f (e i)) q = rank f j) : e q = j := by
  rw [rank_comp f e he (fun q k hk => hsur k (((before_iff_rank f).1 hk).trans (hmem q)))] at h
  exact rank_injective f h

end Cert.Nms

end
-- ==== Proof.Ops.lean ====
/- Host operations of the selection read at an index: the running count along a row, the count of a row's set bits, and taking entries
of a row at given positions. -/
module

public import proofs.«01_k».proof.Proof.Compact
public import proofs.«01_k».proof.Proof.Gen.KernelIdeal.Frame
public import Idealize.ShloMosaic.Lib.Pipeline.Value
public import Idealize.ShloMosaic.Lib.Pointwise.Reduce
public import Idealize.ShloMosaic.Lib.IndicatorCount
public import Idealize.ShloMosaic.Lib.ReduceAll
public import Idealize.ShloMosaic.Lib.WordSum
public import Idealize.ShloMosaic.Lib.ValueIdx
public import Idealize.ShloMosaic.Lib.StableHlo.Predicate

@[expose] public section

noncomputable section

namespace Cert.Nms

open Idealize.ShloMosaic Finset

/-- A shape of rank two. -/
abbrev Sh2 (a b : ℕ) : Shape := ⟨2, ![a, b]⟩
/-- A shape of rank three. -/
abbrev Sh3 (a b c : ℕ) : Shape := ⟨3, ![a, b, c]⟩

/-- Adding up a list of words from the left is adding its sum. -/
theorem foldl_add_eq {ι : Type} (l : List ι) (g : ι → BitVec 32) (v : BitVec 32) :
    l.foldl (fun r n => IntOp.addi r (g n)) v = v + (l.map g).sum := by
  induction l generalizing v with
  | nil => simp
  | cons a l ih =>
    rw [List.foldl_cons, ih, List.map_cons, List.sum_cons, ← BitVec.add_assoc]; rfl

/-- A single row of length `N` has `N` places. -/
theorem numel_row (N : ℕ) : (Sh2 1 N).numel = N := (Fin.prod_univ_two ![1, N]).trans (Nat.one_mul N)

/-- A sum of bits counts the set ones. -/
theorem toNat_bit_sum {ι : Type} [Fintype ι] (m : ι → BitVec 1) (h : Fintype.card ι < 2 ^ 32) :
    (∑ i, (m i).setWidth 32).toNat = (univ.filter fun i => m i = 1#1).card := by
  have e : ∑ i, ((m i).setWidth 32).toNat = (univ.filter fun i => m i = 1#1).card := by
    rw [Finset.card_filter]
    exact Finset.sum_congr rfl fun i _ => StableHlo.Predicate.toNat_setWidth_bit (m i)
  rw [WordSum.toNat_sum _ _ (by rw [e]; exact (Finset.card_le_univ _).trans_lt h), e]

/-- The running sum along a row: the wrapping sum of the entries up to and including position `j`. -/
theorem cumsum_row {B N M : ℕ} (hM : M + 1 = N) (x : IVec (Sh2 B N) 32) (init : IVec ⟨0, ![]⟩ 32) (hinit : ∀ i, init i = 0#32)
    (h : (Sh2 B N).ReduceWindows (![1, N] : Fin 2 → ℕ) ![1, 1] ![0, M] ![0, 0] (Sh2 B N)) (hu : 0 < (⟨0, ![]⟩ : Shape).numel)
    (b : Fin B) (j : Fin N) :
    Host.reduceWindow IntOp.addi ![1, N] ![1, 1] ![0, M] ![0, 0] x init h hu (ValueIdx.ix2 b j)
      = ∑ i : Fin N, if i ≤ j then x (ValueIdx.ix2 b i) else 0 := by
  subst hM
  have hj := j.isLt
  unfold Host.reduceWindow
  refine (foldl_add_eq _ _ _).trans ?_
  rw [hinit, BitVec.zero_add, ← Fin.sum_univ_def]
  have hnum : (⟨2, ![1, M + 1]⟩ : Shape).numel = M + 1 := numel_row (M + 1)
  have key : ∀ n : Fin (⟨2, ![1, M + 1]⟩ : Shape).numel,
      ((Shape.rowMajor ⟨2, ![1, M + 1]⟩).symm n 0).val = 0 ∧ ((Shape.rowMajor ⟨2, ![1, M + 1]⟩).symm n 1).val = n.val := by
    intro n
    have e := Shape.rowMajor_val_two ((Shape.rowMajor ⟨2, ![1, M + 1]⟩).symm n)
    rw [Equiv.apply_symm_apply] at e
    have h0 : ((Shape.rowMajor ⟨2, ![1, M + 1]⟩).symm n 0).val < 1 := ((Shape.rowMajor ⟨2, ![1, M + 1]⟩).symm n 0).isLt
    have h0' : ((Shape.rowMajor ⟨2, ![1, M + 1]⟩).symm n 0).val = 0 := by omega
    refine ⟨h0', ?_⟩
    rw [h0', Nat.zero_mul, Nat.zero_add] at e
    exact e.symm
  rw [← Finset.sum_filter]
  symm
  refine Finset.sum_bij_ne_zero (fun i hi _ => (⟨i.val + M - j.val, by
      have := (Finset.mem_filter.1 hi).2
      have hij : i.val ≤ j.val := this
      show i.val + M - j.val < (⟨2, ![1, M + 1]⟩ : Shape).numel
      rw [hnum]; omega⟩ : Fin (⟨2, ![1, M + 1]⟩ : Shape).numel)) (fun _ _ _ => Finset.mem_univ _) ?_ ?_ ?_
  · intro i hi _ i' hi' _ e
    have e' : i.val + M - j.val = i'.val + M - j.val := congrArg Fin.val e
    apply Fin.ext; omega
  · intro n _ hn
    split at hn
    · next hin =>
      have h1 := hin 1
      have hn1 := (key n).2
      change M ≤ j.val * 1 + ((Shape.rowMajor ⟨2, ![1, M + 1]⟩).symm n 1).val
        ∧ j.val * 1 + ((Shape.rowMajor ⟨2, ![1, M + 1]⟩).symm n 1).val - M < M + 1 at h1
      rw [hn1] at h1
      have hnl : n.val < M + 1 := lt_of_lt_of_eq n.isLt hnum
      refine ⟨⟨j.val + n.val - M, by omega⟩, Finset.mem_filter.2 ⟨Finset.mem_univ _, ?_⟩, ?_, Fin.ext ?_⟩
      · show j.val + n.val - M ≤ j.val
        omega
      · refine fun hz => hn (Eq.trans (congrArg x ?_) hz)
        funext a; apply Fin.ext
        match a with
        | ⟨0, _⟩ =>
          show b.val * 1 + ((Shape.rowMajor ⟨2, ![1, M + 1]⟩).symm n 0).val - 0 = b.val
          rw [(key n).1]; omega
        | ⟨1, _⟩ =>
          show j.val * 1 + ((Shape.rowMajor ⟨2, ![1, M + 1]⟩).symm n 1).val - M = j.val + n.val - M
          rw [hn1, Nat.mul_one]
      · show j.val + n.val - M + M - j.val = n.val
        omega
    · exact absurd rfl hn
  · intro i hi _
    have hij : i.val ≤ j.val := (Finset.mem_filter.1 hi).2
    have hb := b.isLt
    rw [dif_pos]
    · refine congrArg x ?_
      funext a; apply Fin.ext
      match a with
      | ⟨0, _⟩ =>
        show b.val = b.val * 1 + ((Shape.rowMajor ⟨2, ![1, M + 1]⟩).symm _ 0).val - 0
        rw [(key _).1]; omega
      | ⟨1, _⟩ =>
        show i.val = j.val * 1 + ((Shape.rowMajor ⟨2, ![1, M + 1]⟩).symm _ 1).val - M
        rw [(key _).2]
        show i.val = j.val * 1 + (i.val + M - j.val) - M
        omega
    · intro a
      match a with
      | ⟨0, _⟩ =>
        show 0 ≤ b.val * 1 + ((Shape.rowMajor ⟨2, ![1, M + 1]⟩).symm _ 0).val ∧ b.val * 1 + ((Shape.rowMajor ⟨2, ![1, M + 1]⟩).symm _ 0).val - 0 < B
        rw [(key _).1]; omega
      | ⟨1, _⟩ =>
        show M ≤ j.val * 1 + ((Shape.rowMajor ⟨2, ![1, M + 1]⟩).symm _ 1).val
          ∧ j.val * 1 + ((Shape.rowMajor ⟨2, ![1, M + 1]⟩).symm _ 1).val - M < M + 1
        rw [(key _).2]
        show M ≤ j.val * 1 + (i.val + M - j.val) ∧ j.val * 1 + (i.val + M - j.val) - M < M + 1
        omega

/-- The running count of a row's set bits. -/
theorem cumsum_bits {B N M : ℕ} (hM : M + 1 = N) (hN : N < 2 ^ 32) (m : IVec (Sh2 B N) 1) (hw : 1 < 32)
    (init : IVec ⟨0, ![]⟩ 32) (hinit : ∀ i, init i = 0#32)
    (h : (Sh2 B N).ReduceWindows (![1, N] : Fin 2 → ℕ) ![1, 1] ![0, M] ![0, 0] (Sh2 B N)) (hu : 0 < (⟨0, ![]⟩ : Shape).numel)
    (b : Fin B) (j : Fin N) :
    (Host.reduceWindow IntOp.addi ![1, N] ![1, 1] ![0, M] ![0, 0] (extui 32 m hw) init h hu (ValueIdx.ix2 b j)).toNat
      = prefixCount (fun i => m (ValueIdx.ix2 b i) = 1#1) j := by
  classical
  rw [cumsum_row hM _ init hinit h hu b j, prefixCount_eq]
  have e : ∀ i : Fin N, (if i ≤ j then extui 32 m hw (ValueIdx.ix2 b i) else 0)
      = (if i ≤ j then m (ValueIdx.ix2 b i) else 0#1).setWidth 32 := by
    intro i; split <;> rfl
  rw [Finset.sum_congr rfl fun i _ => e i, toNat_bit_sum _ (by rw [Fintype.card_fin]; exact hN)]
  congr 1
  ext i
  simp only [Finset.mem_filter, Finset.mem_univ, true_and]
  split
  · next hij => simp [hij]
  · next hij => simp [hij]

/-- The count of the set bits along the last axis. -/
theorem count_last {A B C : ℕ} (hC : C < 2 ^ 32) (m : IVec (Sh3 A B C) 1) (hw : 1 < 32) (init : IVec ⟨0, ![]⟩ 32) (hinit : ∀ i, init i = 0#32)
    (h : (Sh3 A B C).ReducesTo [2] (Sh2 A B)) (hu : 0 < (⟨0, ![]⟩ : Shape).numel) (a : Fin A) (b : Fin B) :
    (Host.reduce IntOp.addi (extui 32 m hw) init h hu (ValueIdx.ix2 a b)).toNat
      = (univ.filter fun c : Fin C => m (ValueIdx.ix3 a b c) = 1#1).card := by
  classical
  rw [Host.reduce_eq_fold, Shape.ReducesTo.fold_fiber_r3_a2 h, hinit]
  refine (congrArg BitVec.toNat (IndicatorCount.fold_addi_setWidth_eq_card (fun c : Fin C => m (ValueIdx.ix3 a b c)) univ)).trans ?_
  rw [BitVec.toNat_ofNat, Nat.mod_eq_of_lt]
  exact (Finset.card_le_univ _).trans_lt (by rw [Fintype.card_fin]; exact hC)

section Take
variable {α : Type} {A N C : ℕ}

/-- Taking entries of each row at that row's own positions: the gather read at an index. -/
theorem gather_rows (hN : 0 < N) (d : GatherDims (Sh2 A N) (Sh3 A C 1) (Sh2 A C))
    (ho : d.offsetDims = []) (hc : d.collapsedSliceDims = [1]) (hob : d.operandBatchingDims = [0]) (hsb : d.startIndicesBatchingDims = [0])
    (hsm : d.startIndexMap = [1]) (hiv : d.indexVectorDim = 2) (hss : d.sliceSizes = ![1, 1])
    (x : (Sh2 A N).Idx → α) (idx : IVec (Sh3 A C 1) 32) (a : Fin A) (c : Fin C) :
    Host.gather d x idx (ValueIdx.ix2 a c)
      = x (ValueIdx.ix2 a ⟨min (idx (ValueIdx.ix3 a c 0)).toInt.toNat (N - 1), by omega⟩) := by
  obtain ⟨od, cd, ob, sb, sm, iv, ss, wf⟩ := d
  dsimp only at ho hc hob hsb hsm hiv hss
  subst ho hc hob hsb hsm hiv hss
  unfold Host.gather
  congr 1
  funext e
  refine Fin.ext ?_
  match e with
  | ⟨0, _⟩ =>
    show GatherDims.start _ _ idx 0 + GatherDims.batchCoord _ _ 0 + GatherDims.offCoord _ _ 0 = a.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show GatherDims.start _ _ idx 1 + GatherDims.batchCoord _ _ 1 + GatherDims.offCoord _ _ 1 = _
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun k => min (idx k).toInt.toNat (N - 1)) (funext fun f => Fin.ext ?_)
    match f with
    | ⟨0, _⟩ => rfl
    | ⟨1, _⟩ => rfl
    | ⟨2, _⟩ => rfl

end Take

open Cert.KernelIdeal Cert.KernelIdeal.Gen in
/-- Taking along each row of `x` at the positions `i`, as the programs print it: negative positions wrapped by `nw`, the gather, and
`fill` at a position outside `[0, top]`. -/
def takeRow {α : Type} {N : ℕ} (d : GatherDims (Sh2 2 N) S2x1000x1 S2x1000) (x : (Sh2 2 N).Idx → α) (i : IVec S2x1000 32) (nw top : BitVec 32)
    (fill : S2x1000.Idx → α) : S2x1000.Idx → α :=
  let i' : IVec S2x1000x1 32 := shapeCast S2x1000x1 (select (cmpi .slt i (broadcastInDim S2x1000 ![] bcast_S_S2x1000 (constantI S_ 32 0#32)))
    (addi i (broadcastInDim S2x1000 ![] bcast_S_S2x1000 (constantI S_ 32 nw))) i) shapeCasts_S2x1000_S2x1000x1
  select (Host.reduce IntOp.andi
      (andi (cmpi .sge i' (broadcastInDim S2x1000x1 ![] bcast_S_S2x1000x1 (constantI S_ 32 0#32)))
        (cmpi .sle i' (broadcastInDim S2x1000x1 ![0, 1, 2] bcast_S1x1x1_S2x1000x1_0_1_2 (broadcastInDim S1x1x1 ![2] bcast_S1_S1x1x1_2 (constantI S1 32 top)))))
      (constantI S_ 1 1#1) reducesTo_S2x1000x1_S2x1000_d2 h_S_)
    (Host.gather d x i') fill

open Cert.KernelIdeal Cert.KernelIdeal.Gen in
/-- At positions inside the row it is the row's entry there. -/
theorem takeRow_apply {α : Type} {N : ℕ} (hN : 0 < N) (hN' : N < 2 ^ 31) (d : GatherDims (Sh2 2 N) S2x1000x1 S2x1000)
    (ho : d.offsetDims = []) (hc : d.collapsedSliceDims = [1]) (hob : d.operandBatchingDims = [0]) (hsb : d.startIndicesBatchingDims = [0])
    (hsm : d.startIndexMap = [1]) (hiv : d.indexVectorDim = 2) (hss : d.sliceSizes = ![1, 1])
    (x : (Sh2 2 N).Idx → α) (i : IVec S2x1000 32) (nw top : BitVec 32) (htop : top.toNat = N - 1)
    (fill : S2x1000.Idx → α) (hi : ∀ j, (i j).toNat < N) (a : Fin 2) (c : Fin 1000) :
    takeRow d x i nw top fill (ValueIdx.ix2 a c) = x (ValueIdx.ix2 a ⟨(i (ValueIdx.ix2 a c)).toNat, hi _⟩) := by
  have hsel : select (cmpi .slt i (broadcastInDim S2x1000 ![] bcast_S_S2x1000 (constantI S_ 32 0#32)))
      (addi i (broadcastInDim S2x1000 ![] bcast_S_S2x1000 (constantI S_ 32 nw))) i = i := by
    funext j
    have e : cmpi .slt i (broadcastInDim S2x1000 ![] bcast_S_S2x1000 (constantI S_ 32 0#32)) j = 0#1 := by
      show IntOp.cmpi .slt (i j) 0#32 = 0#1
      have h1 := hi j
      have : ¬ IntOp.cmpi .slt (i j) 0#32 = 1#1 := by
        rw [StableHlo.Predicate.slt_iff_toNat (by omega) (by decide)]
        exact Nat.not_lt_zero _
      generalize IntOp.cmpi .slt (i j) 0#32 = t at this
      revert t; decide
    rw [ValueIdx.select_apply, e]; rfl
  have hcast : ∀ j : S2x1000x1.Idx, shapeCast S2x1000x1 i shapeCasts_S2x1000_S2x1000x1 j = i (ValueIdx.ix2 (j 0) (j 1)) := fun j => by
    refine shapeCast_apply _ _ _ _ ?_
    rewrite [Shape.rowMajor_val_three, Shape.rowMajor_val_two]
    have h2 : (j 2).val < 1 := (j 2).isLt
    show (j 0).val * 1000 + (j 1).val = ((j 0).val * 1000 + (j 1).val) * 1 + (j 2).val
    omega
  have hred : ∀ j, Host.reduce IntOp.andi
      (andi (cmpi .sge (shapeCast S2x1000x1 i shapeCasts_S2x1000_S2x1000x1) (broadcastInDim S2x1000x1 ![] bcast_S_S2x1000x1 (constantI S_ 32 0#32)))
        (cmpi .sle (shapeCast S2x1000x1 i shapeCasts_S2x1000_S2x1000x1) (broadcastInDim S2x1000x1 ![0, 1, 2] bcast_S1x1x1_S2x1000x1_0_1_2 (broadcastInDim S1x1x1 ![2] bcast_S1_S1x1x1_2 (constantI S1 32 top)))))
      (constantI S_ 1 1#1) reducesTo_S2x1000x1_S2x1000_d2 h_S_ j = 1#1 := fun j => by
    refine Host.reduce_andi_one _ _ _ _ _ rfl fun k => ?_
    show IntOp.andi (IntOp.cmpi .sge (shapeCast S2x1000x1 i shapeCasts_S2x1000_S2x1000x1 k) 0#32)
      (IntOp.cmpi .sle (shapeCast S2x1000x1 i shapeCasts_S2x1000_S2x1000x1 k) top) = 1#1
    rw [hcast k]
    have h1 := hi (ValueIdx.ix2 (k 0) (k 1))
    have a1 : IntOp.cmpi .sge (i (ValueIdx.ix2 (k 0) (k 1))) 0#32 = 1#1 :=
      (StableHlo.Predicate.sge_iff_toNat (by omega) (by decide)).2 (Nat.zero_le _)
    have a2 : IntOp.cmpi .sle (i (ValueIdx.ix2 (k 0) (k 1))) top = 1#1 :=
      (StableHlo.Predicate.sle_iff_toNat (by omega) (by omega)).2 (by omega)
    rw [a1, a2]; rfl
  unfold takeRow
  dsimp only
  rw [hsel, ValueIdx.select_apply, hred]
  refine (show Scalar.select 1#1 _ _ = _ from rfl).trans ?_
  rw [gather_rows hN d ho hc hob hsb hsm hiv hss]
  refine congrArg x (congrArg (ValueIdx.ix2 a) (Fin.ext ?_))
  show min (shapeCast S2x1000x1 i shapeCasts_S2x1000_S2x1000x1 (ValueIdx.ix3 a c 0)).toInt.toNat (N - 1) = (i (ValueIdx.ix2 a c)).toNat
  have e : shapeCast S2x1000x1 i shapeCasts_S2x1000_S2x1000x1 (ValueIdx.ix3 a c 0) = i (ValueIdx.ix2 a c) := hcast _
  rw [e]
  have h1 := hi (ValueIdx.ix2 a c)
  rw [BitVec.toInt_eq_toNat_of_lt (by omega)]
  omega

end Cert.Nms

end
-- ==== Proof.TopKRow.lean ====
/- What `top_k` along the rows of a two-axis array returns over the extended reals: at place `r` of a row, the value
   and the index of the row's entry of position `r` (Rank.lean). -/
module

public import proofs.«01_k».proof.Proof.Rank
public import Idealize.ShloMosaic.Lib.ValueIdx
public import Idealize.ShloMosaic.PureOps.Ideal.Laws

@[expose] public section

namespace Cert.Nms

open Idealize.ShloMosaic Idealize.ShloMosaic.ValueIdx

/-- Row `b` of a two-axis array. -/
def row {α : Type} {m n : ℕ} (x : (⟨2, ![m, n]⟩ : Shape).Idx → α) (b : Fin m) : Fin n → α := fun j => x (ix2 b j)

/-- The comparison of extended reals is their order. -/
theorem ideal_cmp_ogt (a b : EReal) : (Ideal.cmp .ogt a b == 1#1) = true ↔ b < a := by
  unfold Ideal.cmp
  by_cases h : b < a <;> simp [h]

/-- Place `r` of row `b` of the result of `top_k` holds the value and the index of the row's entry of position `r`. -/
theorem topK_row {m n k : ℕ} (x : (⟨2, ![m, n]⟩ : Shape).Idx → EReal)
    (h : (⟨2, ![m, n]⟩ : Shape).Slices (fun _ => 0) ⟨2, ![m, k]⟩) (b : Fin m) (r : Fin k) :
    ∃ j : Fin n, rank (row x b) j = r
      ∧ (Host.topK ⟨2, ![m, k]⟩ 1 (FloatOps.cmpfTotal (F := Ideal) (φ := .f32) .gt) x h).1 (ix2 b r) = x (ix2 b j)
      ∧ (Host.topK ⟨2, ![m, k]⟩ 1 (FloatOps.cmpfTotal (F := Ideal) (φ := .f32) .gt) x h).2 (ix2 b r) = BitVec.ofNat 32 j := by
  have hk : k ≤ n := by
    obtain ⟨hr, hle⟩ := h
    simpa using hle 1
  have hd : 1 < (⟨2, ![m, n]⟩ : Shape).rank := Nat.one_lt_two
  let B : Fin n → Fin n → Bool := fun a c => Ideal.cmp .ogt (x (ix2 b a)) (x (ix2 b c)) == 1#1
  have hB : ∀ a c, B a c = true ↔ row x b c < row x b a := fun a c => ideal_cmp_ogt _ _
  have hal : ∀ (j : (⟨2, ![m, n]⟩ : Shape).Idx) (a : Fin n), j.along ⟨1, hd⟩ a = ix2 (j 0) a := by
    intro j a; funext d
    match d with
    | ⟨0, _⟩ => rfl
    | ⟨1, _⟩ => exact Function.update_self (β := fun d => Fin ((⟨2, ![m, n]⟩ : Shape).size d)) ⟨1, hd⟩ a j
  let r' : Fin n := ⟨r, r.isLt.trans_le hk⟩
  have hix : (fun a => ⟨0 + (ix2 b r (a.cast h.1.symm)).val,
      Nat.lt_of_lt_of_le (Nat.add_lt_add_left (ix2 b r _).isLt _) (h.2 a)⟩ : (⟨2, ![m, n]⟩ : Shape).Idx) = ix2 b r' := by
    funext a
    match a with
    | ⟨0, _⟩ => exact Fin.ext (Nat.zero_add _)
    | ⟨1, _⟩ => exact Fin.ext (Nat.zero_add _)
  have key : ∀ (y : (⟨2, ![m, n]⟩ : Shape).Idx → BitVec 32),
      Host.sort2 ⟨2, ![m, n]⟩ 1 (fun l s => FloatOps.cmpfTotal (F := Ideal) (φ := .f32) .gt l.1 s.1) x y
        = (fun j => x (j.along ⟨1, hd⟩ (sortedFrom (fun a c => FloatOps.cmpfTotal (F := Ideal) (φ := .f32) .gt
              (x (j.along ⟨1, hd⟩ a)) (x (j.along ⟨1, hd⟩ c)) == 1#1) (j ⟨1, hd⟩))),
           fun j => y (j.along ⟨1, hd⟩ (sortedFrom (fun a c => FloatOps.cmpfTotal (F := Ideal) (φ := .f32) .gt
              (x (j.along ⟨1, hd⟩ a)) (x (j.along ⟨1, hd⟩ c)) == 1#1) (j ⟨1, hd⟩)))) := by
    intro y
    unfold Host.sort2
    rw [dif_pos hd]
  have hs : (sortedFrom (fun a c => FloatOps.cmpfTotal (F := Ideal) (φ := .f32) .gt
      (x ((ix2 b r').along ⟨1, hd⟩ a)) (x ((ix2 b r').along ⟨1, hd⟩ c)) == 1#1) ((ix2 b r') ⟨1, hd⟩)) = sortedFrom B r' := by
    exact congrArg (fun B' : Fin n → Fin n → Bool => sortedFrom B' r') (funext fun a => funext fun c =>
      congrArg₂ (fun u v => Ideal.cmp .ogt (x u) (x v) == 1#1) (hal (ix2 b r') a) (hal (ix2 b r') c))
  have hp := (congrArg (fun c : Fin n => (ix2 b r').along ⟨1, hd⟩ c) hs).trans (hal (ix2 b r') (sortedFrom B r'))
  refine ⟨sortedFrom B r', rank_sortedFrom (row x b) B hB _, ?_, ?_⟩
  · unfold Host.topK
    dsimp only
    rw [key]
    unfold extractStridedSlice
    rw [hix]
    exact congrArg x hp
  · unfold Host.topK
    dsimp only
    rw [key]
    unfold extractStridedSlice
    rw [hix]
    refine (congrArg (fun i => if hd : 1 < (⟨2, ![m, n]⟩ : Shape).rank then iotaInDim ⟨2, ![m, n]⟩ 32 ⟨1, hd⟩ i else 0#32) hp).trans ?_
    rw [dif_pos hd]
    rfl

end Cert.Nms

end
-- ==== Proof.Selection.lean ====
/- The kernel's selection of a thousand candidates from the flat score row and the block's two words, and that ranking them gives the
thousand best entries of the row. -/
module

public import proofs.«01_k».proof.Proof.Ops
public import proofs.«01_k».proof.Proof.Select
public import proofs.«01_k».proof.Proof.TopKRow

@[expose] public section

noncomputable section

namespace Cert.Nms

open Idealize.ShloMosaic Finset Cert.KernelIdeal Cert.KernelIdeal.Gen

/-- The word each image's bisection ended at. -/
def loOf (wd : IVec S2x8x128 32) : IVec S2 32 := shapeCast S2 (extractStridedSlice S2x1x1 ![0, 0, 0] wd slices_S2x8x128_S2x1x1_0_0_0) shapeCasts_S2x1x1_S2
/-- The number of entries of each image at least the value of the next word. -/
def hiOf (wd : IVec S2x8x128 32) : IVec S2 32 := shapeCast S2 (extractStridedSlice S2x1x1 ![0, 0, 1] wd slices_S2x8x128_S2x1x1_0_0_1) shapeCasts_S2x1x1_S2

/-- The running count along each row of the set bits of a mask. -/
def countOf (m : IVec S2x2949120 1) : IVec S2x2949120 32 :=
  Host.reduceWindow IntOp.addi ![1, 2949120] ![1, 1] ![0, 2949119] ![0, 0] (extui 32 m natLt_1_32) (broadcastInDim S_ ![] bcast_S_S_ (constantI S_ 32 0#32))
    reduceWindows_S2x2949120_S2x2949120_w1s1p0_0_w2949120s1p2949119_0 h_S_

/-- One value per image laid along its row. -/
def alongRow {α : Type} (x : S2.Idx → α) : S2x2949120.Idx → α :=
  broadcastInDim S2x2949120 ![0, 1] bcast_S2x1_S2x2949120_0_1 (broadcastInDim S2x1 ![0] bcast_S2_S2x1_0 x)

/-- Where a score equals the threshold. -/
def equalOf (F : FVec Ideal S2x2949120 .f32) (lo : IVec S2 32) : IVec S2x2949120 1 := cmpf .oeq F (alongRow (bitcastToFloat .f32 lo))
/-- Where a score is above the threshold. -/
def aboveOf (F : FVec Ideal S2x2949120 .f32) (lo : IVec S2 32) : IVec S2x2949120 1 := cmpf .ogt F (alongRow (bitcastToFloat .f32 lo))

/-- The entries taken: those above the found value, and the first ones at it. -/
def maskOf (F : FVec Ideal S2x2949120 .f32) (lo hi : IVec S2 32) : IVec S2x2949120 1 :=
  ori (aboveOf F lo) (andi (equalOf F lo) (cmpi .sle (countOf (equalOf F lo))
    (alongRow (subi (broadcastInDim S2 ![] bcast_S_S2 (constantI S_ 32 1000#32)) hi))))

/-- For each of the thousand ranks, the number of entries of the row before the one taken at it. -/
def candOf (m : IVec S2x2949120 1) : IVec S2x1000 32 :=
  Host.reduce IntOp.addi (extui 32 (cmpi .slt
      (broadcastInDim S2x1000x2949120 ![0, 1, 2] bcast_S2x1x2949120_S2x1000x2949120_0_1_2 (broadcastInDim S2x1x2949120 ![0, 2] bcast_S2x2949120_S2x1x2949120_0_2 (countOf m)))
      (broadcastInDim S2x1000x2949120 ![0, 1, 2] bcast_S1x1000x1_S2x1000x2949120_0_1_2 (broadcastInDim S1x1000x1 ![1, 2] bcast_S1000x1_S1x1000x1_1_2
        (broadcastInDim S1000x1 ![0] bcast_S1000_S1000x1_0 (addi (broadcastInDim S1000 ![] bcast_S_S1000 (constantI S_ 32 1#32)) (iotaInDim S1000 32 0))))))
    natLt_1_32) (constantI S_ 32 0#32) reducesTo_S2x1000x2949120_S2x1000_d2 h_S_

/-- A value for each image, repeated along its row. -/
theorem alongRow_apply {α : Type} (x : S2.Idx → α) (b : Fin 2) (p : Fin 2949120) : alongRow x (ValueIdx.ix2 b p) = x (ValueIdx.ix1 b) := by
  unfold alongRow
  refine (broadcastInDim_apply _ _ _ _ (ValueIdx.ix2 b (0 : Fin 1)) ?_).trans (broadcastInDim_apply _ _ _ _ (ValueIdx.ix1 b) ?_)
  · intro a; match a with
    | ⟨0, _⟩ => rfl
    | ⟨1, _⟩ => rfl
  · intro a; match a with
    | ⟨0, _⟩ => rfl

/-- A place of rank two is the pair of its coordinates. -/
theorem ix2_pair {m n : ℕ} (i : (Sh2 m n).Idx) : i = ValueIdx.ix2 (i 0) (i 1) := by
  funext a
  match a with
  | ⟨0, _⟩ => rfl
  | ⟨1, _⟩ => rfl

/-- Two numbers below `n` are equal if their values are. -/
theorem fin_mk_eq {n x : ℕ} (h : x < n) (k : Fin n) (e : x = k.val) : (⟨x, h⟩ : Fin n) = k := Fin.ext e

/-- A disjunction of bits. -/
theorem or_bits : ∀ a b : BitVec 1, IntOp.ori a b = 1#1 ↔ a = 1#1 ∨ b = 1#1 := by decide
/-- A conjunction of bits. -/
theorem and_bits : ∀ a b : BitVec 1, IntOp.andi a b = 1#1 ↔ a = 1#1 ∧ b = 1#1 := by decide

/-- The running count of a mask, as a number. -/
theorem countOf_apply (m : IVec S2x2949120 1) (b : Fin 2) (p : Fin 2949120) :
    (countOf m (ValueIdx.ix2 b p)).toNat = prefixCount (fun i => m (ValueIdx.ix2 b i) = 1#1) p :=
  cumsum_bits (by decide) (by decide) m natLt_1_32 _ (fun _ => rfl) _ _ b p

/-- A running count is at most the length of the row. -/
theorem countOf_le (m : IVec S2x2949120 1) (b : Fin 2) (p : Fin 2949120) : (countOf m (ValueIdx.ix2 b p)).toNat ≤ 2949120 := by
  classical
  rw [countOf_apply, prefixCount_eq]
  exact (Finset.card_le_univ _).trans (by rw [Fintype.card_fin])

/-- The value of a word read back as a number. -/
theorem word_value (lo : IVec S2 32) (b : Fin 2) : (bitcastToFloat .f32 lo : FVec Ideal S2 .f32) (ValueIdx.ix1 b) = wordVal (lo (ValueIdx.ix1 b)).toNat :=
  congrArg (Ideal.ofBits .f32) (BitVec.ofNat_toNat 32 (lo (ValueIdx.ix1 b))).symm

variable (F : FVec Ideal S2x2949120 .f32) (lo hi : IVec S2 32) (b : Fin 2)

/-- Where a score equals the threshold, as an equation of reals. -/
theorem equalOf_apply (p : Fin 2949120) :
    equalOf F lo (ValueIdx.ix2 b p) = 1#1 ↔ row F b p = wordVal (lo (ValueIdx.ix1 b)).toNat := by
  unfold equalOf
  rw [ValueIdx.cmpf_apply, alongRow_apply, word_value]
  exact (StableHlo.Predicate.ofBool_eq_one_iff _).trans decide_eq_true_iff

/-- Where a score is above the threshold, as an inequality of reals. -/
theorem aboveOf_apply (p : Fin 2949120) :
    aboveOf F lo (ValueIdx.ix2 b p) = 1#1 ↔ wordVal (lo (ValueIdx.ix1 b)).toNat < row F b p := by
  unfold aboveOf
  rw [ValueIdx.cmpf_apply, alongRow_apply, word_value]
  exact (StableHlo.Predicate.ofBool_eq_one_iff _).trans decide_eq_true_iff

/-- What the mask takes. -/
theorem maskOf_apply (hhi : (hi (ValueIdx.ix1 b)).toNat < 1000) (p : Fin 2949120) :
    maskOf F lo hi (ValueIdx.ix2 b p) = 1#1 ↔ (wordVal (lo (ValueIdx.ix1 b)).toNat < row F b p
      ∨ (row F b p = wordVal (lo (ValueIdx.ix1 b)).toNat
        ∧ eqRank (row F b) (wordVal (lo (ValueIdx.ix1 b)).toNat) p + (hi (ValueIdx.ix1 b)).toNat ≤ 1000)) := by
  classical
  have hs : (subi (broadcastInDim S2 ![] bcast_S_S2 (constantI S_ 32 1000#32)) hi (ValueIdx.ix1 b)).toNat = 1000 - (hi (ValueIdx.ix1 b)).toNat := by
    show (1000#32 - hi (ValueIdx.ix1 b)).toNat = _
    rw [BitVec.toNat_sub]
    show (2 ^ 32 - (hi (ValueIdx.ix1 b)).toNat + 1000) % 2 ^ 32 = _
    omega
  have hc := countOf_le (equalOf F lo) b p
  have hr : (countOf (equalOf F lo) (ValueIdx.ix2 b p)).toNat = eqRank (row F b) (wordVal (lo (ValueIdx.ix1 b)).toNat) p := by
    rw [countOf_apply, prefixCount_eq, eqRank_eq]
    exact congrArg card (filter_congr fun i _ => and_congr_right fun _ => equalOf_apply F lo b i)
  refine (or_bits _ _).trans (or_congr (aboveOf_apply F lo b p) ((and_bits _ _).trans (and_congr (equalOf_apply F lo b p) ?_)))
  show IntOp.cmpi .sle (countOf (equalOf F lo) (ValueIdx.ix2 b p)) (alongRow _ (ValueIdx.ix2 b p)) = 1#1 ↔ _
  rw [alongRow_apply, StableHlo.Predicate.sle_iff_toNat (by omega) (by omega), hs, hr]
  omega

/-- The position found for rank `q`: the number of entries whose running count is at most `q`. -/
theorem candOf_apply (m : IVec S2x2949120 1) (q : Fin 1000) :
    (candOf m (ValueIdx.ix2 b q)).toNat = (univ.filter fun j => prefixCount (fun i => m (ValueIdx.ix2 b i) = 1#1) j < 1 + q.val).card := by
  unfold candOf
  refine (count_last (by decide) _ natLt_1_32 _ (fun _ => rfl) _ _ b q).trans (congrArg card (filter_congr fun j _ => ?_))
  have e1 : broadcastInDim S2x1000x2949120 ![0, 1, 2] bcast_S2x1x2949120_S2x1000x2949120_0_1_2 (broadcastInDim S2x1x2949120 ![0, 2] bcast_S2x2949120_S2x1x2949120_0_2 (countOf m))
      (ValueIdx.ix3 b q j) = countOf m (ValueIdx.ix2 b j) := by
    refine (broadcastInDim_apply _ _ _ _ (ValueIdx.ix3 b (0 : Fin 1) j) ?_).trans (broadcastInDim_apply _ _ _ _ (ValueIdx.ix2 b j) ?_)
    · intro a; match a with
      | ⟨0, _⟩ => rfl
      | ⟨1, _⟩ => rfl
      | ⟨2, _⟩ => rfl
    · intro a; match a with
      | ⟨0, _⟩ => rfl
      | ⟨1, _⟩ => rfl
  have e2 : broadcastInDim S2x1000x2949120 ![0, 1, 2] bcast_S1x1000x1_S2x1000x2949120_0_1_2 (broadcastInDim S1x1000x1 ![1, 2] bcast_S1000x1_S1x1000x1_1_2
        (broadcastInDim S1000x1 ![0] bcast_S1000_S1000x1_0 (addi (broadcastInDim S1000 ![] bcast_S_S1000 (constantI S_ 32 1#32)) (iotaInDim S1000 32 0))))
      (ValueIdx.ix3 b q j) = 1#32 + BitVec.ofNat 32 q.val := by
    refine (broadcastInDim_apply _ _ _ _ (ValueIdx.ix3 (0 : Fin 1) q (0 : Fin 1)) ?_).trans ((broadcastInDim_apply _ _ _ _ (ValueIdx.ix2 q (0 : Fin 1)) ?_).trans
      ((broadcastInDim_apply _ _ _ _ (ValueIdx.ix1 q) ?_).trans rfl))
    · intro a; match a with
      | ⟨0, _⟩ => rfl
      | ⟨1, _⟩ => rfl
      | ⟨2, _⟩ => rfl
    · intro a; match a with
      | ⟨0, _⟩ => rfl
      | ⟨1, _⟩ => rfl
    · intro a; match a with
      | ⟨0, _⟩ => rfl
  have hq := q.isLt
  have e3 : (1#32 + BitVec.ofNat 32 q.val).toNat = 1 + q.val := by
    rw [BitVec.toNat_add, BitVec.toNat_ofNat]
    show (1 + q.val % 2 ^ 32) % 2 ^ 32 = _
    omega
  have hc := countOf_le m b j
  show IntOp.cmpi .slt _ _ = 1#1 ↔ _
  rw [e1, e2, StableHlo.Predicate.slt_iff_toNat (by omega) (by omega), e3, countOf_apply]

/-- What the selection is given about an image: the word the bisection ended at with its two counts, the range of the scores, and the
gap of the precondition. -/
structure Selects : Prop where
  lt : (lo (ValueIdx.ix1 b)).toNat < 0x3F800001
  ge : 1000 ≤ countGe (row F b) (wordVal (lo (ValueIdx.ix1 b)).toNat)
  next : countGe (row F b) (wordVal ((lo (ValueIdx.ix1 b)).toNat + 1)) < 1000
  count : (hi (ValueIdx.ix1 b)).toNat = countGe (row F b) (wordVal ((lo (ValueIdx.ix1 b)).toNat + 1))
  nonneg : ∀ p, 0 ≤ row F b p
  le_one : ∀ p, row F b p ≤ 1
  pos : ∀ p, 0 < row F b p → wordVal 1 ≤ row F b p
  gap : ∃ j j', rank (row F b) j = 999 ∧ rank (row F b) j' = 1000
    ∧ (row F b j = 0 ∨ Ideal.ofBits .f32 0x33800000#32 ≤ row F b j - row F b j')

variable {F lo hi b}

/-- The mask takes exactly the thousand best entries of the row. -/
theorem Selects.mask (h : Selects F lo hi b) (p : Fin 2949120) :
    maskOf F lo hi (ValueIdx.ix2 b p) = 1#1 ↔ rank (row F b) p < 1000 := by
  obtain ⟨j, j', hj, hj', hg⟩ := h.gap
  rw [maskOf_apply F lo hi b (by rw [h.count]; exact h.next), h.count]
  exact mask_iff (row F b) 1000 _ _ (wordVal_lt (by omega) (by have := h.lt; omega)) h.ge h.next
    (mask_case (row F b) 1000 (by decide) _ h.lt h.ge h.next h.nonneg h.le_one h.pos j j' hj hj' hg) p

/-- The positions found are those of the thousand best entries, in increasing order. -/
theorem Selects.cand (h : Selects F lo hi b) : ∃ e : Fin 1000 → Fin 2949120, StrictMono e ∧ (∀ q, rank (row F b) (e q) < 1000)
    ∧ (∀ k, rank (row F b) k < 1000 → ∃ q, e q = k)
    ∧ ∀ q, (candOf (maskOf F lo hi) (ValueIdx.ix2 b q)).toNat = (e q).val := by
  classical
  have hT : (univ.filter fun i => maskOf F lo hi (ValueIdx.ix2 b i) = 1#1).card = 1000 := by
    rw [filter_congr fun i _ => h.mask i]
    exact card_rank_lt (row F b) (by decide)
  obtain ⟨e, he, hm, hs, hc⟩ := compact (fun i => maskOf F lo hi (ValueIdx.ix2 b i) = 1#1) 1000 hT
  exact ⟨e, he, fun q => (h.mask _).1 (hm q), fun k hk => hs k ((h.mask k).2 hk), fun q => (candOf_apply b _ q).trans (by rw [← hc q])⟩

/-- The scores at the positions found. -/
def pickedOf (F : FVec Ideal S2x2949120 .f32) (cand : IVec S2x1000 32) : FVec Ideal S2x1000 .f32 :=
  takeRow gather_S2x2949120_S2x1000x1_S2x1000_n_1_0_0_1_2_11 F cand 2949120#32 2949119#32
    (broadcastInDim S2x1000 ![] bcast_S_S2x1000 (constant S_ .f32 0x7FC00000#32))

/-- The positions of the ranked scores in the whole row. -/
def placedOf (cand ind : IVec S2x1000 32) : IVec S2x1000 32 :=
  takeRow gather_S2x1000_S2x1000x1_S2x1000_n_1_0_0_1_2_11 cand ind 1000#32 999#32
    (broadcastInDim S2x1000 ![] bcast_S_S2x1000 (constantI S_ 32 2147483648#32))

/-- Ranking the candidates gives the thousand best entries of the row, with their positions in the row. -/
theorem ranked (h : ∀ b, Selects F lo hi b) (hk : S2x2949120.Slices (fun _ => 0) S2x1000) :
    (Host.topK S2x1000 1 (FloatOps.cmpfTotal .gt) (pickedOf F (candOf (maskOf F lo hi))) sliceFits_S2x1000_S2x1000).1
        = (Host.topK S2x1000 1 (FloatOps.cmpfTotal .gt) F hk).1
      ∧ placedOf (candOf (maskOf F lo hi)) (Host.topK S2x1000 1 (FloatOps.cmpfTotal .gt) (pickedOf F (candOf (maskOf F lo hi))) sliceFits_S2x1000_S2x1000).2
        = (Host.topK S2x1000 1 (FloatOps.cmpfTotal .gt) F hk).2 := by
  have hlt : ∀ j, (candOf (maskOf F lo hi) j).toNat < 2949120 := fun j => by
    obtain ⟨e, -, -, -, hc⟩ := (h (j 0)).cand
    rw [ix2_pair j]
    exact (hc (j 1)).trans_lt (e (j 1)).isLt
  have hpick : ∀ b q (e : Fin 1000 → Fin 2949120), (candOf (maskOf F lo hi) (ValueIdx.ix2 b q)).toNat = (e q).val →
      pickedOf F (candOf (maskOf F lo hi)) (ValueIdx.ix2 b q) = row F b (e q) := fun b q e he => by
    refine (takeRow_apply (by decide) (by decide) _ rfl rfl rfl rfl rfl rfl rfl F _ _ _ rfl _ hlt b q).trans ?_
    have hx : (⟨(candOf (maskOf F lo hi) (ValueIdx.ix2 b q)).toNat, hlt _⟩ : Fin 2949120) = e q := fin_mk_eq _ _ he
    exact congrArg (fun k => F (ValueIdx.ix2 b k)) hx
  have hind : ∀ j, ((Host.topK S2x1000 1 (FloatOps.cmpfTotal .gt) (pickedOf F (candOf (maskOf F lo hi))) sliceFits_S2x1000_S2x1000).2 j).toNat < 1000 := fun j => by
    obtain ⟨q, -, -, hi⟩ := topK_row (pickedOf F (candOf (maskOf F lo hi))) sliceFits_S2x1000_S2x1000 (j 0) (j 1)
    rw [ix2_pair j]
    refine (congrArg BitVec.toNat hi).trans_lt ?_
    rw [BitVec.toNat_ofNat]
    exact (Nat.mod_le _ _).trans_lt q.isLt
  have key : ∀ (b : Fin 2) (r : Fin 1000),
      (Host.topK S2x1000 1 (FloatOps.cmpfTotal .gt) (pickedOf F (candOf (maskOf F lo hi))) sliceFits_S2x1000_S2x1000).1 (ValueIdx.ix2 b r)
        = (Host.topK S2x1000 1 (FloatOps.cmpfTotal .gt) F hk).1 (ValueIdx.ix2 b r)
      ∧ placedOf (candOf (maskOf F lo hi)) (Host.topK S2x1000 1 (FloatOps.cmpfTotal .gt) (pickedOf F (candOf (maskOf F lo hi))) sliceFits_S2x1000_S2x1000).2 (ValueIdx.ix2 b r)
        = (Host.topK S2x1000 1 (FloatOps.cmpfTotal .gt) F hk).2 (ValueIdx.ix2 b r) := by
    intro b r
    obtain ⟨e, he, hmem, hsur, hc⟩ := (h b).cand
    obtain ⟨q, hq, hv, hi'⟩ := topK_row (pickedOf F (candOf (maskOf F lo hi))) sliceFits_S2x1000_S2x1000 b r
    obtain ⟨j, hj, hv', hi''⟩ := topK_row F hk b r
    have hrow : row (pickedOf F (candOf (maskOf F lo hi))) b = fun q => row F b (e q) := funext fun q => hpick b q e (hc q)
    have hqj : e q = j := compact_rank (row F b) 1000 e he hmem hsur q j (by rw [← hrow, hq, hj])
    have hn : BitVec.toNat (BitVec.ofNat 32 q.val) = q.val := by
      rw [BitVec.toNat_ofNat]; have := q.isLt; omega
    refine ⟨hv.trans (Eq.trans ?_ hv'.symm), Eq.trans ?_ hi''.symm⟩
    · exact (hpick b q e (hc q)).trans (congrArg (row F b) hqj)
    · refine (takeRow_apply (by decide) (by decide) _ rfl rfl rfl rfl rfl rfl rfl (candOf (maskOf F lo hi)) _ _ _ rfl _ hind b r).trans ?_
      have hx : (⟨_, hind (ValueIdx.ix2 b r)⟩ : Fin 1000) = q := Fin.ext ((congrArg BitVec.toNat hi').trans hn)
      refine Eq.trans (congrArg (fun k => candOf (maskOf F lo hi) (ValueIdx.ix2 b k)) hx) ?_
      · apply BitVec.eq_of_toNat_eq
        rw [hc q, hqj, BitVec.toNat_ofNat]
        have := j.isLt; omega
  constructor
  · funext i; rw [ix2_pair i]; exact (key (i 0) (i 1)).1
  · funext i; rw [ix2_pair i]; exact (key (i 0) (i 1)).2

end Cert.Nms

end
-- ==== Proof.Scores.lean ====
/- The masked score of an anchor and class, as one function of its two logits; and the flat row of scores both programs pick from. -/
module

public import proofs.«01_k».proof.Proof.Words
public import proofs.«01_k».proof.Proof.Arrays
public import proofs.«01_k».proof.Proof.Gen.ReferenceIdeal.Read

@[expose] public section

noncomputable section

namespace Cert.Nms

open Idealize.ShloMosaic

/-- `1 / (1 + exp (-x))`. -/
def sigma (x : EReal) : EReal := Ideal.div 1 (1 + Ideal.exp (-x))

/-- The masked score of the two logits: the root of the product of their sigmas where that is above 0.05, else zero. -/
def scoreOf (x y : EReal) : EReal :=
  Scalar.select (Ideal.cmp .ogt (Ideal.sqrt (sigma x * sigma y)) (Ideal.ofBits .f32 0x3D4CCCCD#32)) (Ideal.sqrt (sigma x * sigma y)) 0

open Cert.KernelIdeal Cert.KernelIdeal.Gen in
/-- The kernel's block of scores, entry by entry. -/
theorem pay2_apply (x0 : Vec Ideal S1x9x80x4096 .f32) (x1 : Vec Ideal S1x9x1x4096 .f32)
    (a : Fin 9) (c : Fin 80) (q : Fin 4096) :
    k0_pay2 x0 x1 (ValueIdx.ix4 0 a c q) = scoreOf (x0 (ValueIdx.ix4 0 a c q)) (x1 (ValueIdx.ix4 0 a 0 q)) := by
  have hb : ∀ f : FVec Ideal S1x9x1x4096 .f32, broadcastTo S1x9x80x4096 f broadcasts_S1x9x1x4096_S1x9x80x4096 (ValueIdx.ix4 0 a c q)
      = f (ValueIdx.ix4 0 a 0 q) := fun f => broadcastTo_apply f _ _ _ (fun i => match i with
        | ⟨0, _⟩ => rfl
        | ⟨1, _⟩ => rfl
        | ⟨2, _⟩ => rfl
        | ⟨3, _⟩ => rfl)
  have hs : ∀ x : EReal, Ideal.div (Ideal.ofBits .f32 0x3F800000#32)
      (Ideal.ofBits .f32 0x3F800000#32 + Ideal.exp (Ideal.ofBits .f32 0x00000000#32 - x)) = sigma x := fun x => by
    rw [Ideal.ofBits_one_f32, Ideal.ofBits_zero_f32, zero_sub]; rfl
  unfold k0_pay2
  simp only [shapeCast_self]
  have key : ∀ u v w z : EReal, u = sigma v → w = sigma z →
      Scalar.select (Ideal.cmp .ogt (Ideal.sqrt (u * w)) (Ideal.ofBits .f32 0x3D4CCCCD#32)) (Ideal.sqrt (u * w)) (Ideal.ofBits .f32 0x00000000#32)
        = scoreOf v z := by
    rintro _ v _ z rfl rfl
    rw [Ideal.ofBits_zero_f32]; rfl
  exact key _ _ _ _ (hs _) ((hb _).trans (hs _))

/-- A sigma is a real number between zero and one. -/
theorem sigma_real (x : EReal) : ∃ s : ℝ, 0 ≤ s ∧ s ≤ 1 ∧ sigma x = (s : EReal) := by
  unfold sigma
  induction x with
  | bot => exact ⟨0, le_refl _, zero_le_one, by
      show Ideal.div 1 (1 + Ideal.exp ⊤) = _
      show Ideal.div 1 (1 + ⊤) = _
      rw [EReal.add_top_of_ne_bot (by decide)]
      unfold Ideal.div
      rw [if_neg (by decide), EReal.inv_top, mul_zero]; rfl⟩
  | top => exact ⟨1, zero_le_one, le_refl _, by
      show Ideal.div 1 (1 + Ideal.exp ⊥) = _
      show Ideal.div 1 (1 + 0) = _
      rw [add_zero]
      unfold Ideal.div
      rw [if_neg one_ne_zero]
      show (1 : EReal) * ((1 : ℝ) : EReal)⁻¹ = _
      rw [← EReal.coe_inv, inv_one, one_mul]⟩
  | coe r =>
    have hp : 0 < 1 + Real.exp (-r) := by positivity
    refine ⟨(1 + Real.exp (-r))⁻¹, by positivity, inv_le_one_of_one_le₀ (by have := Real.exp_pos (-r); linarith), ?_⟩
    have e : (1 : EReal) + Ideal.exp (-(r : EReal)) = ((1 + Real.exp (-r) : ℝ) : EReal) := by
      rw [← EReal.coe_neg]
      show (1 : EReal) + ((Real.exp (-r) : ℝ) : EReal) = _
      rw [EReal.coe_add]; rfl
    rw [e]
    unfold Ideal.div
    rw [if_neg (by exact_mod_cast hp.ne'), one_mul, EReal.coe_inv]

/-- The root of the product of two sigmoids is a real number between zero and one. -/
theorem root_real (x y : EReal) : ∃ s : ℝ, 0 ≤ s ∧ s ≤ 1 ∧ Ideal.sqrt (sigma x * sigma y) = (s : EReal) := by
  obtain ⟨s, s0, s1, hs⟩ := sigma_real x
  obtain ⟨t, t0, t1, ht⟩ := sigma_real y
  refine ⟨Real.sqrt (s * t), Real.sqrt_nonneg _, Real.sqrt_le_one.2 (mul_le_one₀ s1 t0 t1), ?_⟩
  rw [hs, ht, ← EReal.coe_mul]
  show (if s * t < 0 then (⊥ : EReal) else _) = _
  rw [if_neg (not_lt.2 (mul_nonneg s0 t0))]

/-- A score is zero, or greater than the threshold and at most one. -/
theorem scoreOf_cases (x y : EReal) : scoreOf x y = 0 ∨
    (Ideal.ofBits .f32 0x3D4CCCCD#32 < scoreOf x y ∧ scoreOf x y ≤ 1) := by
  obtain ⟨s, s0, s1, hs⟩ := root_real x y
  unfold scoreOf
  rw [hs]
  by_cases h : Ideal.ofBits .f32 0x3D4CCCCD#32 < (s : EReal)
  · right
    have e : Ideal.cmp .ogt (s : EReal) (Ideal.ofBits .f32 0x3D4CCCCD#32) = 1#1 := by
      show BitVec.ofBool (decide _) = 1#1
      rw [decide_eq_true h]; rfl
    rw [e]
    exact ⟨h, by show (s : EReal) ≤ 1; exact_mod_cast s1⟩
  · left
    have e : Ideal.cmp .ogt (s : EReal) (Ideal.ofBits .f32 0x3D4CCCCD#32) = 0#1 := by
      show BitVec.ofBool (decide _) = 0#1
      rw [decide_eq_false h]; rfl
    rw [e]; rfl

/-- The threshold is the value of its word. -/
theorem threshold_eq : Ideal.ofBits .f32 0x3D4CCCCD#32 = wordVal 0x3D4CCCCD := rfl

/-- The threshold is positive. -/
theorem threshold_pos : 0 < Ideal.ofBits .f32 0x3D4CCCCD#32 := by
  rw [threshold_eq, ← wordVal_zero]; exact wordVal_lt (by decide) (by decide)

/-- A score is not negative. -/
theorem scoreOf_nonneg (x y : EReal) : 0 ≤ scoreOf x y := by
  rcases scoreOf_cases x y with h | h
  · exact h.ge
  · exact (threshold_pos.trans h.1).le

/-- A score is at most one. -/
theorem scoreOf_le_one (x y : EReal) : scoreOf x y ≤ 1 := by
  rcases scoreOf_cases x y with h | h
  · exact h.le.trans zero_le_one
  · exact h.2

/-- A score above zero is at least the least positive word's value. -/
theorem scoreOf_pos (x y : EReal) (h0 : 0 < scoreOf x y) : wordVal 1 ≤ scoreOf x y := by
  rcases scoreOf_cases x y with h | h
  · exact absurd h h0.ne'
  · refine le_trans ?_ h.1.le
    rw [threshold_eq]; exact (wordVal_lt (by decide) (by decide)).le

/-- The cell, anchor shape and class a flat position `p` of a row of scores stands for. -/
def cell (p : Fin 2949120) : Fin 4096 := ⟨p.val / 720, by have := p.isLt; omega⟩
/-- The anchor shape at a flat place. -/
def shapeAt (p : Fin 2949120) : Fin 9 := ⟨p.val % 720 / 80, by omega⟩
/-- The class at a flat place. -/
def classAt (p : Fin 2949120) : Fin 80 := ⟨p.val % 80, by omega⟩

/-- The score at flat position `p` of image `b`, from the argument arrays. -/
def score (x0 : Vec Ideal Cert.KernelIdeal.S2x720x64x64 .f32) (x2 : Vec Ideal Cert.KernelIdeal.S2x9x64x64 .f32) (b : Fin 2) (p : Fin 2949120) : EReal :=
  scoreOf (x0 (ValueIdx.ix4 b ⟨p.val % 720, by omega⟩ ⟨p.val / 720 / 64, by have := p.isLt; omega⟩ ⟨p.val / 720 % 64, by omega⟩))
    (x2 (ValueIdx.ix4 b (shapeAt p) ⟨p.val / 720 / 64, by have := p.isLt; omega⟩ ⟨p.val / 720 % 64, by omega⟩))

open Cert.KernelIdeal Cert.KernelIdeal.Gen in
/-- The kernel's row of scores of image `b`: the transposed and flattened array of its blocks. -/
theorem kernel_scores (x0 : Vec Ideal S2x720x64x64 .f32) (x2 : Vec Ideal S2x9x64x64 .f32) (b : Fin 2) (p : Fin 2949120) :
    shapeCast S2x2949120 (transpose S2x4096x720 [0, 2, 1]
      (shapeCast S2x720x4096 (images4 (scores (shapeCast S2x9x80x4096 x0 shapeCasts_S2x720x64x64_S2x9x80x4096)
        (shapeCast S2x9x1x4096 x2 shapeCasts_S2x9x64x64_S2x9x1x4096))) shapeCasts_S2x9x80x4096_S2x720x4096)
      transposes_S2x720x4096_S2x4096x720_0_2_1) shapeCasts_S2x4096x720_S2x2949120 (ValueIdx.ix2 b p) = score x0 x2 b p := by
  have hp := p.isLt
  have hb := b.isLt
  refine (shapeCast_apply _ _ _ (ValueIdx.ix3 b (cell p) (⟨p.val % 720, by omega⟩ : Fin 720)) (by
    rewrite [Shape.rowMajor_val_three, Shape.rowMajor_val_two]
    show (b.val * 4096 + p.val / 720) * 720 + p.val % 720 = b.val * 2949120 + p.val
    omega)).trans ?_
  refine (transpose_apply _ _ _ _ (ValueIdx.ix3 b (⟨p.val % 720, by omega⟩ : Fin 720) (cell p)) (fun i => match i with
    | ⟨0, _⟩ => rfl
    | ⟨1, _⟩ => rfl
    | ⟨2, _⟩ => rfl)).trans ?_
  refine (shapeCast_apply _ _ _ (ValueIdx.ix4 b (shapeAt p) (classAt p) (cell p)) (by
    rewrite [Shape.rowMajor_val_three, Shape.rowMajor_val_four]
    show ((b.val * 9 + p.val % 720 / 80) * 80 + p.val % 80) * 4096 + p.val / 720 = (b.val * 720 + p.val % 720) * 4096 + p.val / 720
    omega)).trans ?_
  refine (pay2_apply _ _ (shapeAt p) (classAt p) (cell p)).trans ?_
  refine congrArg₂ scoreOf ?_ ?_
  · exact shapeCast_apply _ _ _ (ValueIdx.ix4 b _ _ _) (by
      rewrite [Shape.rowMajor_val_four, Shape.rowMajor_val_four]
      show ((b.val * 720 + p.val % 720) * 64 + p.val / 720 / 64) * 64 + p.val / 720 % 64 = ((b.val * 9 + p.val % 720 / 80) * 80 + p.val % 80) * 4096 + p.val / 720
      omega)
  · exact shapeCast_apply _ _ _ (ValueIdx.ix4 b _ _ _) (by
      rewrite [Shape.rowMajor_val_four, Shape.rowMajor_val_four]
      show ((b.val * 9 + p.val % 720 / 80) * 64 + p.val / 720 / 64) * 64 + p.val / 720 % 64 = ((b.val * 9 + p.val % 720 / 80) * 1 + 0) * 4096 + p.val / 720
      omega)

/-- The coordinates of a flat place of the centre logits. -/
theorem decode4 (b a r c : ℕ) (ha : a < 9) (hr : r < 64) (hc : c < 64) :
    ((((b * 9 + a) * 1 + 0) * 64 + r) * 64 + c) / 36864 = b ∧ ((((b * 9 + a) * 1 + 0) * 64 + r) * 64 + c) / 4096 % 9 = a
      ∧ ((((b * 9 + a) * 1 + 0) * 64 + r) * 64 + c) / 64 % 64 = r ∧ ((((b * 9 + a) * 1 + 0) * 64 + r) * 64 + c) % 64 = c := by
  omega

/-- The coordinates of a flat place of the class logits. -/
theorem decode5 (b a k r c : ℕ) (ha : a < 9) (hk : k < 80) (hr : r < 64) (hc : c < 64) :
    ((((b * 9 + a) * 80 + k) * 64 + r) * 64 + c) / 2949120 = b ∧ ((((b * 9 + a) * 80 + k) * 64 + r) * 64 + c) / 4096 % 720 = a * 80 + k
      ∧ ((((b * 9 + a) * 80 + k) * 64 + r) * 64 + c) / 64 % 64 = r ∧ ((((b * 9 + a) * 80 + k) * 64 + r) * 64 + c) % 64 = c := by
  omega

open Cert.ReferenceIdeal Cert.ReferenceIdeal.Read in
/-- The reference's row of scores of image `b`. -/
theorem reference_scores (x0 : Vec Ideal S2x720x64x64 .f32) (x2 : Vec Ideal S2x9x64x64 .f32) (b : Fin 2) (p : Fin 2949120) :
    val_main_v29 (F := Ideal) x0 x2 (ValueIdx.ix2 b p) = score x0 x2 b p := by
  have hp := p.isLt
  have hb := b.isLt
  have q1 : p.val % 720 / 80 = p.val / 80 % 9 := by omega
  have q2 : p.val / 720 / 64 = p.val / 80 / 576 := by omega
  have q3 : p.val / 720 % 64 = p.val / 80 / 9 % 64 := by omega
  have hs : ∀ x : EReal, Ideal.div (Ideal.ofBits .f32 0x3F800000#32)
      (Ideal.ofBits .f32 0x3F800000#32 + Ideal.exp (-x)) = sigma x := fun x => by
    rw [Ideal.ofBits_one_f32]; rfl
  have key : ∀ u v w z : EReal, u = sigma v → w = sigma z →
      Scalar.select (Ideal.cmp .ogt (Ideal.sqrt (u * w)) (Ideal.ofBits .f32 0x3D4CCCCD#32)) (Ideal.sqrt (u * w)) (Ideal.ofBits .f32 0x00000000#32)
        = scoreOf v z := by
    rintro _ v _ z rfl rfl
    rw [Ideal.ofBits_zero_f32]; rfl
  rw [val_main_v29_apply]
  generalize hj : idx_main_v29 (ValueIdx.ix2 b p) = j
  have j0 : (j 0).val = b.val := by rw [← hj]; show (b.val * 2949120 + p.val) / 2949120 = _; omega
  have j1 : (j 1).val = p.val / 80 := by rw [← hj]; show (b.val * 2949120 + p.val) / 80 % 36864 = _; omega
  have j2 : (j 2).val = p.val % 80 := by rw [← hj]; show (b.val * 2949120 + p.val) % 80 = _; omega
  refine (key _ _ _ (x2 (ValueIdx.ix4 b (shapeAt p) ⟨p.val / 720 / 64, by omega⟩ ⟨p.val / 720 % 64, by omega⟩)) (hs _) ?_).trans ?_
  · rw [val_main_v23_apply, val_main_v22_apply]
    refine (hs _).trans (congrArg sigma ?_)
    rw [val_main_v15_apply, val_main_v14_apply, val_main_v13_apply, val_main_v12_apply]
    refine congrArg x2 ?_
    generalize h1 : idx_main_v22 (idx_main_v23 j) = k1
    have k10 : (k1 0).val = b.val := by rw [← h1]; exact j0
    have k11 : (k1 1).val = p.val / 80 := by rw [← h1]; exact j1
    generalize h2 : idx_main_v15 k1 = k2
    have k20 : (k2 0).val = b.val := by rw [← h2]; show ((k1 0).val * 36864 + (k1 1).val) / 36864 = _; omega
    have k21 : (k2 1).val = p.val / 80 := by rw [← h2]; show ((k1 0).val * 36864 + (k1 1).val) / 1 % 36864 = _; omega
    have k22 : (k2 2).val = 0 := by rw [← h2]
    generalize h3 : idx_main_v14 k2 = k3
    have k30 : (k3 0).val = b.val := by rw [← h3]; show (((k2 0).val * 36864 + (k2 1).val) * 1 + (k2 2).val) / 36864 = _; omega
    have k31 : (k3 1).val = p.val / 720 / 64 := by rw [← h3]; show (((k2 0).val * 36864 + (k2 1).val) * 1 + (k2 2).val) / 576 % 64 = _; omega
    have k32 : (k3 2).val = p.val / 720 % 64 := by rw [← h3]; show (((k2 0).val * 36864 + (k2 1).val) * 1 + (k2 2).val) / 9 % 64 = _; omega
    have k33 : (k3 3).val = p.val % 720 / 80 := by rw [← h3]; show (((k2 0).val * 36864 + (k2 1).val) * 1 + (k2 2).val) / 1 % 9 = _; omega
    have k34 : (k3 4).val = 0 := by rw [← h3]
    funext a; apply Fin.ext
    match a with
    | ⟨0, _⟩ => show (((((k3 0).val * 9 + (k3 3).val) * 1 + (k3 4).val) * 64 + (k3 1).val) * 64 + (k3 2).val) / 36864 = b.val; rw [k30, k33, k34, k31, k32]; exact (decode4 _ _ _ _ (by omega) (by omega) (by omega)).1
    | ⟨1, _⟩ => show (((((k3 0).val * 9 + (k3 3).val) * 1 + (k3 4).val) * 64 + (k3 1).val) * 64 + (k3 2).val) / 4096 % 9 = p.val % 720 / 80; rw [k30, k33, k34, k31, k32]; exact (decode4 _ _ _ _ (by omega) (by omega) (by omega)).2.1
    | ⟨2, _⟩ => show (((((k3 0).val * 9 + (k3 3).val) * 1 + (k3 4).val) * 64 + (k3 1).val) * 64 + (k3 2).val) / 64 % 64 = p.val / 720 / 64; rw [k30, k33, k34, k31, k32]; exact (decode4 _ _ _ _ (by omega) (by omega) (by omega)).2.2.1
    | ⟨3, _⟩ => show (((((k3 0).val * 9 + (k3 3).val) * 1 + (k3 4).val) * 64 + (k3 1).val) * 64 + (k3 2).val) % 64 = p.val / 720 % 64; rw [k30, k33, k34, k31, k32]; exact (decode4 _ _ _ _ (by omega) (by omega) (by omega)).2.2.2
  · refine congrArg (scoreOf · _) ?_
    rw [val_main_v5_apply, val_main_v4_apply, val_main_v3_apply]
    refine congrArg x0 ?_
    generalize h1 : idx_main_v5 j = k1
    have k10 : (k1 0).val = b.val := by rw [← h1]; show (((j 0).val * 36864 + (j 1).val) * 80 + (j 2).val) / 2949120 = _; omega
    have k11 : (k1 1).val = p.val / 720 / 64 := by rw [← h1]; show (((j 0).val * 36864 + (j 1).val) * 80 + (j 2).val) / 46080 % 64 = _; omega
    have k12 : (k1 2).val = p.val / 720 % 64 := by rw [← h1]; show (((j 0).val * 36864 + (j 1).val) * 80 + (j 2).val) / 720 % 64 = _; omega
    have k13 : (k1 3).val = p.val % 720 / 80 := by rw [← h1]; show (((j 0).val * 36864 + (j 1).val) * 80 + (j 2).val) / 80 % 9 = _; omega
    have k14 : (k1 4).val = p.val % 80 := by rw [← h1]; show (((j 0).val * 36864 + (j 1).val) * 80 + (j 2).val) % 80 = _; omega
    funext a; apply Fin.ext
    match a with
    | ⟨0, _⟩ => show (((((k1 0).val * 9 + (k1 3).val) * 80 + (k1 4).val) * 64 + (k1 1).val) * 64 + (k1 2).val) / 2949120 = b.val; rw [k10, k13, k14, k11, k12]; exact (decode5 _ _ _ _ _ (by omega) (by omega) (by omega) (by omega)).1
    | ⟨1, _⟩ => show (((((k1 0).val * 9 + (k1 3).val) * 80 + (k1 4).val) * 64 + (k1 1).val) * 64 + (k1 2).val) / 4096 % 720 = p.val % 720; rw [k10, k13, k14, k11, k12]; exact (decode5 _ _ _ _ _ (by omega) (by omega) (by omega) (by omega)).2.1.trans (by omega)
    | ⟨2, _⟩ => show (((((k1 0).val * 9 + (k1 3).val) * 80 + (k1 4).val) * 64 + (k1 1).val) * 64 + (k1 2).val) / 64 % 64 = p.val / 720 / 64; rw [k10, k13, k14, k11, k12]; exact (decode5 _ _ _ _ _ (by omega) (by omega) (by omega) (by omega)).2.2.1
    | ⟨3, _⟩ => show (((((k1 0).val * 9 + (k1 3).val) * 80 + (k1 4).val) * 64 + (k1 1).val) * 64 + (k1 2).val) % 64 = p.val / 720 % 64; rw [k10, k13, k14, k11, k12]; exact (decode5 _ _ _ _ _ (by omega) (by omega) (by omega) (by omega)).2.2.2

end Cert.Nms

end
-- ==== Proof.Selected.lean ====
/- What the selection is given about each image holds of the kernel's arrays under the precondition: so the kernel's ranked candidates
are the reference's thousand best scores and their positions. -/
module

public import proofs.«01_k».proof.Proof.Selection
public import proofs.«01_k».proof.Proof.Scores
public import proofs.«01_k».proof.Defs
public import proofs.«01_k».proof.Proof.Gen.Pre_clear_cut

@[expose] public section

noncomputable section

namespace Cert.Nms

open Idealize.ShloMosaic Finset Cert.KernelIdeal Cert.KernelIdeal.Gen

/-- The flat score rows from the grid's array of scores. -/
def flatOf (A : FVec Ideal S2x9x80x4096 .f32) : FVec Ideal S2x2949120 .f32 :=
  shapeCast S2x2949120 (transpose S2x4096x720 [0, 2, 1] (shapeCast S2x720x4096 A shapeCasts_S2x9x80x4096_S2x720x4096)
    transposes_S2x720x4096_S2x4096x720_0_2_1) shapeCasts_S2x4096x720_S2x2949120

/-- The grid's two input arrays, from the arguments. -/
def logits (x0 : Vec Ideal S2x720x64x64 .f32) : Vec Ideal S2x9x80x4096 .f32 := shapeCast S2x9x80x4096 x0 shapeCasts_S2x720x64x64_S2x9x80x4096
/-- The centre logits, with the places of an image in one row. -/
def centers (x2 : Vec Ideal S2x9x64x64 .f32) : Vec Ideal S2x9x1x4096 .f32 := shapeCast S2x9x1x4096 x2 shapeCasts_S2x9x64x64_S2x9x1x4096

/-- The flat position of a lane of a block. -/
def laneEquiv : S1x9x80x4096.Idx ≃ Fin 2949120 where
  toFun i := ⟨(i 3).val * 720 + ((i 1).val * 80 + (i 2).val), by
    have h1 : (i 1).val < 9 := (i 1).isLt
    have h2 : (i 2).val < 80 := (i 2).isLt
    have h3 : (i 3).val < 4096 := (i 3).isLt
    omega⟩
  invFun p := ValueIdx.ix4 0 (shapeAt p) (classAt p) (cell p)
  left_inv i := by
    have h1 : (i 1).val < 9 := (i 1).isLt
    have h2 : (i 2).val < 80 := (i 2).isLt
    have h3 : (i 3).val < 4096 := (i 3).isLt
    have d : ∀ a c q : ℕ, a < 9 → c < 80 → (q * 720 + (a * 80 + c)) % 720 / 80 = a ∧ (q * 720 + (a * 80 + c)) % 80 = c
        ∧ (q * 720 + (a * 80 + c)) / 720 = q := by intro a c q ha hc; omega
    obtain ⟨d1, d2, d3⟩ := d _ _ (i 3).val h1 h2
    refine Eq.trans ?_ (ix4_zero i).symm
    exact congr (congr (congrArg (ValueIdx.ix4 0) (Fin.ext d1)) (Fin.ext d2)) (Fin.ext d3)
  right_inv p := by
    apply Fin.ext
    have hp := p.isLt
    show p.val / 720 * 720 + (p.val % 720 / 80 * 80 + p.val % 80) = p.val
    omega

section

variable (X : Vec Ideal S2x9x80x4096 .f32) (Y : Vec Ideal S2x9x1x4096 .f32) (b : Fin 2)

/-- A row of the flat scores is an image's scores, renumbered. -/
theorem flat_row (p : Fin 2949120) : row (flatOf (images4 (scores X Y))) b p = scores X Y b (laneEquiv.symm p) := by
  have hp := p.isLt
  have hb := b.isLt
  unfold flatOf row
  refine (shapeCast_apply _ _ _ (ValueIdx.ix3 b (cell p) (⟨p.val % 720, by omega⟩ : Fin 720)) (by
    rewrite [Shape.rowMajor_val_three, Shape.rowMajor_val_two]
    show (b.val * 4096 + p.val / 720) * 720 + p.val % 720 = b.val * 2949120 + p.val
    omega)).trans ?_
  refine (transpose_apply _ _ _ _ (ValueIdx.ix3 b (⟨p.val % 720, by omega⟩ : Fin 720) (cell p)) (fun a => match a with
    | ⟨0, _⟩ => rfl
    | ⟨1, _⟩ => rfl
    | ⟨2, _⟩ => rfl)).trans ?_
  refine (shapeCast_apply _ _ _ (ValueIdx.ix4 b (shapeAt p) (classAt p) (cell p)) (by
    rewrite [Shape.rowMajor_val_four, Shape.rowMajor_val_three]
    show ((b.val * 9 + p.val % 720 / 80) * 80 + p.val % 80) * 4096 + p.val / 720 = (b.val * 720 + p.val % 720) * 4096 + p.val / 720
    omega)).trans ?_
  rfl

/-- So the counts of the two agree. -/
theorem count_row (v : EReal) : countGe (row (flatOf (images4 (scores X Y))) b) v = countGe (scores X Y b) v := by
  rw [show row (flatOf (images4 (scores X Y))) b = fun p => scores X Y b (laneEquiv.symm p) from funext (flat_row X Y b)]
  exact countGe_equiv laneEquiv.symm (scores X Y b) v

/-- Every score is the score of some pair of logits. -/
theorem scores_lane (i : S1x9x80x4096.Idx) : ∃ x y, scores X Y b i = scoreOf x y := by
  rw [ix4_zero i]
  exact ⟨_, _, pay2_apply (image4 X b) (image4 Y b) _ _ _⟩

attribute [local irreducible] k0_pay1 k0_pay2 lastWord

/-- The first word of an image is its threshold. -/
theorem lo_word : loOf (images3 (words X Y)) (ValueIdx.ix1 b) = loWord X Y b := by
  unfold loOf
  refine (shapeCast_apply _ _ _ (ValueIdx.ix3 b (0 : Fin 1) (0 : Fin 1) : S2x1x1.Idx) (by
    rewrite [Shape.rowMajor_val_three, Shape.rowMajor_val_one]
    show (b.val * 1 + 0) * 1 + 0 = b.val
    omega)).trans ?_
  refine Eq.trans ?_ (word_lane (loWord X Y b) (k0_pay4 (image4 X b) (image4 Y b) (loWord X Y b)))
  refine (show _ = images3 (words X Y) (ValueIdx.ix3 b (0 : Fin 8) (0 : Fin 128)) from ?_).trans rfl
  refine extractStridedSlice_apply _ _ _ _ _ fun a => ?_
  match a with
  | ⟨0, _⟩ => exact (Nat.zero_add _).symm
  | ⟨1, _⟩ => rfl
  | ⟨2, _⟩ => rfl

/-- The second word of an image is its count above the threshold. -/
theorem hi_word : hiOf (images3 (words X Y)) (ValueIdx.ix1 b) = countWord (k0_pay4 (image4 X b) (image4 Y b) (loWord X Y b)) := by
  unfold hiOf
  refine (shapeCast_apply _ _ _ (ValueIdx.ix3 b (0 : Fin 1) (0 : Fin 1) : S2x1x1.Idx) (by
    rewrite [Shape.rowMajor_val_three, Shape.rowMajor_val_one]
    show (b.val * 1 + 0) * 1 + 0 = b.val
    omega)).trans ?_
  refine Eq.trans ?_ (count_lane (loWord X Y b) (k0_pay4 (image4 X b) (image4 Y b) (loWord X Y b)))
  refine (show _ = images3 (words X Y) (ValueIdx.ix3 b (0 : Fin 8) (1 : Fin 128)) from ?_).trans rfl
  refine extractStridedSlice_apply _ _ _ _ _ fun a => ?_
  match a with
  | ⟨0, _⟩ => exact (Nat.zero_add _).symm
  | ⟨1, _⟩ => rfl
  | ⟨2, _⟩ => rfl

/-- Everything the selection is given but the gap. -/
theorem selects (hg : ∃ j j', rank (row (flatOf (images4 (scores X Y))) b) j = 999 ∧ rank (row (flatOf (images4 (scores X Y))) b) j' = 1000
      ∧ (row (flatOf (images4 (scores X Y))) b j = 0
        ∨ Ideal.ofBits .f32 0x33800000#32 ≤ row (flatOf (images4 (scores X Y))) b j - row (flatOf (images4 (scores X Y))) b j')) :
    Selects (flatOf (images4 (scores X Y))) (loOf (images3 (words X Y))) (hiOf (images3 (words X Y))) b := by
  have h0 : ∀ i, 0 ≤ k0_pay2 (F := Ideal) (image4 X b) (image4 Y b) i := fun i => by
    obtain ⟨x, y, h⟩ := scores_lane X Y b i
    exact (scoreOf_nonneg x y).trans_eq h.symm
  have h1 : ∀ i, k0_pay2 (F := Ideal) (image4 X b) (image4 Y b) i ≤ 1 := fun i => by
    obtain ⟨x, y, h⟩ := scores_lane X Y b i
    exact h.trans_le (scoreOf_le_one x y)
  obtain ⟨s1, s2, s3⟩ := lastWord_spec (image4 X b) (image4 Y b) h0 h1
  have hl := lo_word X Y b
  refine ⟨?_, ?_, ?_, ?_, fun p => ?_, fun p => ?_, fun p => ?_, hg⟩
  · rw [hl]; exact s1
  · rw [hl, count_row]; exact s2
  · rw [hl, count_row]; exact s3
  · rw [hl, count_row, hi_word]
    refine (countWord_oge (k0_pay2 (image4 X b) (image4 Y b)) (Scalar.addi (loWord X Y b) 1#32)).trans ?_
    refine congrArg (countGe _) (congrArg wordVal ?_)
    show (loWord X Y b + 1#32).toNat = _
    have h : (loWord X Y b).toNat < 0x3F800001 := s1
    rw [BitVec.toNat_add]
    show ((loWord X Y b).toNat + 1) % 2 ^ 32 = _
    omega
  · rw [flat_row]; obtain ⟨x, y, h⟩ := scores_lane X Y b (laneEquiv.symm p); rw [h]; exact scoreOf_nonneg x y
  · rw [flat_row]; obtain ⟨x, y, h⟩ := scores_lane X Y b (laneEquiv.symm p); rw [h]; exact scoreOf_le_one x y
  · rw [flat_row]; obtain ⟨x, y, h⟩ := scores_lane X Y b (laneEquiv.symm p); rw [h]; exact scoreOf_pos x y

end

section

variable (x0 : Vec Ideal S2x720x64x64 .f32) (x1 : Vec Ideal S2x36x64x64 .f32) (x2 : Vec Ideal S2x9x64x64 .f32) (x3 : Vec Ideal S2x36864x4 .f32)

/-- The kernel's flat scores are the reference's. -/
theorem flat_eq : flatOf (images4 (scores (logits x0) (centers x2))) = Cert.ReferenceIdeal.Read.val_main_v29 (F := Ideal) x0 x2 := by
  funext i
  rw [ix2_pair i]
  exact (kernel_scores x0 x2 (i 0) (i 1)).trans (reference_scores x0 x2 (i 0) (i 1)).symm

/-- What the precondition says of a flat array of scores: the thousandth best is zero, or above the next by the gap. -/
def cutOf (f : FVec Ideal S2x2949120 .f32) (h : S2x2949120.Slices (fun _ => 0) ⟨2, ![2, 1001]⟩)
    (h1 : (⟨2, ![2, 1001]⟩ : Shape).Slices ![0, 999] ⟨2, ![2, 1]⟩) (h2 : (⟨2, ![2, 1001]⟩ : Shape).Slices ![0, 1000] ⟨2, ![2, 1]⟩)
    (h3 : (⟨2, ![2, 1]⟩ : Shape).ShapeCasts S2) : IVec S2 1 :=
  let T := (Host.topK ⟨2, ![2, 1001]⟩ 1 (FloatOps.cmpfTotal .gt) f h).1
  let u : FVec Ideal S2 .f32 := shapeCast S2 (extractStridedSlice ⟨2, ![2, 1]⟩ ![0, 999] T h1) h3
  let v : FVec Ideal S2 .f32 := shapeCast S2 (extractStridedSlice ⟨2, ![2, 1]⟩ ![0, 1000] T h2) h3
  ori (cmpf .oeq u (broadcastInDim S2 ![] bcast_S_S2 (constant S_ .f32 0x00000000#32)))
    (cmpf .oge (subf u v) (broadcastInDim S2 ![] bcast_S_S2 (constant S_ .f32 0x33800000#32)))

/-- The precondition, as an operation on the reference's flat scores. -/
theorem pre_eq [Cert.Pre_clear_cut.Facts] : ∃ h h1 h2 h3, Cert.Pre_clear_cut.fn (F := Ideal) x0 x1 x2 x3
    = cutOf (Cert.ReferenceIdeal.Read.val_main_v29 (F := Ideal) x0 x2) h h1 h2 h3 :=
  ⟨_, _, _, _, rfl⟩

/-- So under it each row of scores has the gap. -/
theorem cut_gap (f : FVec Ideal S2x2949120 .f32) (h h1 h2 h3) (b : Fin 2) (hb : cutOf f h h1 h2 h3 (ValueIdx.ix1 b) = 1#1) :
    ∃ j j', rank (row f b) j = 999 ∧ rank (row f b) j' = 1000
      ∧ (row f b j = 0 ∨ Ideal.ofBits .f32 0x33800000#32 ≤ row f b j - row f b j') := by
  obtain ⟨j, hj, hv, -⟩ := topK_row f h b (999 : Fin 1001)
  obtain ⟨j', hj', hv', -⟩ := topK_row f h b (1000 : Fin 1001)
  refine ⟨j, j', hj, hj', ?_⟩
  unfold cutOf at hb
  dsimp only at hb
  generalize (Host.topK ⟨2, ![2, 1001]⟩ 1 (FloatOps.cmpfTotal (F := Ideal) (φ := .f32) .gt) f h).1 = T at hv hv' hb
  have e1 : shapeCast S2 (extractStridedSlice ⟨2, ![2, 1]⟩ ![0, 999] T h1) h3 (ValueIdx.ix1 b) = f (ValueIdx.ix2 b j) := by
    refine (shapeCast_apply _ _ _ (ValueIdx.ix2 b (0 : Fin 1)) (by
      rewrite [Shape.rowMajor_val_two, Shape.rowMajor_val_one]
      show b.val * 1 + 0 = b.val
      omega)).trans (Eq.trans ?_ hv)
    refine extractStridedSlice_apply _ _ _ _ _ fun a => ?_
    match a with
    | ⟨0, _⟩ => exact (Nat.zero_add _).symm
    | ⟨1, _⟩ => rfl
  have e2 : shapeCast S2 (extractStridedSlice ⟨2, ![2, 1]⟩ ![0, 1000] T h2) h3 (ValueIdx.ix1 b) = f (ValueIdx.ix2 b j') := by
    refine (shapeCast_apply _ _ _ (ValueIdx.ix2 b (0 : Fin 1)) (by
      rewrite [Shape.rowMajor_val_two, Shape.rowMajor_val_one]
      show b.val * 1 + 0 = b.val
      omega)).trans (Eq.trans ?_ hv')
    refine extractStridedSlice_apply _ _ _ _ _ fun a => ?_
    match a with
    | ⟨0, _⟩ => exact (Nat.zero_add _).symm
    | ⟨1, _⟩ => rfl
  rcases (or_bits _ _).1 hb with hc | hc
  · left
    rw [ValueIdx.cmpf_apply, e1] at hc
    exact (decide_eq_true_iff.1 ((StableHlo.Predicate.ofBool_eq_one_iff _).1 hc)).trans Ideal.ofBits_zero_f32
  · right
    rw [ValueIdx.cmpf_apply] at hc
    have hd := decide_eq_true_iff.1 ((StableHlo.Predicate.ofBool_eq_one_iff _).1 hc)
    refine (show Ideal.ofBits .f32 0x33800000#32 ≤ _ from hd).trans_eq ?_
    exact congr (congrArg _ e1) e2

/-- Under the precondition the kernel's ranked candidates are the reference's thousand best scores, with their positions. -/
theorem ranked_eq [Cert.Pre_clear_cut.Facts] (h : ∀ i, Cert.Pre_clear_cut.fn (F := Ideal) x0 x1 x2 x3 i = 1#1) :
    let F := flatOf (images4 (scores (logits x0) (centers x2)))
    let wd := images3 (words (logits x0) (centers x2))
    let cand := candOf (maskOf F (loOf wd) (hiOf wd))
    (Host.topK S2x1000 1 (FloatOps.cmpfTotal .gt) (pickedOf F cand) sliceFits_S2x1000_S2x1000).1 = Cert.ReferenceIdeal.Read.val_main_values (F := Ideal) x0 x2
      ∧ placedOf cand (Host.topK S2x1000 1 (FloatOps.cmpfTotal .gt) (pickedOf F cand) sliceFits_S2x1000_S2x1000).2
        = Cert.ReferenceIdeal.Read.val_main_indices (F := Ideal) x0 x2 := by
  obtain ⟨a, a1, a2, a3, ha⟩ := pre_eq x0 x1 x2 x3
  have hf := flat_eq x0 x2
  have hr := ranked (fun b => selects (logits x0) (centers x2) b (by
    rw [hf]
    exact cut_gap _ a a1 a2 a3 b (by rw [← ha]; exact h _))) Cert.ReferenceIdeal.Gen.facts.sliceFits_S2x2949120_S2x1000
  exact ⟨hr.1.trans (by rw [hf]; rfl), hr.2.trans (by rw [hf]; rfl)⟩

end

end Cert.Nms

end
-- ==== Proof.FrontRead.lean ====
/- The host operations up to the ranking of the candidates, read from the contents they start from. -/
module

public import proofs.«01_k».proof.Proof.Selected

@[expose] public section

noncomputable section

namespace Cert.Nms

open Idealize.ShloMosaic Idealize.ShloMosaic.StableHlo Cert.KernelIdeal Cert.KernelIdeal.Gen

variable (V : Valuation τ sig (Elt Ideal))

/-- The first region's logits are the first argument, reshaped. -/
theorem read_logits : after hostOps0 V (Proc.devRef .tc main_v0) = logits (V (Proc.devRef .tc main_arg0)) := by
  after_results_simp
  rfl
/-- The first region's centre logits are the third argument, reshaped. -/
theorem read_centers : after hostOps0 V (Proc.devRef .tc main_v1) = centers (V (Proc.devRef .tc main_arg2)) := by
  after_results_simp
  rfl
/-- The flat scores, from the first region's scores. -/
theorem read_flat : after hostOps1 V (Proc.devRef .tc main_v5) = flatOf (V (Proc.devRef .tc main_v2_0)) := by
  after_results_simp
  rfl
/-- The count above the threshold, from the first region's words. -/
theorem read_hi : after hostOps1 V (Proc.devRef .tc main_v10) = hiOf (V (Proc.devRef .tc main_v2_1)) := by
  after_results_simp
  rfl
/-- Where a score is above the threshold, from the first region's outputs. -/
theorem read_above : after hostOps1 V (Proc.devRef .tc main_v13) = aboveOf (flatOf (V (Proc.devRef .tc main_v2_0))) (loOf (V (Proc.devRef .tc main_v2_1))) := by
  after_results_simp
  rfl
/-- Where a score equals the threshold, from the first region's outputs. -/
theorem read_equal : after hostOps1 V (Proc.devRef .tc main_v16) = equalOf (flatOf (V (Proc.devRef .tc main_v2_0))) (loOf (V (Proc.devRef .tc main_v2_1))) := by
  after_results_simp
  rfl
/-- The same, as words. -/
theorem read_equal_word : after hostOps1 V (Proc.devRef .tc main_v17)
    = extui 32 (equalOf (flatOf (V (Proc.devRef .tc main_v2_0))) (loOf (V (Proc.devRef .tc main_v2_1)))) natLt_1_32 := by
  after_results_simp
  rfl
/-- The running count of a row, from the words of its bits. -/
def sumOf (x : IVec S2x2949120 32) : IVec S2x2949120 32 :=
  Host.reduceWindow IntOp.addi ![1, 2949120] ![1, 1] ![0, 2949119] ![0, 0] x (broadcastInDim S_ ![] bcast_S_S_ (constantI S_ 32 0#32))
    reduceWindows_S2x2949120_S2x2949120_w1s1p0_0_w2949120s1p2949119_0 h_S_
/-- The first running sum. -/
theorem read_sum : after hostOps1_1 V (Proc.devRef .tc main_v18) = sumOf (V (Proc.devRef .tc main_v17)) := by
  simp only [hostOps1_1, TRef.unary, TRef.binary, TRef.nullary, TRef.ternary, TRef.toBuf, TRef.ofBuf, cast_eq]
  after_results_simp
  rfl
/-- Where a score is selected, from the comparisons and the running count. -/
theorem read_mask_word : after hostOps1_2 V (Proc.devRef .tc main_v26)
    = extui 32 (ori (V (Proc.devRef .tc main_v13)) (andi (V (Proc.devRef .tc main_v16)) (cmpi .sle (V (Proc.devRef .tc main_v18))
      (alongRow (subi (broadcastInDim S2 ![] bcast_S_S2 (constantI S_ 32 1000#32)) (V (Proc.devRef .tc main_v10))))))) natLt_1_32 := by
  after_results_simp
  rfl
/-- The second running sum. -/
theorem read_sum' : after hostOps1_3 V (Proc.devRef .tc main_v27) = sumOf (V (Proc.devRef .tc main_v26)) := by
  simp only [hostOps1_3, TRef.unary, TRef.binary, TRef.nullary, TRef.ternary, TRef.toBuf, TRef.ofBuf, cast_eq]
  after_results_simp
  rfl
/-- The positions found, from the running counts of the mask. -/
def placesOf (x : IVec S2x2949120 32) : IVec S2x1000 32 :=
  Host.reduce IntOp.addi (extui 32 (cmpi .slt
      (broadcastInDim S2x1000x2949120 ![0, 1, 2] bcast_S2x1x2949120_S2x1000x2949120_0_1_2 (broadcastInDim S2x1x2949120 ![0, 2] bcast_S2x2949120_S2x1x2949120_0_2 x))
      (broadcastInDim S2x1000x2949120 ![0, 1, 2] bcast_S1x1000x1_S2x1000x2949120_0_1_2 (broadcastInDim S1x1000x1 ![1, 2] bcast_S1000x1_S1x1000x1_1_2
        (broadcastInDim S1000x1 ![0] bcast_S1000_S1000x1_0 (addi (broadcastInDim S1000 ![] bcast_S_S1000 (constantI S_ 32 1#32)) (iotaInDim S1000 32 0))))))
    natLt_1_32) (constantI S_ 32 0#32) reducesTo_S2x1000x2949120_S2x1000_d2 h_S_
/-- The places, from the second running sum. -/
theorem read_places : after hostOps1_4 V (Proc.devRef .tc main_v38) = placesOf (V (Proc.devRef .tc main_v27)) := by
  after_results_simp
  rfl
/-- The scores at the places. -/
theorem read_picked : after hostOps1_5 V (Proc.devRef .tc main_v39) = pickedOf (V (Proc.devRef .tc main_v5)) (V (Proc.devRef .tc main_v38)) := by
  simp only [hostOps1_5, TRef.unary, TRef.binary, TRef.nullary, TRef.ternary, TRef.toBuf, TRef.ofBuf, cast_eq]
  after_results_simp
  rfl
/-- The selected scores, sorted. -/
theorem read_values : after hostOps1_6 V (Proc.devRef .tc main_values)
    = (Host.topK S2x1000 1 (FloatOps.cmpfTotal (F := Ideal) (φ := .f32) .gt) (V (Proc.devRef .tc main_v39)) sliceFits_S2x1000_S2x1000).1 := by
  after_results_simp
/-- The order that sorts them. -/
theorem read_indices : after hostOps1_6 V (Proc.devRef .tc main_indices)
    = (Host.topK S2x1000 1 (FloatOps.cmpfTotal (F := Ideal) (φ := .f32) .gt) (V (Proc.devRef .tc main_v39)) sliceFits_S2x1000_S2x1000).2 := by
  after_results_simp
/-- The places in that order. -/
theorem read_placed : after hostOps1_7 V (Proc.devRef .tc main_v40) = placedOf (V (Proc.devRef .tc main_v38)) (V (Proc.devRef .tc main_indices)) := by
  simp only [hostOps1_7, TRef.unary, TRef.binary, TRef.nullary, TRef.ternary, TRef.toBuf, TRef.ofBuf, cast_eq]
  after_results_simp
  rfl

end Cert.Nms

end
-- ==== Proof.Front.lean ====
/- The kernel's ranked candidates after the host operations up to them: under the precondition, the reference's thousand best scores and
their positions. -/
module

public import proofs.«01_k».proof.Proof.FrontRead

@[expose] public section

noncomputable section

namespace Cert.Nms

open Idealize.ShloMosaic Idealize.ShloMosaic.StableHlo Cert.KernelIdeal Cert.KernelIdeal.Gen

variable (m : (ℓ : Loc nD τ sig) → Buf (Elt Ideal) ℓ) (ρ : Dev nD → PrngReg) (c : Dev nD)

/-- The four argument arrays of a device. -/
abbrev a0 : Vec Ideal S2x720x64x64 .f32 := m ((c.tc : Thread nD τ).loc main_arg0)
/-- The second argument on a device: the box regression. -/
abbrev a1 : Vec Ideal S2x36x64x64 .f32 := m ((c.tc : Thread nD τ).loc main_arg1)
/-- The third argument: the centre logits. -/
abbrev a2 : Vec Ideal S2x9x64x64 .f32 := m ((c.tc : Thread nD τ).loc main_arg2)
/-- The fourth argument: the anchors. -/
abbrev a3 : Vec Ideal S2x36864x4 .f32 := m ((c.tc : Thread nD τ).loc main_arg3)

/-- The grid's two arrays. -/
def scoreArr : FVec Ideal S2x9x80x4096 .f32 := images4 (scores (logits (a0 m c)) (centers (a2 m c)))
/-- The first region's two words of each image. -/
def wordArr : IVec S2x8x128 32 := images3 (words (logits (a0 m c)) (centers (a2 m c)))

/-- The first region leaves the scores. -/
theorem w2_scores : W2 m ρ c (Proc.devRef .tc main_v2_0) = scoreArr m c := by
  refine (W2_arr m ρ c 2).trans ((final0_2 (V1 m ρ) c).trans ?_)
  exact congrArg images4 (congr (congrArg scores (read_logits (W0 m ρ c))) (read_centers (W0 m ρ c)))
/-- The first region leaves the words. -/
theorem w2_words : W2 m ρ c (Proc.devRef .tc main_v2_1) = wordArr m c := by
  refine (W2_arr m ρ c 3).trans ((final0_3 (V1 m ρ) c).trans ?_)
  exact congrArg images3 (congr (congrArg words (read_logits (W0 m ρ c))) (read_centers (W0 m ρ c)))

/-- The scores in the reference's flat order. -/
def flatArr : FVec Ideal S2x2949120 .f32 := flatOf (scoreArr m c)
/-- Where a score equals the threshold. -/
def equalArr : IVec S2x2949120 1 := equalOf (flatArr m c) (loOf (wordArr m c))
/-- Where a score is selected. -/
def maskArr : IVec S2x2949120 1 := maskOf (flatArr m c) (loOf (wordArr m c)) (hiOf (wordArr m c))
/-- The places of the selected scores, in rising order. -/
def candArr : IVec S2x1000 32 := candOf (maskArr m c)

/-- The flat scores, in the kernel's run. -/
theorem w3_flat : W3 m ρ c (Proc.devRef .tc main_v5) = flatArr m c :=
  (read_flat (W2 m ρ c)).trans (congrArg flatOf (w2_scores m ρ c))
/-- The count of the scores above the threshold. -/
theorem w3_hi : W3 m ρ c (Proc.devRef .tc main_v10) = hiOf (wordArr m c) :=
  (read_hi (W2 m ρ c)).trans (congrArg hiOf (w2_words m ρ c))
/-- Where a score is above the threshold. -/
theorem w3_above : W3 m ρ c (Proc.devRef .tc main_v13) = aboveOf (flatArr m c) (loOf (wordArr m c)) :=
  (read_above (W2 m ρ c)).trans (congr (congrArg aboveOf (congrArg flatOf (w2_scores m ρ c))) (congrArg loOf (w2_words m ρ c)))
/-- Where a score equals the threshold. -/
theorem w3_equal : W3 m ρ c (Proc.devRef .tc main_v16) = equalArr m c :=
  (read_equal (W2 m ρ c)).trans (congr (congrArg equalOf (congrArg flatOf (w2_scores m ρ c))) (congrArg loOf (w2_words m ρ c)))
/-- The same, as words. -/
theorem w3_equal_word : W3 m ρ c (Proc.devRef .tc main_v17) = extui 32 (equalArr m c) natLt_1_32 :=
  (read_equal_word (W2 m ρ c)).trans (congrArg (extui 32 · natLt_1_32)
    (congr (congrArg equalOf (congrArg flatOf (w2_scores m ρ c))) (congrArg loOf (w2_words m ρ c))))

/-- The running count of the scores equal to the threshold. -/
theorem w4_count : W4 m ρ c (Proc.devRef .tc main_v18) = countOf (equalArr m c) :=
  (read_sum (W3 m ρ c)).trans (congrArg sumOf (w3_equal_word m ρ c))

/-- Where a score is selected, as words. -/
theorem w5_mask : W5 m ρ c (Proc.devRef .tc main_v26) = extui 32 (maskArr m c) natLt_1_32 := by
  refine (read_mask_word (W4 m ρ c)).trans (congrArg (extui 32 · natLt_1_32) ?_)
  rw [w4_count, (W4_of m ρ c main_v13 (by decide)).trans (w3_above m ρ c), (W4_of m ρ c main_v16 (by decide)).trans (w3_equal m ρ c),
    (W4_of m ρ c main_v10 (by decide)).trans (w3_hi m ρ c)]
  rfl

/-- The running count of the selected scores. -/
theorem w6_count : W6 m ρ c (Proc.devRef .tc main_v27) = countOf (maskArr m c) :=
  (read_sum' (W5 m ρ c)).trans (congrArg sumOf (w5_mask m ρ c))

/-- The places of the selected scores. -/
theorem w7_cand : W7 m ρ c (Proc.devRef .tc main_v38) = candArr m c :=
  (read_places (W6 m ρ c)).trans (congrArg placesOf (w6_count m ρ c))

/-- The flat scores are still there. -/
theorem w7_flat : W7 m ρ c (Proc.devRef .tc main_v5) = flatArr m c :=
  (W7_of m ρ c main_v5 (by decide)).trans ((W6_of m ρ c main_v5 (by decide)).trans ((W5_of m ρ c main_v5 (by decide)).trans
    ((W4_of m ρ c main_v5 (by decide)).trans (w3_flat m ρ c))))

/-- The selected scores, in the order of their places. -/
theorem w8_picked : W8 m ρ c (Proc.devRef .tc main_v39) = pickedOf (flatArr m c) (candArr m c) :=
  (read_picked (W7 m ρ c)).trans (congr (congrArg pickedOf (w7_flat m ρ c)) (w7_cand m ρ c))

/-- The selected scores, sorted. -/
theorem w9_values : W9 m ρ c (Proc.devRef .tc main_values)
    = (Host.topK S2x1000 1 (FloatOps.cmpfTotal (F := Ideal) (φ := .f32) .gt) (pickedOf (flatArr m c) (candArr m c)) sliceFits_S2x1000_S2x1000).1 :=
  (read_values (W8 m ρ c)).trans (congrArg (fun x => (Host.topK S2x1000 1 (FloatOps.cmpfTotal (F := Ideal) (φ := .f32) .gt) x sliceFits_S2x1000_S2x1000).1)
    (w8_picked m ρ c))
/-- The order that sorts them. -/
theorem w9_indices : W9 m ρ c (Proc.devRef .tc main_indices)
    = (Host.topK S2x1000 1 (FloatOps.cmpfTotal (F := Ideal) (φ := .f32) .gt) (pickedOf (flatArr m c) (candArr m c)) sliceFits_S2x1000_S2x1000).2 :=
  (read_indices (W8 m ρ c)).trans (congrArg (fun x => (Host.topK S2x1000 1 (FloatOps.cmpfTotal (F := Ideal) (φ := .f32) .gt) x sliceFits_S2x1000_S2x1000).2)
    (w8_picked m ρ c))

variable (h : ∀ i, Cert.Pre_clear_cut.fn (F := Ideal) (a0 m c) (a1 m c) (a2 m c) (a3 m c) i = 1#1)
include h

/-- The ranked scores. -/
theorem w10_values : W10 m ρ c (Proc.devRef .tc main_values) = Cert.ReferenceIdeal.Read.val_main_values (F := Ideal) (a0 m c) (a2 m c) :=
  (W10_of m ρ c main_values (by decide)).trans ((w9_values m ρ c).trans (ranked_eq (a0 m c) (a1 m c) (a2 m c) (a3 m c) h).1)

/-- Their positions in the row. -/
theorem w10_indices : W10 m ρ c (Proc.devRef .tc main_v40) = Cert.ReferenceIdeal.Read.val_main_indices (F := Ideal) (a0 m c) (a2 m c) := by
  refine (read_placed (W9 m ρ c)).trans (Eq.trans ?_ (ranked_eq (a0 m c) (a1 m c) (a2 m c) (a3 m c) h).2)
  exact congr (congrArg placedOf ((W9_of m ρ c main_v38 (by decide)).trans ((W8_of m ρ c main_v38 (by decide)).trans (w7_cand m ρ c)))) (w9_indices m ρ c)

end Cert.Nms

end
-- ==== Proof.Decode.lean ====
/- The kernel's host operations from the ranked candidates to the clipped boxes and kept scores compute the reference's. -/
module

public import proofs.«01_k».proof.Proof.Gen.ReferenceIdeal.Read
public import proofs.«01_k».proof.Proof.Gen.KernelIdeal.Frame
public import Idealize.ShloMosaic.Lib.ValueIdx
public import Idealize.ShloMosaic.Lib.Pipeline.Value

@[expose] public section

noncomputable section

namespace Cert.Nms

open Idealize.ShloMosaic Idealize.ShloMosaic.StableHlo Cert.KernelIdeal Cert.KernelIdeal.Gen

/-- The regression logits as the kernel lays them out: one row of four per anchor. -/
def regression (x1 : Vec Ideal S2x36x64x64 .f32) : Vec Ideal S2x36864x4 .f32 :=
  shapeCast S2x36864x4 (transpose S2x4096x9x4 [0, 3, 1, 2] (shapeCast S2x9x4x4096 x1 shapeCasts_S2x36x64x64_S2x9x4x4096)
    transposes_S2x9x4x4096_S2x4096x9x4_0_3_1_2) shapeCasts_S2x4096x9x4_S2x36864x4

/-- It is the reference's layout. -/
theorem regression_eq (x1 : Vec Ideal S2x36x64x64 .f32) : regression x1 = Cert.ReferenceIdeal.Read.val_main_v2 (F := Ideal) x1 := by
  funext i
  have h0 : (i 0).val < 2 := (i 0).isLt
  have h1 : (i 1).val < 36864 := (i 1).isLt
  have h2 : (i 2).val < 4 := (i 2).isLt
  let J : S2x36x64x64.Idx := ValueIdx.ix4 (⟨(i 0).val, h0⟩ : Fin 2) (⟨(i 1).val % 9 * 4 + (i 2).val, by omega⟩ : Fin 36)
    (⟨(i 1).val / 9 / 64, by omega⟩ : Fin 64) (⟨(i 1).val / 9 % 64, by omega⟩ : Fin 64)
  refine Eq.trans (b := x1 J) ?_ (Eq.symm ?_)
  · unfold regression
    refine (shapeCast_apply _ _ _ (ValueIdx.ix4 (⟨(i 0).val, h0⟩ : Fin 2) (⟨(i 1).val / 9, by omega⟩ : Fin 4096) (⟨(i 1).val % 9, by omega⟩ : Fin 9) (⟨(i 2).val, h2⟩ : Fin 4)) (by
      rewrite [Shape.rowMajor_val_four, Shape.rowMajor_val_three]
      show (((i 0).val * 4096 + (i 1).val / 9) * 9 + (i 1).val % 9) * 4 + (i 2).val = ((i 0).val * 36864 + (i 1).val) * 4 + (i 2).val
      omega)).trans ?_
    refine (transpose_apply _ _ _ _ (ValueIdx.ix4 (⟨(i 0).val, h0⟩ : Fin 2) (⟨(i 1).val % 9, by omega⟩ : Fin 9) (⟨(i 2).val, h2⟩ : Fin 4) (⟨(i 1).val / 9, by omega⟩ : Fin 4096)) (fun a => match a with
      | ⟨0, _⟩ => rfl
      | ⟨1, _⟩ => rfl
      | ⟨2, _⟩ => rfl
      | ⟨3, _⟩ => rfl)).trans ?_
    refine shapeCast_apply _ _ _ J (by
      rewrite [Shape.rowMajor_val_four, Shape.rowMajor_val_four]
      show (((i 0).val * 36 + ((i 1).val % 9 * 4 + (i 2).val)) * 64 + (i 1).val / 9 / 64) * 64 + (i 1).val / 9 % 64
        = (((i 0).val * 9 + (i 1).val % 9) * 4 + (i 2).val) * 4096 + (i 1).val / 9
      omega)
  · unfold Cert.ReferenceIdeal.Read.val_main_v2 Cert.ReferenceIdeal.Read.val_main_v1 Cert.ReferenceIdeal.Read.val_main_v0
    refine (shapeCast_apply _ _ _ (ValueIdx.ix5 (⟨(i 0).val, h0⟩ : Fin 2) (⟨(i 1).val / 9 / 64, by omega⟩ : Fin 64) (⟨(i 1).val / 9 % 64, by omega⟩ : Fin 64) (⟨(i 1).val % 9, by omega⟩ : Fin 9) (⟨(i 2).val, h2⟩ : Fin 4)) (by
      rewrite [Shape.rowMajor_val_five, Shape.rowMajor_val_three]
      show ((((i 0).val * 64 + (i 1).val / 9 / 64) * 64 + (i 1).val / 9 % 64) * 9 + (i 1).val % 9) * 4 + (i 2).val = ((i 0).val * 36864 + (i 1).val) * 4 + (i 2).val
      omega)).trans ?_
    refine (transpose_apply _ _ _ _ (ValueIdx.ix5 (⟨(i 0).val, h0⟩ : Fin 2) (⟨(i 1).val % 9, by omega⟩ : Fin 9) (⟨(i 2).val, h2⟩ : Fin 4) (⟨(i 1).val / 9 / 64, by omega⟩ : Fin 64) (⟨(i 1).val / 9 % 64, by omega⟩ : Fin 64)) (fun a => match a with
      | ⟨0, _⟩ => rfl
      | ⟨1, _⟩ => rfl
      | ⟨2, _⟩ => rfl
      | ⟨3, _⟩ => rfl
      | ⟨4, _⟩ => rfl)).trans ?_
    refine shapeCast_apply _ _ _ J (by
      rewrite [Shape.rowMajor_val_four, Shape.rowMajor_val_five]
      show (((i 0).val * 36 + ((i 1).val % 9 * 4 + (i 2).val)) * 64 + (i 1).val / 9 / 64) * 64 + (i 1).val / 9 % 64
        = ((((i 0).val * 9 + (i 1).val % 9) * 4 + (i 2).val) * 64 + (i 1).val / 9 / 64) * 64 + (i 1).val / 9 % 64
      omega)

section

open Cert.ReferenceIdeal.Read

variable (V : Valuation τ sig (Elt Ideal)) (x0 : Vec Ideal S2x720x64x64 .f32) (x1 : Vec Ideal S2x36x64x64 .f32)
  (x2 : Vec Ideal S2x9x64x64 .f32) (x3 : Vec Ideal S2x36864x4 .f32)

/-- The divisor of the anchor number is eighty. -/
theorem read_eighty : after hostOps1_8 V (Proc.devRef .tc main_c_2) = constantI S_ 32 80#32 := by
  after_results_simp
/-- The anchor number of a candidate is the reference's. -/
theorem read_anchor (hc : V (Proc.devRef .tc main_c_2) = constantI S_ 32 80#32) (hi : V (Proc.devRef .tc main_v40) = val_main_indices (F := Ideal) x0 x2) :
    after hostOps1_9 V (Proc.devRef .tc main_v41) = val_main_v30 (F := Ideal) x0 x2 := by
  simp only [hostOps1_9, TRef.unary, TRef.binary, TRef.nullary, TRef.ternary, TRef.toBuf, TRef.ofBuf, cast_eq]
  after_results_simp
  simp only [hc, hi] <;> rfl
/-- The divisor of the class number is eighty. -/
theorem read_eighty' : after hostOps1_10 V (Proc.devRef .tc main_c_3) = constantI S_ 32 80#32 := by
  after_results_simp
/-- The class number of a candidate is the reference's. -/
theorem read_class (hc : V (Proc.devRef .tc main_c_3) = constantI S_ 32 80#32) (hi : V (Proc.devRef .tc main_v40) = val_main_indices (F := Ideal) x0 x2) :
    after hostOps1_11 V (Proc.devRef .tc main_v42) = val_main_v31 (F := Ideal) x0 x2 := by
  simp only [hostOps1_11, TRef.unary, TRef.binary, TRef.nullary, TRef.ternary, TRef.toBuf, TRef.ofBuf, cast_eq]
  after_results_simp
  simp only [hc, hi] <;> rfl
/-- The label of a candidate is the reference's. -/
theorem read_label (hc : V (Proc.devRef .tc main_v42) = val_main_v31 (F := Ideal) x0 x2) :
    after hostOps1_12 V (Proc.devRef .tc main_v44) = val_main_v33 (F := Ideal) x0 x2 := by
  after_results_simp
  simp only [hc] <;> rfl
/-- The regression in the order of the anchors is the reference's. -/
theorem read_regression (hx : V (Proc.devRef .tc main_arg1) = x1) : after hostOps1_12 V (Proc.devRef .tc main_v47) = val_main_v2 (F := Ideal) x1 := by
  refine Eq.trans ?_ (regression_eq x1)
  after_results_simp
  simp only [hx] <;> rfl
/-- The row numbers for the regression are the reference's. -/
theorem read_row (hi : V (Proc.devRef .tc main_v41) = val_main_v30 (F := Ideal) x0 x2) :
    after hostOps1_12 V (Proc.devRef .tc main_v48) = val_main_v34 (F := Ideal) x0 x2 := by
  after_results_simp
  simp only [hi] <;> rfl
/-- The candidates' regressions are the reference's. -/
theorem read_offsets (hx : V (Proc.devRef .tc main_v47) = val_main_v2 (F := Ideal) x1) (hi : V (Proc.devRef .tc main_v48) = val_main_v34 (F := Ideal) x0 x2) :
    after hostOps1_13 V (Proc.devRef .tc main_v49) = val_main_v35 (F := Ideal) x0 x1 x2 := by
  simp only [hostOps1_13, TRef.unary, TRef.binary, TRef.nullary, TRef.ternary, TRef.toBuf, TRef.ofBuf, cast_eq]
  after_results_simp
  simp only [hx, hi] <;> rfl
/-- The row numbers for the anchors are the reference's. -/
theorem read_row' (hi : V (Proc.devRef .tc main_v41) = val_main_v30 (F := Ideal) x0 x2) :
    after hostOps1_14 V (Proc.devRef .tc main_v50) = val_main_v36 (F := Ideal) x0 x2 := by
  after_results_simp
  simp only [hi] <;> rfl
/-- The candidates' anchors are the reference's. -/
theorem read_anchors (hx : V (Proc.devRef .tc main_arg3) = x3) (hi : V (Proc.devRef .tc main_v50) = val_main_v36 (F := Ideal) x0 x2) :
    after hostOps1_15 V (Proc.devRef .tc main_v51) = val_main_v37 (F := Ideal) x0 x2 x3 := by
  simp only [hostOps1_15, TRef.unary, TRef.binary, TRef.nullary, TRef.ternary, TRef.toBuf, TRef.ofBuf, cast_eq]
  after_results_simp
  simp only [hx, hi] <;> rfl

end

end Cert.Nms

end
-- ==== Proof.Boxes.lean ====
/- The kernel's host operations from the gathered anchors to the clipped boxes and kept scores compute the reference's. -/
module

public import proofs.«01_k».proof.Proof.Decode

@[expose] public section

noncomputable section

namespace Cert.Nms

open Idealize.ShloMosaic Idealize.ShloMosaic.StableHlo Cert.KernelIdeal Cert.KernelIdeal.Gen Cert.ReferenceIdeal.Read

variable (V : Valuation τ sig (Elt Ideal)) (x0 : Vec Ideal S2x720x64x64 .f32) (x1 : Vec Ideal S2x36x64x64 .f32)
  (x2 : Vec Ideal S2x9x64x64 .f32) (x3 : Vec Ideal S2x36864x4 .f32)

/-- Four columns put side by side depend on the columns alone. -/
theorem four_columns {u0 u1 u2 u3 w0 w1 w2 w3 : Vec Ideal S2x1000x1 .f32} (h0 : u0 = w0) (h1 : u1 = w1) (h2 : u2 = w2) (h3 : u3 = w3) :
    concatenate S2x1000x4 2 [⟨S2x1000x1, u0⟩, ⟨S2x1000x1, u1⟩, ⟨S2x1000x1, u2⟩, ⟨S2x1000x1, u3⟩]
        concatenates_S2x1000x1_S2x1000x1_S2x1000x1_S2x1000x1_S2x1000x4_d2
      = concatenate S2x1000x4 2 [⟨S2x1000x1, w0⟩, ⟨S2x1000x1, w1⟩, ⟨S2x1000x1, w2⟩, ⟨S2x1000x1, w3⟩]
        concatenates_S2x1000x1_S2x1000x1_S2x1000x1_S2x1000x1_S2x1000x4_d2 := by
  subst h0 h1 h2 h3; rfl

set_option maxRecDepth 8192 in
set_option maxHeartbeats 2000000 in
/-- The boxes decoded from the gathered anchors and offsets. -/
theorem read_boxes (h1 : V (Proc.devRef .tc main_v49) = val_main_v35 (F := Ideal) x0 x1 x2) (h3 : V (Proc.devRef .tc main_v51) = val_main_v37 (F := Ideal) x0 x2 x3) :
    after hostOps1_16 V (Proc.devRef .tc main_v124) = val_main_v110 (F := Ideal) x0 x1 x2 x3 := by
  after_results_simp
  refine (four_columns (w0 := val_main_v106 (F := Ideal) x0 x1 x2 x3) (w1 := val_main_v107 (F := Ideal) x0 x1 x2 x3)
    (w2 := val_main_v108 (F := Ideal) x0 x1 x2 x3) (w3 := val_main_v109 (F := Ideal) x0 x1 x2 x3) ?_ ?_ ?_ ?_).trans rfl <;>
  (dsimp only [Matrix.cons_val]; after_results_simp; simp only [h1, h3] <;> rfl)

/-- A line of operations is its first ones and then the others. -/
theorem after_split (n : Nat) (ops : List (HloOp τ sig (Elt Ideal))) : after ops V = after (ops.drop n) (after (ops.take n) V) := by
  rw [← after_append, List.take_append_drop]

/-- What is left of the decoding once the boxes are there. -/
theorem first_tail (U : Valuation τ sig (Elt Ideal)) (h : U (Proc.devRef .tc main_v124) = val_main_v110 (F := Ideal) x0 x1 x2 x3) :
    after (hostOps1_16.drop 89) U (Proc.devRef .tc main_v126) = val_main_v112 (F := Ideal) x0 x1 x2 x3 := by
  simp only [hostOps1_16, List.drop]
  after_results_simp
  simp only [h] <;> rfl

/-- The later operations of the list leave the decoded boxes alone. -/
theorem boxes_kept (U : Valuation τ sig (Elt Ideal)) :
    after (hostOps1_16.drop 89) U (Proc.devRef .tc main_v124) = U (Proc.devRef .tc main_v124) := by
  simp only [hostOps1_16, List.drop]
  after_results_simp

/-- The first coordinates of the boxes. -/
theorem read_first (h : after hostOps1_16 V (Proc.devRef .tc main_v124) = val_main_v110 (F := Ideal) x0 x1 x2 x3) :
    after hostOps1_16 V (Proc.devRef .tc main_v126) = val_main_v112 (F := Ideal) x0 x1 x2 x3 := by
  rw [after_split V 89, boxes_kept] at h
  rw [after_split V 89]
  exact first_tail x0 x1 x2 x3 _ h

/-- The bounds the first coordinates are clipped to. -/
theorem read_first_bounds : after hostOps1_16 V (Proc.devRef .tc main_cst_20) = (constant S_ .f32 0x00000000#32 : FVec Ideal S_ .f32)
    ∧ after hostOps1_16 V (Proc.devRef .tc main_cst_21) = (constant S_ .f32 0x447FC000#32 : FVec Ideal S_ .f32) := by
  rw [after_split V 89]
  simp only [hostOps1_16, List.drop]
  constructor <;> after_results_simp

/-- The first coordinates, clipped. -/
theorem read_first_clip (h : V (Proc.devRef .tc main_v126) = val_main_v112 (F := Ideal) x0 x1 x2 x3)
    (l : V (Proc.devRef .tc main_cst_20) = (constant S_ .f32 0x00000000#32 : FVec Ideal S_ .f32))
    (u : V (Proc.devRef .tc main_cst_21) = (constant S_ .f32 0x447FC000#32 : FVec Ideal S_ .f32)) :
    after hostOps1_17 V (Proc.devRef .tc main_v127) = val_main_v113 (F := Ideal) x0 x1 x2 x3 := by
  simp only [hostOps1_17, TRef.unary, TRef.binary, TRef.nullary, TRef.ternary, TRef.toBuf, TRef.ofBuf, cast_eq]
  after_results_simp
  simp only [h, l, u] <;> rfl

/-- The second coordinates of the boxes, and the bounds they are clipped to. -/
theorem read_second (h : V (Proc.devRef .tc main_v124) = val_main_v110 (F := Ideal) x0 x1 x2 x3) :
    after hostOps1_18 V (Proc.devRef .tc main_v129) = val_main_v115 (F := Ideal) x0 x1 x2 x3
    ∧ after hostOps1_18 V (Proc.devRef .tc main_cst_22) = (constant S_ .f32 0x00000000#32 : FVec Ideal S_ .f32)
    ∧ after hostOps1_18 V (Proc.devRef .tc main_cst_23) = (constant S_ .f32 0x447FC000#32 : FVec Ideal S_ .f32) := by
  refine ⟨?_, ?_, ?_⟩ <;> after_results_simp
  simp only [h] <;> rfl

/-- The second coordinates, clipped. -/
theorem read_second_clip (h : V (Proc.devRef .tc main_v129) = val_main_v115 (F := Ideal) x0 x1 x2 x3)
    (l : V (Proc.devRef .tc main_cst_22) = (constant S_ .f32 0x00000000#32 : FVec Ideal S_ .f32))
    (u : V (Proc.devRef .tc main_cst_23) = (constant S_ .f32 0x447FC000#32 : FVec Ideal S_ .f32)) :
    after hostOps1_19 V (Proc.devRef .tc main_v130) = val_main_v116 (F := Ideal) x0 x1 x2 x3 := by
  simp only [hostOps1_19, TRef.unary, TRef.binary, TRef.nullary, TRef.ternary, TRef.toBuf, TRef.ofBuf, cast_eq]
  after_results_simp
  simp only [h, l, u] <;> rfl

/-- The third coordinates of the boxes, and the bounds they are clipped to. -/
theorem read_third (h : V (Proc.devRef .tc main_v124) = val_main_v110 (F := Ideal) x0 x1 x2 x3) :
    after hostOps1_20 V (Proc.devRef .tc main_v132) = val_main_v118 (F := Ideal) x0 x1 x2 x3
    ∧ after hostOps1_20 V (Proc.devRef .tc main_cst_24) = (constant S_ .f32 0x00000000#32 : FVec Ideal S_ .f32)
    ∧ after hostOps1_20 V (Proc.devRef .tc main_cst_25) = (constant S_ .f32 0x447FC000#32 : FVec Ideal S_ .f32) := by
  refine ⟨?_, ?_, ?_⟩ <;> after_results_simp
  simp only [h] <;> rfl

/-- The third coordinates, clipped. -/
theorem read_third_clip (h : V (Proc.devRef .tc main_v132) = val_main_v118 (F := Ideal) x0 x1 x2 x3)
    (l : V (Proc.devRef .tc main_cst_24) = (constant S_ .f32 0x00000000#32 : FVec Ideal S_ .f32))
    (u : V (Proc.devRef .tc main_cst_25) = (constant S_ .f32 0x447FC000#32 : FVec Ideal S_ .f32)) :
    after hostOps1_21 V (Proc.devRef .tc main_v133) = val_main_v119 (F := Ideal) x0 x1 x2 x3 := by
  simp only [hostOps1_21, TRef.unary, TRef.binary, TRef.nullary, TRef.ternary, TRef.toBuf, TRef.ofBuf, cast_eq]
  after_results_simp
  simp only [h, l, u] <;> rfl

/-- The fourth coordinates of the boxes, and the bounds they are clipped to. -/
theorem read_fourth (h : V (Proc.devRef .tc main_v124) = val_main_v110 (F := Ideal) x0 x1 x2 x3) :
    after hostOps1_22 V (Proc.devRef .tc main_v135) = val_main_v121 (F := Ideal) x0 x1 x2 x3
    ∧ after hostOps1_22 V (Proc.devRef .tc main_cst_26) = (constant S_ .f32 0x00000000#32 : FVec Ideal S_ .f32)
    ∧ after hostOps1_22 V (Proc.devRef .tc main_cst_27) = (constant S_ .f32 0x447FC000#32 : FVec Ideal S_ .f32) := by
  refine ⟨?_, ?_, ?_⟩ <;> after_results_simp
  simp only [h] <;> rfl

/-- The fourth coordinates, clipped. -/
theorem read_fourth_clip (h : V (Proc.devRef .tc main_v135) = val_main_v121 (F := Ideal) x0 x1 x2 x3)
    (l : V (Proc.devRef .tc main_cst_26) = (constant S_ .f32 0x00000000#32 : FVec Ideal S_ .f32))
    (u : V (Proc.devRef .tc main_cst_27) = (constant S_ .f32 0x447FC000#32 : FVec Ideal S_ .f32)) :
    after hostOps1_23 V (Proc.devRef .tc main_v136) = val_main_v122 (F := Ideal) x0 x1 x2 x3 := by
  simp only [hostOps1_23, TRef.unary, TRef.binary, TRef.nullary, TRef.ternary, TRef.toBuf, TRef.ofBuf, cast_eq]
  after_results_simp
  simp only [h, l, u] <;> rfl

set_option maxRecDepth 8192 in
set_option maxHeartbeats 2000000 in
/-- The clipped boxes. -/
theorem read_clipped (h0 : V (Proc.devRef .tc main_v127) = val_main_v113 (F := Ideal) x0 x1 x2 x3)
    (h1 : V (Proc.devRef .tc main_v130) = val_main_v116 (F := Ideal) x0 x1 x2 x3)
    (h2 : V (Proc.devRef .tc main_v133) = val_main_v119 (F := Ideal) x0 x1 x2 x3)
    (h3 : V (Proc.devRef .tc main_v136) = val_main_v122 (F := Ideal) x0 x1 x2 x3) :
    after hostOps1_24 V (Proc.devRef .tc main_v141) = val_main_v127 (F := Ideal) x0 x1 x2 x3 := by
  after_results_simp
  refine (four_columns (w0 := val_main_v123 (F := Ideal) x0 x1 x2 x3) (w1 := val_main_v124 (F := Ideal) x0 x1 x2 x3)
    (w2 := val_main_v125 (F := Ideal) x0 x1 x2 x3) (w3 := val_main_v126 (F := Ideal) x0 x1 x2 x3) ?_ ?_ ?_ ?_).trans rfl <;>
  (dsimp only [Matrix.cons_val]; after_results_simp; simp only [h0, h1, h2, h3] <;> rfl)

/-- Which boxes are kept, once the clipped boxes are there. -/
theorem keep_tail (U : Valuation τ sig (Elt Ideal)) (h : U (Proc.devRef .tc main_v141) = val_main_v127 (F := Ideal) x0 x1 x2 x3)
    (s : U (Proc.devRef .tc main_values) = val_main_values (F := Ideal) x0 x2) :
    after (hostOps1_24.drop 5) U (Proc.devRef .tc main_v163) = val_main_v149 (F := Ideal) x0 x1 x2 x3 := by
  simp only [hostOps1_24, List.drop]
  after_results_simp
  simp only [h, s] <;> rfl

/-- The later operations of the list leave the clipped boxes alone. -/
theorem clipped_kept (U : Valuation τ sig (Elt Ideal)) :
    after (hostOps1_24.drop 5) U (Proc.devRef .tc main_v141) = U (Proc.devRef .tc main_v141) := by
  simp only [hostOps1_24, List.drop]
  after_results_simp

/-- The first five operations of the list leave the best scores alone. -/
theorem values_kept : after (hostOps1_24.take 5) V (Proc.devRef .tc main_values) = V (Proc.devRef .tc main_values) := by
  simp only [hostOps1_24, List.take]
  after_results_simp

/-- Which boxes are kept: those of width and height at least zero whose score is positive. -/
theorem read_keep (h : after hostOps1_24 V (Proc.devRef .tc main_v141) = val_main_v127 (F := Ideal) x0 x1 x2 x3)
    (s : V (Proc.devRef .tc main_values) = val_main_values (F := Ideal) x0 x2) :
    after hostOps1_24 V (Proc.devRef .tc main_v163) = val_main_v149 (F := Ideal) x0 x1 x2 x3 := by
  rw [after_split V 5, clipped_kept] at h
  rw [after_split V 5]
  exact keep_tail x0 x1 x2 x3 _ h ((values_kept V).trans s)

/-- The score of a box that is not kept. -/
theorem read_dropped : after hostOps1_24 V (Proc.devRef .tc main_cst_33) = (constant S_ .f32 0x00000000#32 : FVec Ideal S_ .f32) := by
  after_results_simp

/-- The scores of the kept boxes, zero for the others. -/
theorem read_kept (h : V (Proc.devRef .tc main_v163) = val_main_v149 (F := Ideal) x0 x1 x2 x3)
    (s : V (Proc.devRef .tc main_values) = val_main_values (F := Ideal) x0 x2)
    (z : V (Proc.devRef .tc main_cst_33) = (constant S_ .f32 0x00000000#32 : FVec Ideal S_ .f32)) :
    after hostOps1_25 V (Proc.devRef .tc main_v164) = val_main_v150 (F := Ideal) x0 x1 x2 x3 := by
  simp only [hostOps1_25, TRef.unary, TRef.binary, TRef.nullary, TRef.ternary, TRef.toBuf, TRef.ofBuf, cast_eq]
  after_results_simp
  simp only [h, s, z] <;> rfl

/-- The boxes moved apart by their labels, coordinates first, and the word the columns are filled up with. -/
theorem read_moved (h : V (Proc.devRef .tc main_v141) = val_main_v127 (F := Ideal) x0 x1 x2 x3)
    (l : V (Proc.devRef .tc main_v44) = val_main_v33 (F := Ideal) x0 x2) :
    after hostOps1_26 V (Proc.devRef .tc main_v171)
        = transpose S2x4x1000 [0, 2, 1] (val_main_v156 (F := Ideal) x0 x1 x2 x3) transposes_S2x1000x4_S2x4x1000_0_2_1
    ∧ after hostOps1_26 V (Proc.devRef .tc main_c_35) = constantI S_ 32 0#32 := by
  refine ⟨?_, ?_⟩ <;> after_results_simp
  simp only [h, l] <;> rfl

/-- Zero, as the columns are filled up with it. -/
def zeroFill : FVec Ideal S_ .f32 := sitofp .f32 (constantI S_ 32 0#32)

/-- The moved boxes, filled up to 1024 columns. -/
theorem read_padded (b : Vec Ideal S2x4x1000 .f32) (h : V (Proc.devRef .tc main_v171) = b) (z : V (Proc.devRef .tc main_c_35) = constantI S_ 32 0#32) :
    after hostOps1_27 V (Proc.devRef .tc main_v172)
      = pad S2x4x1024 ![0, 0, 0] ![0, 0, 24] ![0, 0, 0] b zeroFill pads_S2x4x1000_S2x4x1024_000_000_0240 h_S_ := by
  simp only [hostOps1_27, TRef.unary, TRef.binary, TRef.nullary, TRef.ternary, TRef.toBuf, TRef.ofBuf, cast_eq]
  after_results_simp
  simp only [h, z] <;> rfl

/-- The word the scores are filled up with. -/
theorem read_filler : after hostOps1_28 V (Proc.devRef .tc main_c_36) = constantI S_ 32 0#32 := by
  after_results_simp

/-- The scores, filled up to 1024. -/
theorem read_padded_scores (b : Vec Ideal S2x1000 .f32) (h : V (Proc.devRef .tc main_v164) = b) (z : V (Proc.devRef .tc main_c_36) = constantI S_ 32 0#32) :
    after hostOps1_29 V (Proc.devRef .tc main_v173)
      = pad S2x1024 ![0, 0] ![0, 24] ![0, 0] b zeroFill pads_S2x1000_S2x1024_000_0240 h_S_ := by
  simp only [hostOps1_29, TRef.unary, TRef.binary, TRef.nullary, TRef.ternary, TRef.toBuf, TRef.ofBuf, cast_eq]
  after_results_simp
  simp only [h, z] <;> rfl

/-- The filled-up scores with the axis the kernel's blocks have. -/
theorem read_score_rows (b : Vec Ideal S2x1024 .f32) (h : V (Proc.devRef .tc main_v173) = b) :
    after hostOps1_30 V (Proc.devRef .tc main_v174) = broadcastInDim S2x1x1024 ![0, 2] bcast_S2x1024_S2x1x1024_0_2 b := by
  after_results_simp
  simp only [h] <;> rfl

end Cert.Nms

end
-- ==== Proof.Back.lean ====
/- The kernel's arrays between the ranked candidates and the second grid: the reference's boxes, labels and kept scores. -/
module

public import proofs.«01_k».proof.Proof.Front
public import proofs.«01_k».proof.Proof.Boxes

@[expose] public section

noncomputable section

namespace Cert.Nms

open Idealize.ShloMosaic Idealize.ShloMosaic.StableHlo Cert.KernelIdeal Cert.KernelIdeal.Gen

variable (m : (ℓ : Loc nD τ sig) → Buf (Elt Ideal) ℓ) (ρ : Dev nD → PrngReg) (c : Dev nD)
  (h : ∀ i, Cert.Pre_clear_cut.fn (F := Ideal) (a0 m c) (a1 m c) (a2 m c) (a3 m c) i = 1#1)
include h

/-- The rank's anchor. -/
theorem w12_anchor : W12 m ρ c (Proc.devRef .tc main_v41) = Cert.ReferenceIdeal.Read.val_main_v30 (F := Ideal) (a0 m c) (a2 m c) :=
  read_anchor _ _ _ (read_eighty (W10 m ρ c)) ((W11_of m ρ c main_v40 (by decide)).trans (w10_indices m ρ c h))

/-- The rank's class. -/
theorem w14_class : W14 m ρ c (Proc.devRef .tc main_v42) = Cert.ReferenceIdeal.Read.val_main_v31 (F := Ideal) (a0 m c) (a2 m c) :=
  read_class _ _ _ (read_eighty' (W12 m ρ c)) (
    (W13_of m ρ c main_v40 (by decide)).trans <| (W12_of m ρ c main_v40 (by decide)).trans <| (W11_of m ρ c main_v40 (by decide)).trans <| w10_indices m ρ c h)

/-- The labels. -/
theorem w15_label : W15 m ρ c (Proc.devRef .tc main_v44) = Cert.ReferenceIdeal.Read.val_main_v33 (F := Ideal) (a0 m c) (a2 m c) :=
  read_label _ _ _ (w14_class m ρ c h)

omit h in
/-- The regression's array. -/
theorem w15_regression : W15 m ρ c (Proc.devRef .tc main_v47) = Cert.ReferenceIdeal.Read.val_main_v2 (F := Ideal) (a1 m c) :=
  read_regression _ _ (W14_args m ρ c main_arg1 (by decide))

/-- The kernel's row numbers for the regression are the reference's. -/
theorem w15_row : W15 m ρ c (Proc.devRef .tc main_v48) = Cert.ReferenceIdeal.Read.val_main_v34 (F := Ideal) (a0 m c) (a2 m c) :=
  read_row _ _ _ (
    (W14_of m ρ c main_v41 (by decide)).trans <| (W13_of m ρ c main_v41 (by decide)).trans <| w12_anchor m ρ c h)

/-- The offsets at the ranks. -/
theorem w16_offsets : W16 m ρ c (Proc.devRef .tc main_v49) = Cert.ReferenceIdeal.Read.val_main_v35 (F := Ideal) (a0 m c) (a1 m c) (a2 m c) :=
  read_offsets _ _ _ _ (w15_regression m ρ c) (w15_row m ρ c h)

/-- The kernel's row numbers for the anchors are the reference's. -/
theorem w17_row : W17 m ρ c (Proc.devRef .tc main_v50) = Cert.ReferenceIdeal.Read.val_main_v36 (F := Ideal) (a0 m c) (a2 m c) :=
  read_row' _ _ _ (
    (W16_of m ρ c main_v41 (by decide)).trans <| (W15_of m ρ c main_v41 (by decide)).trans <| (W14_of m ρ c main_v41 (by decide)).trans <|
    (W13_of m ρ c main_v41 (by decide)).trans <| w12_anchor m ρ c h)

/-- The anchors at the ranks. -/
theorem w18_anchors : W18 m ρ c (Proc.devRef .tc main_v51) = Cert.ReferenceIdeal.Read.val_main_v37 (F := Ideal) (a0 m c) (a2 m c) (a3 m c) :=
  read_anchors _ _ _ _ (W17_args m ρ c main_arg3 (by decide)) (w17_row m ρ c h)

/-- The decoded boxes. -/
theorem w19_boxes : W19 m ρ c (Proc.devRef .tc main_v124) = Cert.ReferenceIdeal.Read.val_main_v110 (F := Ideal) (a0 m c) (a1 m c) (a2 m c) (a3 m c) :=
  read_boxes _ _ _ _ _ (
    (W18_of m ρ c main_v49 (by decide)).trans <| (W17_of m ρ c main_v49 (by decide)).trans <| w16_offsets m ρ c h) (w18_anchors m ρ c h)

/-- The kernel's first clipped edge is the reference's. -/
theorem w20_first : W20 m ρ c (Proc.devRef .tc main_v127) = Cert.ReferenceIdeal.Read.val_main_v113 (F := Ideal) (a0 m c) (a1 m c) (a2 m c) (a3 m c) :=
  read_first_clip _ _ _ _ _ (read_first _ _ _ _ _ (w19_boxes m ρ c h)) (read_first_bounds (W18 m ρ c)).1 (read_first_bounds (W18 m ρ c)).2

/-- The kernel's decoded boxes are the reference's. -/
theorem w20_boxes : W20 m ρ c (Proc.devRef .tc main_v124) = Cert.ReferenceIdeal.Read.val_main_v110 (F := Ideal) (a0 m c) (a1 m c) (a2 m c) (a3 m c) :=
  (W20_of m ρ c main_v124 (by decide)).trans <| w19_boxes m ρ c h

/-- The kernel's second clipped edge is the reference's. -/
theorem w22_second : W22 m ρ c (Proc.devRef .tc main_v130) = Cert.ReferenceIdeal.Read.val_main_v116 (F := Ideal) (a0 m c) (a1 m c) (a2 m c) (a3 m c) :=
  read_second_clip _ _ _ _ _ (read_second _ _ _ _ _ (w20_boxes m ρ c h)).1 (read_second _ _ _ _ _ (w20_boxes m ρ c h)).2.1
    (read_second _ _ _ _ _ (w20_boxes m ρ c h)).2.2

/-- The decoded boxes are still there after the second edge. -/
theorem w22_boxes : W22 m ρ c (Proc.devRef .tc main_v124) = Cert.ReferenceIdeal.Read.val_main_v110 (F := Ideal) (a0 m c) (a1 m c) (a2 m c) (a3 m c) :=
  (W22_of m ρ c main_v124 (by decide)).trans <| (W21_of m ρ c main_v124 (by decide)).trans <| w20_boxes m ρ c h

/-- The kernel's third clipped edge is the reference's. -/
theorem w24_third : W24 m ρ c (Proc.devRef .tc main_v133) = Cert.ReferenceIdeal.Read.val_main_v119 (F := Ideal) (a0 m c) (a1 m c) (a2 m c) (a3 m c) :=
  read_third_clip _ _ _ _ _ (read_third _ _ _ _ _ (w22_boxes m ρ c h)).1 (read_third _ _ _ _ _ (w22_boxes m ρ c h)).2.1
    (read_third _ _ _ _ _ (w22_boxes m ρ c h)).2.2

/-- The decoded boxes are still there after the third edge. -/
theorem w24_boxes : W24 m ρ c (Proc.devRef .tc main_v124) = Cert.ReferenceIdeal.Read.val_main_v110 (F := Ideal) (a0 m c) (a1 m c) (a2 m c) (a3 m c) :=
  (W24_of m ρ c main_v124 (by decide)).trans <| (W23_of m ρ c main_v124 (by decide)).trans <| w22_boxes m ρ c h

/-- The kernel's fourth clipped edge is the reference's. -/
theorem w26_fourth : W26 m ρ c (Proc.devRef .tc main_v136) = Cert.ReferenceIdeal.Read.val_main_v122 (F := Ideal) (a0 m c) (a1 m c) (a2 m c) (a3 m c) :=
  read_fourth_clip _ _ _ _ _ (read_fourth _ _ _ _ _ (w24_boxes m ρ c h)).1 (read_fourth _ _ _ _ _ (w24_boxes m ρ c h)).2.1
    (read_fourth _ _ _ _ _ (w24_boxes m ρ c h)).2.2

/-- The clipped boxes. -/
theorem w27_clipped : W27 m ρ c (Proc.devRef .tc main_v141) = Cert.ReferenceIdeal.Read.val_main_v127 (F := Ideal) (a0 m c) (a1 m c) (a2 m c) (a3 m c) :=
  read_clipped _ _ _ _ _ (
    (W26_of m ρ c main_v127 (by decide)).trans <| (W25_of m ρ c main_v127 (by decide)).trans <| (W24_of m ρ c main_v127 (by decide)).trans <|
    (W23_of m ρ c main_v127 (by decide)).trans <| (W22_of m ρ c main_v127 (by decide)).trans <| (W21_of m ρ c main_v127 (by decide)).trans <| w20_first m ρ c h) (
    (W26_of m ρ c main_v130 (by decide)).trans <| (W25_of m ρ c main_v130 (by decide)).trans <| (W24_of m ρ c main_v130 (by decide)).trans <|
    (W23_of m ρ c main_v130 (by decide)).trans <| w22_second m ρ c h) (
    (W26_of m ρ c main_v133 (by decide)).trans <| (W25_of m ρ c main_v133 (by decide)).trans <| w24_third m ρ c h)
    (w26_fourth m ρ c h)

/-- The best thousand scores are still there, and are the reference's. -/
theorem w26_values : W26 m ρ c (Proc.devRef .tc main_values) = Cert.ReferenceIdeal.Read.val_main_values (F := Ideal) (a0 m c) (a2 m c) :=
  (W26_of m ρ c main_values (by decide)).trans <| (W25_of m ρ c main_values (by decide)).trans <| (W24_of m ρ c main_values (by decide)).trans <|
    (W23_of m ρ c main_values (by decide)).trans <| (W22_of m ρ c main_values (by decide)).trans <| (W21_of m ρ c main_values (by decide)).trans <|
    (W20_of m ρ c main_values (by decide)).trans <| (W19_of m ρ c main_values (by decide)).trans <| (W18_of m ρ c main_values (by decide)).trans <|
    (W17_of m ρ c main_values (by decide)).trans <| (W16_of m ρ c main_values (by decide)).trans <| (W15_of m ρ c main_values (by decide)).trans <|
    (W14_of m ρ c main_values (by decide)).trans <| (W13_of m ρ c main_values (by decide)).trans <| (W12_of m ρ c main_values (by decide)).trans <|
    (W11_of m ρ c main_values (by decide)).trans <| w10_values m ρ c h

/-- Which of them are kept. -/
theorem w27_keep : W27 m ρ c (Proc.devRef .tc main_v163) = Cert.ReferenceIdeal.Read.val_main_v149 (F := Ideal) (a0 m c) (a1 m c) (a2 m c) (a3 m c) :=
  read_keep _ _ _ _ _ (w27_clipped m ρ c h) (w26_values m ρ c h)

/-- The kept scores. -/
theorem w28_kept : W28 m ρ c (Proc.devRef .tc main_v164) = Cert.ReferenceIdeal.Read.val_main_v150 (F := Ideal) (a0 m c) (a1 m c) (a2 m c) (a3 m c) :=
  read_kept _ _ _ _ _ (w27_keep m ρ c h) ((W27_of m ρ c main_values (by decide)).trans (w26_values m ρ c h)) (read_dropped (W26 m ρ c))

/-- The labels are still there, and are the reference's. -/
theorem w28_label : W28 m ρ c (Proc.devRef .tc main_v44) = Cert.ReferenceIdeal.Read.val_main_v33 (F := Ideal) (a0 m c) (a2 m c) :=
  (W28_of m ρ c main_v44 (by decide)).trans <| (W27_of m ρ c main_v44 (by decide)).trans <| (W26_of m ρ c main_v44 (by decide)).trans <|
    (W25_of m ρ c main_v44 (by decide)).trans <| (W24_of m ρ c main_v44 (by decide)).trans <| (W23_of m ρ c main_v44 (by decide)).trans <|
    (W22_of m ρ c main_v44 (by decide)).trans <| (W21_of m ρ c main_v44 (by decide)).trans <| (W20_of m ρ c main_v44 (by decide)).trans <|
    (W19_of m ρ c main_v44 (by decide)).trans <| (W18_of m ρ c main_v44 (by decide)).trans <| (W17_of m ρ c main_v44 (by decide)).trans <|
    (W16_of m ρ c main_v44 (by decide)).trans <| w15_label m ρ c h

/-- The kernel's clipped boxes are the reference's. -/
theorem w28_clipped : W28 m ρ c (Proc.devRef .tc main_v141) = Cert.ReferenceIdeal.Read.val_main_v127 (F := Ideal) (a0 m c) (a1 m c) (a2 m c) (a3 m c) :=
  (W28_of m ρ c main_v141 (by decide)).trans <| w27_clipped m ρ c h

/-- The boxes moved apart by their labels, coordinates first. -/
def movedArr : FVec Ideal S2x4x1000 .f32 := transpose S2x4x1000 [0, 2, 1] (Cert.ReferenceIdeal.Read.val_main_v156 (F := Ideal) (a0 m c) (a1 m c) (a2 m c) (a3 m c)) transposes_S2x1000x4_S2x4x1000_0_2_1

/-- The moved boxes, filled up. -/
theorem w30_moved : W30 m ρ c (Proc.devRef .tc main_v172) = pad S2x4x1024 ![0, 0, 0] ![0, 0, 24] ![0, 0, 0] (movedArr m c) zeroFill pads_S2x4x1000_S2x4x1024_000_000_0240 h_S_ :=
  read_padded _ _ (read_moved _ _ _ _ _ (w28_clipped m ρ c h) (w28_label m ρ c h)).1 (read_moved _ _ _ _ _ (w28_clipped m ρ c h) (w28_label m ρ c h)).2

/-- The kept scores, filled up. -/
theorem w32_scores : W32 m ρ c (Proc.devRef .tc main_v173) = pad S2x1024 ![0, 0] ![0, 24] ![0, 0] (Cert.ReferenceIdeal.Read.val_main_v150 (F := Ideal) (a0 m c) (a1 m c) (a2 m c) (a3 m c)) zeroFill pads_S2x1000_S2x1024_000_0240 h_S_ :=
  read_padded_scores _ _ (
    (W31_of m ρ c main_v164 (by decide)).trans <| (W30_of m ρ c main_v164 (by decide)).trans <| (W29_of m ρ c main_v164 (by decide)).trans <| w28_kept m ρ c h) (read_filler (W30 m ρ c))

/-- The second region's boxes are the moved boxes, filled up with zeros to 1024. -/
theorem w33_moved : W33 m ρ c (Proc.devRef .tc main_v172) = pad S2x4x1024 ![0, 0, 0] ![0, 0, 24] ![0, 0, 0] (movedArr m c) zeroFill pads_S2x4x1000_S2x4x1024_000_000_0240 h_S_ :=
  (W33_of m ρ c main_v172 (by decide)).trans <| (W32_of m ρ c main_v172 (by decide)).trans <| (W31_of m ρ c main_v172 (by decide)).trans <| w30_moved m ρ c h

/-- The second region's scores are the reference's, filled up with zeros to 1024. -/
theorem w33_scores : W33 m ρ c (Proc.devRef .tc main_v174) = broadcastInDim S2x1x1024 ![0, 2] bcast_S2x1024_S2x1x1024_0_2
      (pad S2x1024 ![0, 0] ![0, 24] ![0, 0] (Cert.ReferenceIdeal.Read.val_main_v150 (F := Ideal) (a0 m c) (a1 m c) (a2 m c) (a3 m c)) zeroFill pads_S2x1000_S2x1024_000_0240 h_S_) :=
  read_score_rows _ _ (w32_scores m ρ c h)

/-- After the second region the labels are the reference's. -/
theorem w34_label : W34 m ρ c (Proc.devRef .tc main_v44) = Cert.ReferenceIdeal.Read.val_main_v33 (F := Ideal) (a0 m c) (a2 m c) :=
  (W34_of m ρ c main_v44 (by decide)).trans <| (W33_of m ρ c main_v44 (by decide)).trans <| (W32_of m ρ c main_v44 (by decide)).trans <|
    (W31_of m ρ c main_v44 (by decide)).trans <| (W30_of m ρ c main_v44 (by decide)).trans <| (W29_of m ρ c main_v44 (by decide)).trans <| w28_label m ρ c h

/-- After the second region the clipped boxes are the reference's. -/
theorem w34_clipped : W34 m ρ c (Proc.devRef .tc main_v141) = Cert.ReferenceIdeal.Read.val_main_v127 (F := Ideal) (a0 m c) (a1 m c) (a2 m c) (a3 m c) :=
  (W34_of m ρ c main_v141 (by decide)).trans <| (W33_of m ρ c main_v141 (by decide)).trans <| (W32_of m ρ c main_v141 (by decide)).trans <|
    (W31_of m ρ c main_v141 (by decide)).trans <| (W30_of m ρ c main_v141 (by decide)).trans <| (W29_of m ρ c main_v141 (by decide)).trans <| w28_clipped m ρ c h

end Cert.Nms

end
-- ==== Proof.Kept.lean ====
/- The scores the kernel's suppression leaves are the reference's. -/
module

public import proofs.«01_k».proof.Proof.RefKept
public import proofs.«01_k».proof.Proof.Back
public import Idealize.ShloMosaic.Lib.KernelVsHost

@[expose] public section

noncomputable section

namespace Cert.Nms

open Idealize.ShloMosaic Idealize.ShloMosaic.StableHlo Cert.KernelIdeal Cert.KernelIdeal.Gen Cert.ReferenceIdeal.Read

/-- Box `j` of 1000, among the 1024. -/
def among (j : Fin 1000) : Fin 1024 := ⟨j.val, by omega⟩

/-- If the conjunction of two bits is set, so is the first. -/
theorem andi_left {a c : BitVec 1} (h : IntOp.andi a c = 1#1) : a = 1#1 := by
  revert h; revert a c; decide

/-- Boxes added with score zero suppress nothing. -/
theorem keptAt_among (p1 p3 p5 p7 s : Fin 1024 → Ideal .f32) (q1 q3 q5 q7 t : Fin 1000 → Ideal .f32) (h1 : ∀ j, p1 (among j) = q1 j)
    (h3 : ∀ j, p3 (among j) = q3 j) (h5 : ∀ j, p5 (among j) = q5 j) (h7 : ∀ j, p7 (among j) = q7 j) (hs : ∀ j, s (among j) = t j)
    (hz : ∀ j : Fin 1024, 1000 ≤ j.val → s j = (0 : EReal)) (k : Fin 1000) (hn : ¬ t k < (0 : EReal)) :
    keptAt p1 p3 p5 p7 s (among k) = keptAt q1 q3 q5 q7 t k := by
  unfold keptAt
  rw [h1, h3, h5, h7, hs]
  refine select_cond (congrArg BitVec.ofBool (decide_eq_decide.mpr ⟨?_, ?_⟩)) _ _
  · rintro ⟨j, hj⟩
    by_cases hlt : j.val < 1000
    · refine ⟨⟨j.val, hlt⟩, ?_⟩
      have e : j = among ⟨j.val, hlt⟩ := rfl
      rw [e, h1, h3, h5, h7, hs] at hj
      exact hj
    · exfalso
      have hgt := andi_left hj
      rw [hz j (by omega)] at hgt
      exact hn (decide_eq_true_iff.1 ((Predicate.ofBool_eq_one_iff _).1 hgt))
  · rintro ⟨j, hj⟩
    refine ⟨among j, ?_⟩
    rw [h1, h3, h5, h7, hs]
    exact hj

/-- The filling is zero. -/
theorem zeroFill_apply (i : S_.Idx) : zeroFill i = (0 : EReal) := by
  show FloatOps.sitofp (F := Ideal) .f32 (0#32 : BitVec 32) = (0 : EReal)
  simp [FloatOps.sitofp]

/-- The filled-up boxes hold the boxes at the first thousand places. -/
theorem pad_boxes_inside (x : FVec Ideal S2x4x1000 .f32) (b : Fin 2) (w : Fin 4) (j : Fin 1000) :
    pad S2x4x1024 ![0, 0, 0] ![0, 0, 24] ![0, 0, 0] x zeroFill pads_S2x4x1000_S2x4x1024_000_000_0240 h_S_ (ValueIdx.ix3 b w (among j))
      = x (ValueIdx.ix3 b w j) :=
  pad_apply_of_inside _ _ _ _ _ _ _ _ (ValueIdx.ix3 b w j) fun a => match a with
    | ⟨0, _⟩ => ((Nat.zero_add _).trans (Nat.mul_one _)).symm
    | ⟨1, _⟩ => ((Nat.zero_add _).trans (Nat.mul_one _)).symm
    | ⟨2, _⟩ => ((Nat.zero_add _).trans (Nat.mul_one _)).symm

/-- The filled-up scores hold the scores at the first thousand places. -/
theorem pad_scores_inside (x : FVec Ideal S2x1000 .f32) (b : Fin 2) (j : Fin 1000) :
    pad S2x1024 ![0, 0] ![0, 24] ![0, 0] x zeroFill pads_S2x1000_S2x1024_000_0240 h_S_ (ValueIdx.ix2 b (among j)) = x (ValueIdx.ix2 b j) :=
  pad_apply_of_inside _ _ _ _ _ _ _ _ (ValueIdx.ix2 b j) fun a => match a with
    | ⟨0, _⟩ => ((Nat.zero_add _).trans (Nat.mul_one _)).symm
    | ⟨1, _⟩ => ((Nat.zero_add _).trans (Nat.mul_one _)).symm

/-- A place from a thousand on is in the filling. -/
theorem not_inside {j : ℕ} (h : 1000 ≤ j) : ¬ (0 ≤ j ∧ (j - 0) % (0 + 1) = 0 ∧ (j - 0) / (0 + 1) < 1000) := by omega

/-- The filled-up scores are zero from place a thousand on. -/
theorem pad_scores_outside (x : FVec Ideal S2x1000 .f32) (b : Fin 2) (j : Fin 1024) (hj : 1000 ≤ j.val) :
    pad S2x1024 ![0, 0] ![0, 24] ![0, 0] x zeroFill pads_S2x1000_S2x1024_000_0240 h_S_ (ValueIdx.ix2 b j) = (0 : EReal) :=
  (pad_apply_of_not_inside _ _ _ _ _ _ _ (ValueIdx.ix2 b j) 1 (not_inside hj)).trans (zeroFill_apply _)

/-- A row of scores with an axis of one put in. -/
theorem score_row_apply (x : FVec Ideal S2x1024 .f32) (b : Fin 2) (j : Fin 1024) :
    broadcastInDim S2x1x1024 ![0, 2] bcast_S2x1024_S2x1x1024_0_2 x (ValueIdx.ix3 b 0 j) = x (ValueIdx.ix2 b j) :=
  broadcastInDim_apply _ _ _ _ (ValueIdx.ix2 b j) (by intro a; match a with | ⟨0, _⟩ => rfl | ⟨1, _⟩ => rfl)

variable (m : (ℓ : Loc nD τ sig) → Buf (Elt Ideal) ℓ) (ρ : Dev nD → PrngReg) (c : Dev nD)

/-- The moved boxes are the reference's corners, transposed. -/
theorem movedArr_apply (b : Fin 2) (w : Fin 4) (j : Fin 1000) :
    movedArr m c (ValueIdx.ix3 b w j) = corner (a0 m c) (a1 m c) (a2 m c) (a3 m c) b w j := by
  unfold movedArr corner
  generalize val_main_v156 (F := Ideal) (a0 m c) (a1 m c) (a2 m c) (a3 m c) = x
  exact transpose_apply _ x _ _ (ValueIdx.ix3 b j w) (fun a => match a with | ⟨0, _⟩ => rfl | ⟨1, _⟩ => rfl | ⟨2, _⟩ => rfl)

attribute [local irreducible] movedArr out1_2 zeroFill

/-- The filled boxes and scores of the reference. -/
def boxRows : FVec Ideal S2x4x1024 .f32 := pad S2x4x1024 ![0, 0, 0] ![0, 0, 24] ![0, 0, 0] (movedArr m c) zeroFill pads_S2x4x1000_S2x4x1024_000_000_0240 h_S_
/-- The second region's scores. -/
def scoreRows : FVec Ideal S2x1x1024 .f32 := broadcastInDim S2x1x1024 ![0, 2] bcast_S2x1024_S2x1x1024_0_2
      (pad S2x1024 ![0, 0] ![0, 24] ![0, 0] (val_main_v150 (F := Ideal) (a0 m c) (a1 m c) (a2 m c) (a3 m c)) zeroFill pads_S2x1000_S2x1024_000_0240 h_S_)

/-- The second region's boxes hold the reference's corners. -/
theorem boxRows_apply (b : Fin 2) (w : Fin 4) (j : Fin 1000) :
    image3 (boxRows m c) b (ValueIdx.ix3 0 w (among j)) = corner (a0 m c) (a1 m c) (a2 m c) (a3 m c) b w j :=
  (pad_boxes_inside (movedArr m c) b w j).trans (movedArr_apply m c b w j)

/-- The second region's scores hold the reference's scores. -/
theorem scoreRows_apply (b : Fin 2) (j : Fin 1000) :
    image3 (scoreRows m c) b (ValueIdx.ix3 0 0 (among j)) = scoreAt (a0 m c) (a1 m c) (a2 m c) (a3 m c) b j :=
  (score_row_apply _ b (among j)).trans (pad_scores_inside _ b j)

/-- The second region's scores are zero in the filling. -/
theorem scoreRows_zero (b : Fin 2) (j : Fin 1024) (hj : 1000 ≤ j.val) : image3 (scoreRows m c) b (ValueIdx.ix3 0 0 j) = (0 : EReal) :=
  (score_row_apply _ b j).trans (pad_scores_outside _ b j hj)

/-- Image by image, the kernel's kept scores are the reference's. -/
theorem kept_eq (b : Fin 2) (k : Fin 1000) :
    keptImage (boxRows m c) (scoreRows m c) b (ValueIdx.ix3 0 0 (among k))
      = val_main_v217 (F := Ideal) (a0 m c) (a1 m c) (a2 m c) (a3 m c) (ValueIdx.ix2 b k) := by
  refine (out1_2_apply _ _ _).trans (Eq.trans ?_ (ref_kept _ _ _ _ b k).symm)
  exact keptAt_among _ _ _ _ _ _ _ _ _ _ (boxRows_apply m c b 0) (boxRows_apply m c b 1) (boxRows_apply m c b 2) (boxRows_apply m c b 3)
    (scoreRows_apply m c b) (scoreRows_zero m c b) k (score_nonneg _ _ _ _ b k)

variable (h : ∀ i, Cert.Pre_clear_cut.fn (F := Ideal) (a0 m c) (a1 m c) (a2 m c) (a3 m c) i = 1#1)

include h in
/-- The suppression kernel's output array. -/
theorem w34_out : W34 m ρ c (Proc.devRef .tc main_v175) = images3 (keptImage (boxRows m c) (scoreRows m c)) := by
  refine (W34_arr m ρ c 2).trans ((final1_2 (V33 m ρ) c).trans ?_)
  have e1 : V33 m ρ c main_v172 = boxRows m c := w33_moved m ρ c h
  have e2 : V33 m ρ c main_v174 = scoreRows m c := w33_scores m ρ c h
  rw [e1, e2]

/-- Its first 1000 entries an image. -/
theorem first_thousand (x : FVec Ideal S2x1x1024 .f32) (b : Fin 2) (k : Fin 1000) :
    shapeCast S2x1000 (extractStridedSlice S2x1x1000 ![0, 0, 0] x slices_S2x1x1024_S2x1x1000_0_0_0) shapeCasts_S2x1x1000_S2x1000 (ValueIdx.ix2 b k)
      = x (ValueIdx.ix3 b 0 (among k)) := by
  refine (shapeCast_apply _ _ _ (ValueIdx.ix3 b 0 k : S2x1x1000.Idx) ?_).trans ?_
  · rw [Shape.rowMajor_val_two, Shape.rowMajor_val_three]; show (b.val * 1 + 0) * 1000 + k.val = b.val * 1000 + k.val; omega
  · exact extractStridedSlice_apply _ _ _ _ _ fun a => match a with
      | ⟨0, _⟩ => (Nat.zero_add _).symm
      | ⟨1, _⟩ => (Nat.zero_add _).symm
      | ⟨2, _⟩ => (Nat.zero_add _).symm

/-- The first thousand of the second region's kept scores are the reference's. -/
theorem kept_slice : shapeCast S2x1000 (extractStridedSlice S2x1x1000 ![0, 0, 0] (images3 (keptImage (boxRows m c) (scoreRows m c)))
      slices_S2x1x1024_S2x1x1000_0_0_0) shapeCasts_S2x1x1000_S2x1000
    = val_main_v217 (F := Ideal) (a0 m c) (a1 m c) (a2 m c) (a3 m c) := by
  funext i
  have e : i = ValueIdx.ix2 (i 0) (i 1) := at2 i (i 0) (i 1) rfl rfl
  rw [e]
  exact (first_thousand _ (i 0) (i 1)).trans (kept_eq m c (i 0) (i 1))

end Cert.Nms
-- ==== Proof.Tail.lean ====
/- The kernel's last host operations: the hundred best of the kept scores, their boxes and labels, as in the reference. -/
module

public import proofs.«01_k».proof.Proof.Kept

@[expose] public section

noncomputable section

namespace Cert.Nms

open Idealize.ShloMosaic Idealize.ShloMosaic.StableHlo Cert.KernelIdeal Cert.KernelIdeal.Gen Cert.ReferenceIdeal.Read

section Reads

variable (V : Valuation τ sig (Elt Ideal)) (x0 : Vec Ideal S2x720x64x64 .f32) (x1 : Vec Ideal S2x36x64x64 .f32)
  (x2 : Vec Ideal S2x9x64x64 .f32) (x3 : Vec Ideal S2x36864x4 .f32)

/-- The scores the best hundred are taken from. -/
def slicedOf (y : FVec Ideal S2x1x1024 .f32) : FVec Ideal S2x1000 .f32 :=
  shapeCast S2x1000 (extractStridedSlice S2x1x1000 ![0, 0, 0] y slices_S2x1x1024_S2x1x1000_0_0_0) shapeCasts_S2x1x1000_S2x1000

/-- With the second region's output known, so are the scores the best hundred are taken from. -/
theorem sliced_of_kept (y : FVec Ideal S2x1x1024 .f32) (h : slicedOf y = val_main_v217 (F := Ideal) x0 x1 x2 x3)
    (e : V (Proc.devRef .tc main_v175) = y) : slicedOf (V (Proc.devRef .tc main_v175)) = val_main_v217 (F := Ideal) x0 x1 x2 x3 := by
  rw [e, h]

/-- The best hundred scores depend on the scores alone. -/
theorem best_scores (y z : FVec Ideal S2x1000 .f32) (e : y = z) :
    (Host.topK S2x100 1 (FloatOps.cmpfTotal .gt) y sliceFits_S2x1000_S2x100).1
      = (Host.topK S2x100 1 (FloatOps.cmpfTotal .gt) z sliceFits_S2x1000_S2x100).1 := by rw [e]

/-- So do their places. -/
theorem best_places (y z : FVec Ideal S2x1000 .f32) (e : y = z) :
    (Host.topK S2x100 1 (FloatOps.cmpfTotal .gt) y sliceFits_S2x1000_S2x100).2
      = (Host.topK S2x100 1 (FloatOps.cmpfTotal .gt) z sliceFits_S2x1000_S2x100).2 := by rw [e]

attribute [local irreducible] val_main_v217 val_main_v127 val_main_v33 Host.topK

/-- The best hundred scores and their places. -/
theorem read_best (h : slicedOf (V (Proc.devRef .tc main_v175)) = val_main_v217 (F := Ideal) x0 x1 x2 x3) :
    after hostOps2 V (Proc.devRef .tc main_values_37) = val_main_values_48 (F := Ideal) x0 x1 x2 x3
    ∧ after hostOps2 V (Proc.devRef .tc main_indices_38) = val_main_indices_49 (F := Ideal) x0 x1 x2 x3
    ∧ after hostOps2 V (Proc.devRef .tc main_v178) = val_main_v218 (F := Ideal) x0 x1 x2 x3 := by
  refine ⟨?_, ?_, ?_⟩ <;> after_results_simp
  · exact (best_scores (slicedOf (V (Proc.devRef .tc main_v175))) _ h).trans rfl
  · exact (best_places (slicedOf (V (Proc.devRef .tc main_v175))) _ h).trans rfl
  · exact congrArg (broadcastInDim S2x100x1 ![0, 1] bcast_S2x100_S2x100x1_0_1)
      ((best_places (slicedOf (V (Proc.devRef .tc main_v175))) _ h).trans rfl)

/-- Their boxes. -/
theorem read_best_boxes (hp : V (Proc.devRef .tc main_v178) = val_main_v218 (F := Ideal) x0 x1 x2 x3)
    (hb : V (Proc.devRef .tc main_v141) = val_main_v127 (F := Ideal) x0 x1 x2 x3) :
    after hostOps2_1 V (Proc.devRef .tc main_v179) = val_main_v219 (F := Ideal) x0 x1 x2 x3 := by
  simp only [hostOps2_1, TRef.unary, TRef.binary, TRef.nullary, TRef.ternary, TRef.reshape, TRef.toBuf, TRef.ofBuf, cast_eq]
  after_results_simp
  simp only [hp, hb] <;> rfl

/-- Their labels. -/
theorem read_best_labels (hp : V (Proc.devRef .tc main_indices_38) = val_main_indices_49 (F := Ideal) x0 x1 x2 x3)
    (hl : V (Proc.devRef .tc main_v44) = val_main_v33 (F := Ideal) x0 x2) :
    after hostOps2_2 V (Proc.devRef .tc main_v180) = val_main_v220 (F := Ideal) x0 x1 x2 x3 := by
  simp only [hostOps2_2, TRef.unary, TRef.binary, TRef.nullary, TRef.ternary, TRef.reshape, TRef.toBuf, TRef.ofBuf, cast_eq]
  after_results_simp
  simp only [hp, hl] <;> rfl

/-- Boxes, scores and labels side by side depend on the three alone. -/
theorem three_columns {u0 w0 : Vec Ideal S2x100x4 .f32} {u1 w1 u2 w2 : Vec Ideal S2x100x1 .f32} (h0 : u0 = w0) (h1 : u1 = w1) (h2 : u2 = w2) :
    concatenate S2x100x6 2 [⟨S2x100x4, u0⟩, ⟨S2x100x1, u1⟩, ⟨S2x100x1, u2⟩] concatenates_S2x100x4_S2x100x1_S2x100x1_S2x100x6_d2
      = concatenate S2x100x6 2 [⟨S2x100x4, w0⟩, ⟨S2x100x1, w1⟩, ⟨S2x100x1, w2⟩] concatenates_S2x100x4_S2x100x1_S2x100x1_S2x100x6_d2 := by
  subst h0 h1 h2; rfl

/-- The result. -/
theorem read_result (hb : V (Proc.devRef .tc main_v179) = val_main_v219 (F := Ideal) x0 x1 x2 x3)
    (hs : V (Proc.devRef .tc main_values_37) = val_main_values_48 (F := Ideal) x0 x1 x2 x3)
    (hl : V (Proc.devRef .tc main_v180) = val_main_v220 (F := Ideal) x0 x1 x2 x3) :
    after hostOps2_3 V (Proc.devRef .tc main_v184) = val_main_v224 (F := Ideal) x0 x1 x2 x3 := by
  after_results_simp
  refine (three_columns (w0 := val_main_v219 (F := Ideal) x0 x1 x2 x3) (w1 := val_main_v221 (F := Ideal) x0 x1 x2 x3)
    (w2 := val_main_v223 (F := Ideal) x0 x1 x2 x3) ?_ ?_ ?_).trans rfl <;>
  (dsimp only [Matrix.cons_val]; after_results_simp; simp only [hb, hs, hl] <;> rfl)

end Reads

variable (m : (ℓ : Loc nD τ sig) → Buf (Elt Ideal) ℓ) (ρ : Dev nD → PrngReg) (c : Dev nD)
variable (h : ∀ i, Cert.Pre_clear_cut.fn (F := Ideal) (a0 m c) (a1 m c) (a2 m c) (a3 m c) i = 1#1)
include h

/-- In the kernel's run the best hundred scores and their places are the reference's. -/
theorem w35_best : W35 m ρ c (Proc.devRef .tc main_values_37) = val_main_values_48 (F := Ideal) (a0 m c) (a1 m c) (a2 m c) (a3 m c)
    ∧ W35 m ρ c (Proc.devRef .tc main_indices_38) = val_main_indices_49 (F := Ideal) (a0 m c) (a1 m c) (a2 m c) (a3 m c)
    ∧ W35 m ρ c (Proc.devRef .tc main_v178) = val_main_v218 (F := Ideal) (a0 m c) (a1 m c) (a2 m c) (a3 m c) :=
  read_best (W34 m ρ c) _ _ _ _ (sliced_of_kept _ _ _ _ _ _ (kept_slice m c) (w34_out m ρ c h))

/-- So are their boxes. -/
theorem w36_boxes : W36 m ρ c (Proc.devRef .tc main_v179) = val_main_v219 (F := Ideal) (a0 m c) (a1 m c) (a2 m c) (a3 m c) :=
  read_best_boxes (W35 m ρ c) _ _ _ _ (w35_best m ρ c h).2.2 ((W35_of m ρ c main_v141 (by decide)).trans (w34_clipped m ρ c h))

/-- So are their labels. -/
theorem w37_labels : W37 m ρ c (Proc.devRef .tc main_v180) = val_main_v220 (F := Ideal) (a0 m c) (a1 m c) (a2 m c) (a3 m c) :=
  read_best_labels (W36 m ρ c) _ _ _ _ ((W36_of m ρ c main_indices_38 (by decide)).trans (w35_best m ρ c h).2.1)
    ((W36_of m ρ c main_v44 (by decide)).trans ((W35_of m ρ c main_v44 (by decide)).trans (w34_label m ρ c h)))

/-- The kernel's result is the reference's. -/
theorem w38_result : W38 m ρ c (Proc.devRef .tc main_v184) = val_main_v224 (F := Ideal) (a0 m c) (a1 m c) (a2 m c) (a3 m c) :=
  read_result (W37 m ρ c) _ _ _ _ ((W37_of m ρ c main_v179 (by decide)).trans (w36_boxes m ρ c h))
    ((W37_of m ρ c main_values_37 (by decide)).trans ((W36_of m ρ c main_values_37 (by decide)).trans (w35_best m ρ c h).1))
    (w37_labels m ρ c h)

end Cert.Nms
-- ==== Proof.Agree.lean ====
/- The kernel and the reference, at the ideal instance and from the same arguments, end with equal results. -/
module

public import proofs.«01_k».proof.Defs
public import proofs.«01_k».proof.Proof.Run
public import proofs.«01_k».proof.Proof.Tail
public import proofs.«01_k».proof.Proof.Gen.Pre_clear_cut
public import proofs.«01_k».proof.Proof.Gen.ReferenceIdeal.Run

@[expose] public section

set_option maxRecDepth 16384

noncomputable section

namespace Cert.Nms

open Idealize.ShloMosaic Idealize.SL.Sem Cert.ReferenceIdeal.Read

/-- The reference's run ends with its result at the last of its named values, and its arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v224)
          = val_main_v224 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono
    (fun r h c => ⟨(h c).1.trans (val_main_v224_eq (F := Ideal) (StableHlo.launchContents m c)), (h c).2⟩)
    (Cert.ReferenceIdeal.Value.run (F := Ideal) m ρ)

/-- Where the thousandth best score is clear of the next, the kernel and the reference agree on the whole result. -/
theorem agree : @Cert.algebraic_KernelIdeal_ReferenceIdeal_pre_clear_cut Cert.KernelIdeal.Gen.facts Cert.ReferenceIdeal.Gen.facts
    Cert.Pre_clear_cut.Gen.facts := by
  intro m g m' g' hpre hargs
  refine ⟨fun c => val_main_v224 (F := Ideal) (a0 m c) (a1 m c) (a2 m c) (a3 m c), ?_, ?_⟩
  · refine (θ_run Cert.KernelIdeal.defs _ _).mono (fun r h c => ⟨(h c).1.trans ?_, (h c).2⟩) (kernel_run (F := Ideal) m g)
    exact w38_result m g c (fun i => congrFun (hpre c) i)
  · refine (θ_run Cert.ReferenceIdeal.defs _ _).mono (fun r h c => ⟨(h c).1.trans ?_, (h c).2⟩) (reference_run m' g')
    obtain ⟨e0, e1, e2, e3⟩ := hargs c
    rw [e0, e1, e2, e3]

end Cert.Nms
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_clear_cut
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_clear_cut.Gen.facts, by
  exact ⟨fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, Cert.Nms.agree⟩⟩

end Cert.Proof

end
